-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelPost (m : (ℓ : Loc Cert.KernelPost.nD Cert.KernelPost.τ Cert.KernelPost.sig) → Buf (Elt Bits) ℓ) : Prop :=
  True

def Pre_KernelPostIdeal (m : (ℓ : Loc Cert.KernelPostIdeal.nD Cert.KernelPostIdeal.τ Cert.KernelPostIdeal.sig) → Buf (Elt Ideal) ℓ) : Prop :=
  True

def Pre_ReferencePostIdeal (m : (ℓ : Loc Cert.ReferencePostIdeal.nD Cert.ReferencePostIdeal.τ Cert.ReferencePostIdeal.sig) → Buf (Elt Ideal) ℓ) : Prop :=
  True

def Pre_KernelPrompt (m : (ℓ : Loc Cert.KernelPrompt.nD Cert.KernelPrompt.τ Cert.KernelPrompt.sig) → Buf (Elt Bits) ℓ) : Prop :=
  True

def Pre_KernelPromptIdeal (m : (ℓ : Loc Cert.KernelPromptIdeal.nD Cert.KernelPromptIdeal.τ Cert.KernelPromptIdeal.sig) → Buf (Elt Ideal) ℓ) : Prop :=
  True

def Pre_ReferencePromptIdeal (m : (ℓ : Loc Cert.ReferencePromptIdeal.nD Cert.ReferencePromptIdeal.τ Cert.ReferencePromptIdeal.sig) → Buf (Elt Ideal) ℓ) : Prop :=
  True

def Pre_KernelUpFirst (m : (ℓ : Loc Cert.KernelUpFirst.nD Cert.KernelUpFirst.τ Cert.KernelUpFirst.sig) → Buf (Elt Bits) ℓ) : Prop :=
  True

def Pre_KernelUpFirstIdeal (m : (ℓ : Loc Cert.KernelUpFirstIdeal.nD Cert.KernelUpFirstIdeal.τ Cert.KernelUpFirstIdeal.sig) → Buf (Elt Ideal) ℓ) : Prop :=
  True

def Pre_ReferenceUpFirstIdeal (m : (ℓ : Loc Cert.ReferenceUpFirstIdeal.nD Cert.ReferenceUpFirstIdeal.τ Cert.ReferenceUpFirstIdeal.sig) → Buf (Elt Ideal) ℓ) : Prop :=
  True

def Pre_KernelInFirst (m : (ℓ : Loc Cert.KernelInFirst.nD Cert.KernelInFirst.τ Cert.KernelInFirst.sig) → Buf (Elt Bits) ℓ) : Prop :=
  True

def Pre_KernelInFirstIdeal (m : (ℓ : Loc Cert.KernelInFirstIdeal.nD Cert.KernelInFirstIdeal.τ Cert.KernelInFirstIdeal.sig) → Buf (Elt Ideal) ℓ) : Prop :=
  True

def Pre_ReferenceInFirstIdeal (m : (ℓ : Loc Cert.ReferenceInFirstIdeal.nD Cert.ReferenceInFirstIdeal.τ Cert.ReferenceInFirstIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelNext (m : (ℓ : Loc Cert.KernelNext.nD Cert.KernelNext.τ Cert.KernelNext.sig) → Buf (Elt Bits) ℓ) : Prop :=
  True

def Pre_KernelNextIdeal (m : (ℓ : Loc Cert.KernelNextIdeal.nD Cert.KernelNextIdeal.τ Cert.KernelNextIdeal.sig) → Buf (Elt Ideal) ℓ) : Prop :=
  True

def Pre_ReferenceNextIdeal (m : (ℓ : Loc Cert.ReferenceNextIdeal.nD Cert.ReferenceNextIdeal.τ Cert.ReferenceNextIdeal.sig) → Buf (Elt Ideal) ℓ) : Prop :=
  True

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelPost [hKernelPost : Cert.KernelPost.Facts] : Prop :=
  ∀ (m : (ℓ : Loc Cert.KernelPost.nD Cert.KernelPost.τ Cert.KernelPost.sig) → Buf (Elt Bits) ℓ) (g : Dev Cert.KernelPost.nD → PrngReg), Pre_KernelPost m →
    θ_run (Cert.KernelPost.defs (F := Bits)) (onTc (τ := Cert.KernelPost.τ) (Cert.KernelPost.main (F := Bits))) ⟨m, fun _ => 0, g⟩ (fun r => (∀ c : Dev Cert.KernelPost.nD,
      r.2.mem ((c.tc : Thread Cert.KernelPost.nD Cert.KernelPost.τ).loc Cert.KernelPost.main_arg0) = m ((c.tc : Thread Cert.KernelPost.nD Cert.KernelPost.τ).loc Cert.KernelPost.main_arg0)
      ∧ r.2.mem ((c.tc : Thread Cert.KernelPost.nD Cert.KernelPost.τ).loc Cert.KernelPost.main_arg1) = m ((c.tc : Thread Cert.KernelPost.nD Cert.KernelPost.τ).loc Cert.KernelPost.main_arg1))
      ∧ r.2.sem = fun _ => 0)

def quiescent_KernelPostIdeal [hKernelPostIdeal : Cert.KernelPostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg), Pre_KernelPostIdeal m →
    θ_run (Cert.KernelPostIdeal.defs (F := Ideal)) (onTc (τ := Cert.KernelPostIdeal.τ) (Cert.KernelPostIdeal.main (F := Ideal))) ⟨m, fun _ => 0, g⟩ (fun r => (∀ c : Dev Cert.KernelPostIdeal.nD,
      r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
      ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1))
      ∧ r.2.sem = fun _ => 0)

def quiescent_ReferencePostIdeal [hReferencePostIdeal : Cert.ReferencePostIdeal.Facts] : Prop :=
  ∀ (m : (ℓ : Loc Cert.ReferencePostIdeal.nD Cert.ReferencePostIdeal.τ Cert.ReferencePostIdeal.sig) → Buf (Elt Ideal) ℓ) (g : Dev Cert.ReferencePostIdeal.nD → PrngReg), Pre_ReferencePostIdeal m →
    θ_run (Cert.ReferencePostIdeal.defs (F := Ideal)) (onTc (τ := Cert.ReferencePostIdeal.τ) (Cert.ReferencePostIdeal.main (F := Ideal))) ⟨m, fun _ => 0, g⟩ (fun r => (∀ c : Dev Cert.ReferencePostIdeal.nD,
      r.2.mem ((c.tc : Thread Cert.ReferencePostIdeal.nD Cert.ReferencePostIdeal.τ).loc Cert.ReferencePostIdeal.main_arg0) = m ((c.tc : Thread Cert.ReferencePostIdeal.nD Cert.ReferencePostIdeal.τ).loc Cert.ReferencePostIdeal.main_arg0)
      ∧ r.2.mem ((c.tc : Thread Cert.ReferencePostIdeal.nD Cert.ReferencePostIdeal.τ).loc Cert.ReferencePostIdeal.main_arg1) = m ((c.tc : Thread Cert.ReferencePostIdeal.nD Cert.ReferencePostIdeal.τ).loc Cert.ReferencePostIdeal.main_arg1))
      ∧ r.2.sem = fun _ => 0)

def quiescent_KernelPrompt [hKernelPrompt : Cert.KernelPrompt.Facts] : Prop :=
  ∀ (m : (ℓ : Loc Cert.KernelPrompt.nD Cert.KernelPrompt.τ Cert.KernelPrompt.sig) → Buf (Elt Bits) ℓ) (g : Dev Cert.KernelPrompt.nD → PrngReg), Pre_KernelPrompt m →
    θ_run (Cert.KernelPrompt.defs (F := Bits)) (onTc (τ := Cert.KernelPrompt.τ) (Cert.KernelPrompt.main (F := Bits))) ⟨m, fun _ => 0, g⟩ (fun r => (∀ c : Dev Cert.KernelPrompt.nD,
      r.2.mem ((c.tc : Thread Cert.KernelPrompt.nD Cert.KernelPrompt.τ).loc Cert.KernelPrompt.main_arg0) = m ((c.tc : Thread Cert.KernelPrompt.nD Cert.KernelPrompt.τ).loc Cert.KernelPrompt.main_arg0)
      ∧ r.2.mem ((c.tc : Thread Cert.KernelPrompt.nD Cert.KernelPrompt.τ).loc Cert.KernelPrompt.main_arg1) = m ((c.tc : Thread Cert.KernelPrompt.nD Cert.KernelPrompt.τ).loc Cert.KernelPrompt.main_arg1))
      ∧ r.2.sem = fun _ => 0)

def quiescent_KernelPromptIdeal [hKernelPromptIdeal : Cert.KernelPromptIdeal.Facts] : Prop :=
  ∀ (m : (ℓ : Loc Cert.KernelPromptIdeal.nD Cert.KernelPromptIdeal.τ Cert.KernelPromptIdeal.sig) → Buf (Elt Ideal) ℓ) (g : Dev Cert.KernelPromptIdeal.nD → PrngReg), Pre_KernelPromptIdeal m →
    θ_run (Cert.KernelPromptIdeal.defs (F := Ideal)) (onTc (τ := Cert.KernelPromptIdeal.τ) (Cert.KernelPromptIdeal.main (F := Ideal))) ⟨m, fun _ => 0, g⟩ (fun r => (∀ c : Dev Cert.KernelPromptIdeal.nD,
      r.2.mem ((c.tc : Thread Cert.KernelPromptIdeal.nD Cert.KernelPromptIdeal.τ).loc Cert.KernelPromptIdeal.main_arg0) = m ((c.tc : Thread Cert.KernelPromptIdeal.nD Cert.KernelPromptIdeal.τ).loc Cert.KernelPromptIdeal.main_arg0)
      ∧ r.2.mem ((c.tc : Thread Cert.KernelPromptIdeal.nD Cert.KernelPromptIdeal.τ).loc Cert.KernelPromptIdeal.main_arg1) = m ((c.tc : Thread Cert.KernelPromptIdeal.nD Cert.KernelPromptIdeal.τ).loc Cert.KernelPromptIdeal.main_arg1))
      ∧ r.2.sem = fun _ => 0)

def quiescent_ReferencePromptIdeal [hReferencePromptIdeal : Cert.ReferencePromptIdeal.Facts] : Prop :=
  ∀ (m : (ℓ : Loc Cert.ReferencePromptIdeal.nD Cert.ReferencePromptIdeal.τ Cert.ReferencePromptIdeal.sig) → Buf (Elt Ideal) ℓ) (g : Dev Cert.ReferencePromptIdeal.nD → PrngReg), Pre_ReferencePromptIdeal m →
    θ_run (Cert.ReferencePromptIdeal.defs (F := Ideal)) (onTc (τ := Cert.ReferencePromptIdeal.τ) (Cert.ReferencePromptIdeal.main (F := Ideal))) ⟨m, fun _ => 0, g⟩ (fun r => (∀ c : Dev Cert.ReferencePromptIdeal.nD,
      r.2.mem ((c.tc : Thread Cert.ReferencePromptIdeal.nD Cert.ReferencePromptIdeal.τ).loc Cert.ReferencePromptIdeal.main_arg0) = m ((c.tc : Thread Cert.ReferencePromptIdeal.nD Cert.ReferencePromptIdeal.τ).loc Cert.ReferencePromptIdeal.main_arg0)
      ∧ r.2.mem ((c.tc : Thread Cert.ReferencePromptIdeal.nD Cert.ReferencePromptIdeal.τ).loc Cert.ReferencePromptIdeal.main_arg1) = m ((c.tc : Thread Cert.ReferencePromptIdeal.nD Cert.ReferencePromptIdeal.τ).loc Cert.ReferencePromptIdeal.main_arg1))
      ∧ r.2.sem = fun _ => 0)

def quiescent_KernelUpFirst [hKernelUpFirst : Cert.KernelUpFirst.Facts] : Prop :=
  ∀ (m : (ℓ : Loc Cert.KernelUpFirst.nD Cert.KernelUpFirst.τ Cert.KernelUpFirst.sig) → Buf (Elt Bits) ℓ) (g : Dev Cert.KernelUpFirst.nD → PrngReg), Pre_KernelUpFirst m →
    θ_run (Cert.KernelUpFirst.defs (F := Bits)) (onTc (τ := Cert.KernelUpFirst.τ) (Cert.KernelUpFirst.main (F := Bits))) ⟨m, fun _ => 0, g⟩ (fun r => (∀ c : Dev Cert.KernelUpFirst.nD,
      r.2.mem ((c.tc : Thread Cert.KernelUpFirst.nD Cert.KernelUpFirst.τ).loc Cert.KernelUpFirst.main_arg0) = m ((c.tc : Thread Cert.KernelUpFirst.nD Cert.KernelUpFirst.τ).loc Cert.KernelUpFirst.main_arg0)
      ∧ r.2.mem ((c.tc : Thread Cert.KernelUpFirst.nD Cert.KernelUpFirst.τ).loc Cert.KernelUpFirst.main_arg1) = m ((c.tc : Thread Cert.KernelUpFirst.nD Cert.KernelUpFirst.τ).loc Cert.KernelUpFirst.main_arg1)
      ∧ r.2.mem ((c.tc : Thread Cert.KernelUpFirst.nD Cert.KernelUpFirst.τ).loc Cert.KernelUpFirst.main_arg2) = m ((c.tc : Thread Cert.KernelUpFirst.nD Cert.KernelUpFirst.τ).loc Cert.KernelUpFirst.main_arg2))
      ∧ r.2.sem = fun _ => 0)

def quiescent_KernelUpFirstIdeal [hKernelUpFirstIdeal : Cert.KernelUpFirstIdeal.Facts] : Prop :=
  ∀ (m : (ℓ : Loc Cert.KernelUpFirstIdeal.nD Cert.KernelUpFirstIdeal.τ Cert.KernelUpFirstIdeal.sig) → Buf (Elt Ideal) ℓ) (g : Dev Cert.KernelUpFirstIdeal.nD → PrngReg), Pre_KernelUpFirstIdeal m →
    θ_run (Cert.KernelUpFirstIdeal.defs (F := Ideal)) (onTc (τ := Cert.KernelUpFirstIdeal.τ) (Cert.KernelUpFirstIdeal.main (F := Ideal))) ⟨m, fun _ => 0, g⟩ (fun r => (∀ c : Dev Cert.KernelUpFirstIdeal.nD,
      r.2.mem ((c.tc : Thread Cert.KernelUpFirstIdeal.nD Cert.KernelUpFirstIdeal.τ).loc Cert.KernelUpFirstIdeal.main_arg0) = m ((c.tc : Thread Cert.KernelUpFirstIdeal.nD Cert.KernelUpFirstIdeal.τ).loc Cert.KernelUpFirstIdeal.main_arg0)
      ∧ r.2.mem ((c.tc : Thread Cert.KernelUpFirstIdeal.nD Cert.KernelUpFirstIdeal.τ).loc Cert.KernelUpFirstIdeal.main_arg1) = m ((c.tc : Thread Cert.KernelUpFirstIdeal.nD Cert.KernelUpFirstIdeal.τ).loc Cert.KernelUpFirstIdeal.main_arg1)
      ∧ r.2.mem ((c.tc : Thread Cert.KernelUpFirstIdeal.nD Cert.KernelUpFirstIdeal.τ).loc Cert.KernelUpFirstIdeal.main_arg2) = m ((c.tc : Thread Cert.KernelUpFirstIdeal.nD Cert.KernelUpFirstIdeal.τ).loc Cert.KernelUpFirstIdeal.main_arg2))
      ∧ r.2.sem = fun _ => 0)

def quiescent_ReferenceUpFirstIdeal [hReferenceUpFirstIdeal : Cert.ReferenceUpFirstIdeal.Facts] : Prop :=
  ∀ (m : (ℓ : Loc Cert.ReferenceUpFirstIdeal.nD Cert.ReferenceUpFirstIdeal.τ Cert.ReferenceUpFirstIdeal.sig) → Buf (Elt Ideal) ℓ) (g : Dev Cert.ReferenceUpFirstIdeal.nD → PrngReg), Pre_ReferenceUpFirstIdeal m →
    θ_run (Cert.ReferenceUpFirstIdeal.defs (F := Ideal)) (onTc (τ := Cert.ReferenceUpFirstIdeal.τ) (Cert.ReferenceUpFirstIdeal.main (F := Ideal))) ⟨m, fun _ => 0, g⟩ (fun r => (∀ c : Dev Cert.ReferenceUpFirstIdeal.nD,
      r.2.mem ((c.tc : Thread Cert.ReferenceUpFirstIdeal.nD Cert.ReferenceUpFirstIdeal.τ).loc Cert.ReferenceUpFirstIdeal.main_arg0) = m ((c.tc : Thread Cert.ReferenceUpFirstIdeal.nD Cert.ReferenceUpFirstIdeal.τ).loc Cert.ReferenceUpFirstIdeal.main_arg0)
      ∧ r.2.mem ((c.tc : Thread Cert.ReferenceUpFirstIdeal.nD Cert.ReferenceUpFirstIdeal.τ).loc Cert.ReferenceUpFirstIdeal.main_arg1) = m ((c.tc : Thread Cert.ReferenceUpFirstIdeal.nD Cert.ReferenceUpFirstIdeal.τ).loc Cert.ReferenceUpFirstIdeal.main_arg1)
      ∧ r.2.mem ((c.tc : Thread Cert.ReferenceUpFirstIdeal.nD Cert.ReferenceUpFirstIdeal.τ).loc Cert.ReferenceUpFirstIdeal.main_arg2) = m ((c.tc : Thread Cert.ReferenceUpFirstIdeal.nD Cert.ReferenceUpFirstIdeal.τ).loc Cert.ReferenceUpFirstIdeal.main_arg2))
      ∧ r.2.sem = fun _ => 0)

def quiescent_KernelInFirst [hKernelInFirst : Cert.KernelInFirst.Facts] : Prop :=
  ∀ (m : (ℓ : Loc Cert.KernelInFirst.nD Cert.KernelInFirst.τ Cert.KernelInFirst.sig) → Buf (Elt Bits) ℓ) (g : Dev Cert.KernelInFirst.nD → PrngReg), Pre_KernelInFirst m →
    θ_run (Cert.KernelInFirst.defs (F := Bits)) (onTc (τ := Cert.KernelInFirst.τ) (Cert.KernelInFirst.main (F := Bits))) ⟨m, fun _ => 0, g⟩ (fun r => (∀ c : Dev Cert.KernelInFirst.nD,
      r.2.mem ((c.tc : Thread Cert.KernelInFirst.nD Cert.KernelInFirst.τ).loc Cert.KernelInFirst.main_arg0) = m ((c.tc : Thread Cert.KernelInFirst.nD Cert.KernelInFirst.τ).loc Cert.KernelInFirst.main_arg0)
      ∧ r.2.mem ((c.tc : Thread Cert.KernelInFirst.nD Cert.KernelInFirst.τ).loc Cert.KernelInFirst.main_arg1) = m ((c.tc : Thread Cert.KernelInFirst.nD Cert.KernelInFirst.τ).loc Cert.KernelInFirst.main_arg1))
      ∧ r.2.sem = fun _ => 0)

def quiescent_KernelInFirstIdeal [hKernelInFirstIdeal : Cert.KernelInFirstIdeal.Facts] : Prop :=
  ∀ (m : (ℓ : Loc Cert.KernelInFirstIdeal.nD Cert.KernelInFirstIdeal.τ Cert.KernelInFirstIdeal.sig) → Buf (Elt Ideal) ℓ) (g : Dev Cert.KernelInFirstIdeal.nD → PrngReg), Pre_KernelInFirstIdeal m →
    θ_run (Cert.KernelInFirstIdeal.defs (F := Ideal)) (onTc (τ := Cert.KernelInFirstIdeal.τ) (Cert.KernelInFirstIdeal.main (F := Ideal))) ⟨m, fun _ => 0, g⟩ (fun r => (∀ c : Dev Cert.KernelInFirstIdeal.nD,
      r.2.mem ((c.tc : Thread Cert.KernelInFirstIdeal.nD Cert.KernelInFirstIdeal.τ).loc Cert.KernelInFirstIdeal.main_arg0) = m ((c.tc : Thread Cert.KernelInFirstIdeal.nD Cert.KernelInFirstIdeal.τ).loc Cert.KernelInFirstIdeal.main_arg0)
      ∧ r.2.mem ((c.tc : Thread Cert.KernelInFirstIdeal.nD Cert.KernelInFirstIdeal.τ).loc Cert.KernelInFirstIdeal.main_arg1) = m ((c.tc : Thread Cert.KernelInFirstIdeal.nD Cert.KernelInFirstIdeal.τ).loc Cert.KernelInFirstIdeal.main_arg1))
      ∧ r.2.sem = fun _ => 0)

def quiescent_ReferenceInFirstIdeal [hReferenceInFirstIdeal : Cert.ReferenceInFirstIdeal.Facts] : Prop :=
  ∀ (m : (ℓ : Loc Cert.ReferenceInFirstIdeal.nD Cert.ReferenceInFirstIdeal.τ Cert.ReferenceInFirstIdeal.sig) → Buf (Elt Ideal) ℓ) (g : Dev Cert.ReferenceInFirstIdeal.nD → PrngReg), Pre_ReferenceInFirstIdeal m →
    θ_run (Cert.ReferenceInFirstIdeal.defs (F := Ideal)) (onTc (τ := Cert.ReferenceInFirstIdeal.τ) (Cert.ReferenceInFirstIdeal.main (F := Ideal))) ⟨m, fun _ => 0, g⟩ (fun r => (∀ c : Dev Cert.ReferenceInFirstIdeal.nD,
      r.2.mem ((c.tc : Thread Cert.ReferenceInFirstIdeal.nD Cert.ReferenceInFirstIdeal.τ).loc Cert.ReferenceInFirstIdeal.main_arg0) = m ((c.tc : Thread Cert.ReferenceInFirstIdeal.nD Cert.ReferenceInFirstIdeal.τ).loc Cert.ReferenceInFirstIdeal.main_arg0)
      ∧ r.2.mem ((c.tc : Thread Cert.ReferenceInFirstIdeal.nD Cert.ReferenceInFirstIdeal.τ).loc Cert.ReferenceInFirstIdeal.main_arg1) = m ((c.tc : Thread Cert.ReferenceInFirstIdeal.nD Cert.ReferenceInFirstIdeal.τ).loc Cert.ReferenceInFirstIdeal.main_arg1))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2))
      ∧ r.2.sem = fun _ => 0)

def quiescent_KernelNext [hKernelNext : Cert.KernelNext.Facts] : Prop :=
  ∀ (m : (ℓ : Loc Cert.KernelNext.nD Cert.KernelNext.τ Cert.KernelNext.sig) → Buf (Elt Bits) ℓ) (g : Dev Cert.KernelNext.nD → PrngReg), Pre_KernelNext m →
    θ_run (Cert.KernelNext.defs (F := Bits)) (onTc (τ := Cert.KernelNext.τ) (Cert.KernelNext.main (F := Bits))) ⟨m, fun _ => 0, g⟩ (fun r => (∀ c : Dev Cert.KernelNext.nD,
      r.2.mem ((c.tc : Thread Cert.KernelNext.nD Cert.KernelNext.τ).loc Cert.KernelNext.main_arg0) = m ((c.tc : Thread Cert.KernelNext.nD Cert.KernelNext.τ).loc Cert.KernelNext.main_arg0)
      ∧ r.2.mem ((c.tc : Thread Cert.KernelNext.nD Cert.KernelNext.τ).loc Cert.KernelNext.main_arg1) = m ((c.tc : Thread Cert.KernelNext.nD Cert.KernelNext.τ).loc Cert.KernelNext.main_arg1)
      ∧ r.2.mem ((c.tc : Thread Cert.KernelNext.nD Cert.KernelNext.τ).loc Cert.KernelNext.main_arg2) = m ((c.tc : Thread Cert.KernelNext.nD Cert.KernelNext.τ).loc Cert.KernelNext.main_arg2)
      ∧ r.2.mem ((c.tc : Thread Cert.KernelNext.nD Cert.KernelNext.τ).loc Cert.KernelNext.main_arg3) = m ((c.tc : Thread Cert.KernelNext.nD Cert.KernelNext.τ).loc Cert.KernelNext.main_arg3))
      ∧ r.2.sem = fun _ => 0)

def quiescent_KernelNextIdeal [hKernelNextIdeal : Cert.KernelNextIdeal.Facts] : Prop :=
  ∀ (m : (ℓ : Loc Cert.KernelNextIdeal.nD Cert.KernelNextIdeal.τ Cert.KernelNextIdeal.sig) → Buf (Elt Ideal) ℓ) (g : Dev Cert.KernelNextIdeal.nD → PrngReg), Pre_KernelNextIdeal m →
    θ_run (Cert.KernelNextIdeal.defs (F := Ideal)) (onTc (τ := Cert.KernelNextIdeal.τ) (Cert.KernelNextIdeal.main (F := Ideal))) ⟨m, fun _ => 0, g⟩ (fun r => (∀ c : Dev Cert.KernelNextIdeal.nD,
      r.2.mem ((c.tc : Thread Cert.KernelNextIdeal.nD Cert.KernelNextIdeal.τ).loc Cert.KernelNextIdeal.main_arg0) = m ((c.tc : Thread Cert.KernelNextIdeal.nD Cert.KernelNextIdeal.τ).loc Cert.KernelNextIdeal.main_arg0)
      ∧ r.2.mem ((c.tc : Thread Cert.KernelNextIdeal.nD Cert.KernelNextIdeal.τ).loc Cert.KernelNextIdeal.main_arg1) = m ((c.tc : Thread Cert.KernelNextIdeal.nD Cert.KernelNextIdeal.τ).loc Cert.KernelNextIdeal.main_arg1)
      ∧ r.2.mem ((c.tc : Thread Cert.KernelNextIdeal.nD Cert.KernelNextIdeal.τ).loc Cert.KernelNextIdeal.main_arg2) = m ((c.tc : Thread Cert.KernelNextIdeal.nD Cert.KernelNextIdeal.τ).loc Cert.KernelNextIdeal.main_arg2)
      ∧ r.2.mem ((c.tc : Thread Cert.KernelNextIdeal.nD Cert.KernelNextIdeal.τ).loc Cert.KernelNextIdeal.main_arg3) = m ((c.tc : Thread Cert.KernelNextIdeal.nD Cert.KernelNextIdeal.τ).loc Cert.KernelNextIdeal.main_arg3))
      ∧ r.2.sem = fun _ => 0)

def quiescent_ReferenceNextIdeal [hReferenceNextIdeal : Cert.ReferenceNextIdeal.Facts] : Prop :=
  ∀ (m : (ℓ : Loc Cert.ReferenceNextIdeal.nD Cert.ReferenceNextIdeal.τ Cert.ReferenceNextIdeal.sig) → Buf (Elt Ideal) ℓ) (g : Dev Cert.ReferenceNextIdeal.nD → PrngReg), Pre_ReferenceNextIdeal m →
    θ_run (Cert.ReferenceNextIdeal.defs (F := Ideal)) (onTc (τ := Cert.ReferenceNextIdeal.τ) (Cert.ReferenceNextIdeal.main (F := Ideal))) ⟨m, fun _ => 0, g⟩ (fun r => (∀ c : Dev Cert.ReferenceNextIdeal.nD,
      r.2.mem ((c.tc : Thread Cert.ReferenceNextIdeal.nD Cert.ReferenceNextIdeal.τ).loc Cert.ReferenceNextIdeal.main_arg0) = m ((c.tc : Thread Cert.ReferenceNextIdeal.nD Cert.ReferenceNextIdeal.τ).loc Cert.ReferenceNextIdeal.main_arg0)
      ∧ r.2.mem ((c.tc : Thread Cert.ReferenceNextIdeal.nD Cert.ReferenceNextIdeal.τ).loc Cert.ReferenceNextIdeal.main_arg1) = m ((c.tc : Thread Cert.ReferenceNextIdeal.nD Cert.ReferenceNextIdeal.τ).loc Cert.ReferenceNextIdeal.main_arg1)
      ∧ r.2.mem ((c.tc : Thread Cert.ReferenceNextIdeal.nD Cert.ReferenceNextIdeal.τ).loc Cert.ReferenceNextIdeal.main_arg2) = m ((c.tc : Thread Cert.ReferenceNextIdeal.nD Cert.ReferenceNextIdeal.τ).loc Cert.ReferenceNextIdeal.main_arg2)
      ∧ r.2.mem ((c.tc : Thread Cert.ReferenceNextIdeal.nD Cert.ReferenceNextIdeal.τ).loc Cert.ReferenceNextIdeal.main_arg3) = m ((c.tc : Thread Cert.ReferenceNextIdeal.nD Cert.ReferenceNextIdeal.τ).loc Cert.ReferenceNextIdeal.main_arg3))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2)
      ∧ r.2.mem ((c.tc : Thread Cert.KernelMod.nD Cert.KernelMod.τ).loc Cert.KernelMod.main_arg3) = m ((c.tc : Thread Cert.KernelMod.nD Cert.KernelMod.τ).loc Cert.KernelMod.main_arg3))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
      ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2)
      ∧ r.2.mem ((c.tc : Thread Cert.ReferenceModIdeal.nD Cert.ReferenceModIdeal.τ).loc Cert.ReferenceModIdeal.main_arg3) = m ((c.tc : Thread Cert.ReferenceModIdeal.nD Cert.ReferenceModIdeal.τ).loc Cert.ReferenceModIdeal.main_arg3))
      ∧ r.2.sem = fun _ => 0)

def preserves_Kernel_KernelIdeal : Prop :=
  IdealRules.named_const.Statement Cert.KernelIdeal.κ "qk_scale" .f32 0x3E0293EE#32 (((Real.sqrt 128)⁻¹ * (Real.log 2)⁻¹ : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v14) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v18) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v7) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v17) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelPost_KernelPostIdeal : Prop :=
  True

def algebraic_KernelPostIdeal_ReferencePostIdeal [hKernelPostIdeal : Cert.KernelPostIdeal.Facts] [hReferencePostIdeal : Cert.ReferencePostIdeal.Facts] : Prop :=
  ∀ (m : (ℓ : Loc Cert.KernelPostIdeal.nD Cert.KernelPostIdeal.τ Cert.KernelPostIdeal.sig) → Buf (Elt Ideal) ℓ) (g : Dev Cert.KernelPostIdeal.nD → PrngReg)
    (m' : (ℓ : Loc Cert.ReferencePostIdeal.nD Cert.ReferencePostIdeal.τ Cert.ReferencePostIdeal.sig) → Buf (Elt Ideal) ℓ) (g' : Dev Cert.ReferencePostIdeal.nD → PrngReg), Pre_KernelPostIdeal m →
    (∀ c : Dev Cert.KernelPostIdeal.nD,
      m' ((c.tc : Thread Cert.ReferencePostIdeal.nD Cert.ReferencePostIdeal.τ).loc Cert.ReferencePostIdeal.main_arg0) = m ((c.tc : Thread Cert.KernelPostIdeal.nD Cert.KernelPostIdeal.τ).loc Cert.KernelPostIdeal.main_arg0)
      ∧ m' ((c.tc : Thread Cert.ReferencePostIdeal.nD Cert.ReferencePostIdeal.τ).loc Cert.ReferencePostIdeal.main_arg1) = m ((c.tc : Thread Cert.KernelPostIdeal.nD Cert.KernelPostIdeal.τ).loc Cert.KernelPostIdeal.main_arg1)) →
    ∃ (v0 : (c : Dev Cert.KernelPostIdeal.nD) → Buf (Elt Ideal) ((c.tc : Thread Cert.KernelPostIdeal.nD Cert.KernelPostIdeal.τ).loc Cert.KernelPostIdeal.main_v1)),
      θ_run (Cert.KernelPostIdeal.defs (F := Ideal)) (onTc (τ := Cert.KernelPostIdeal.τ) (Cert.KernelPostIdeal.main (F := Ideal))) ⟨m, fun _ => 0, g⟩ (fun r => ∀ c : Dev Cert.KernelPostIdeal.nD,
          r.2.mem ((c.tc : Thread Cert.KernelPostIdeal.nD Cert.KernelPostIdeal.τ).loc Cert.KernelPostIdeal.main_v1) = v0 c
          ∧ r.2.mem ((c.tc : Thread Cert.KernelPostIdeal.nD Cert.KernelPostIdeal.τ).loc Cert.KernelPostIdeal.main_arg0) = m ((c.tc : Thread Cert.KernelPostIdeal.nD Cert.KernelPostIdeal.τ).loc Cert.KernelPostIdeal.main_arg0)
          ∧ r.2.mem ((c.tc : Thread Cert.KernelPostIdeal.nD Cert.KernelPostIdeal.τ).loc Cert.KernelPostIdeal.main_arg1) = m ((c.tc : Thread Cert.KernelPostIdeal.nD Cert.KernelPostIdeal.τ).loc Cert.KernelPostIdeal.main_arg1))
      ∧ θ_run (Cert.ReferencePostIdeal.defs (F := Ideal)) (onTc (τ := Cert.ReferencePostIdeal.τ) (Cert.ReferencePostIdeal.main (F := Ideal))) ⟨m', fun _ => 0, g'⟩ (fun r => ∀ c : Dev Cert.ReferencePostIdeal.nD,
          r.2.mem ((c.tc : Thread Cert.ReferencePostIdeal.nD Cert.ReferencePostIdeal.τ).loc Cert.ReferencePostIdeal.main_v13) = v0 c
          ∧ r.2.mem ((c.tc : Thread Cert.ReferencePostIdeal.nD Cert.ReferencePostIdeal.τ).loc Cert.ReferencePostIdeal.main_arg0) = m' ((c.tc : Thread Cert.ReferencePostIdeal.nD Cert.ReferencePostIdeal.τ).loc Cert.ReferencePostIdeal.main_arg0)
          ∧ r.2.mem ((c.tc : Thread Cert.ReferencePostIdeal.nD Cert.ReferencePostIdeal.τ).loc Cert.ReferencePostIdeal.main_arg1) = m' ((c.tc : Thread Cert.ReferencePostIdeal.nD Cert.ReferencePostIdeal.τ).loc Cert.ReferencePostIdeal.main_arg1))

def preserves_KernelPrompt_KernelPromptIdeal : Prop :=
  True

def algebraic_KernelPromptIdeal_ReferencePromptIdeal [hKernelPromptIdeal : Cert.KernelPromptIdeal.Facts] [hReferencePromptIdeal : Cert.ReferencePromptIdeal.Facts] : Prop :=
  ∀ (m : (ℓ : Loc Cert.KernelPromptIdeal.nD Cert.KernelPromptIdeal.τ Cert.KernelPromptIdeal.sig) → Buf (Elt Ideal) ℓ) (g : Dev Cert.KernelPromptIdeal.nD → PrngReg)
    (m' : (ℓ : Loc Cert.ReferencePromptIdeal.nD Cert.ReferencePromptIdeal.τ Cert.ReferencePromptIdeal.sig) → Buf (Elt Ideal) ℓ) (g' : Dev Cert.ReferencePromptIdeal.nD → PrngReg), Pre_KernelPromptIdeal m →
    (∀ c : Dev Cert.KernelPromptIdeal.nD,
      m' ((c.tc : Thread Cert.ReferencePromptIdeal.nD Cert.ReferencePromptIdeal.τ).loc Cert.ReferencePromptIdeal.main_arg0) = m ((c.tc : Thread Cert.KernelPromptIdeal.nD Cert.KernelPromptIdeal.τ).loc Cert.KernelPromptIdeal.main_arg0)
      ∧ m' ((c.tc : Thread Cert.ReferencePromptIdeal.nD Cert.ReferencePromptIdeal.τ).loc Cert.ReferencePromptIdeal.main_arg1) = m ((c.tc : Thread Cert.KernelPromptIdeal.nD Cert.KernelPromptIdeal.τ).loc Cert.KernelPromptIdeal.main_arg1)) →
    ∃ (v0 : (c : Dev Cert.KernelPromptIdeal.nD) → Buf (Elt Ideal) ((c.tc : Thread Cert.KernelPromptIdeal.nD Cert.KernelPromptIdeal.τ).loc Cert.KernelPromptIdeal.main_v1)),
      θ_run (Cert.KernelPromptIdeal.defs (F := Ideal)) (onTc (τ := Cert.KernelPromptIdeal.τ) (Cert.KernelPromptIdeal.main (F := Ideal))) ⟨m, fun _ => 0, g⟩ (fun r => ∀ c : Dev Cert.KernelPromptIdeal.nD,
          r.2.mem ((c.tc : Thread Cert.KernelPromptIdeal.nD Cert.KernelPromptIdeal.τ).loc Cert.KernelPromptIdeal.main_v1) = v0 c
          ∧ r.2.mem ((c.tc : Thread Cert.KernelPromptIdeal.nD Cert.KernelPromptIdeal.τ).loc Cert.KernelPromptIdeal.main_arg0) = m ((c.tc : Thread Cert.KernelPromptIdeal.nD Cert.KernelPromptIdeal.τ).loc Cert.KernelPromptIdeal.main_arg0)
          ∧ r.2.mem ((c.tc : Thread Cert.KernelPromptIdeal.nD Cert.KernelPromptIdeal.τ).loc Cert.KernelPromptIdeal.main_arg1) = m ((c.tc : Thread Cert.KernelPromptIdeal.nD Cert.KernelPromptIdeal.τ).loc Cert.KernelPromptIdeal.main_arg1))
      ∧ θ_run (Cert.ReferencePromptIdeal.defs (F := Ideal)) (onTc (τ := Cert.ReferencePromptIdeal.τ) (Cert.ReferencePromptIdeal.main (F := Ideal))) ⟨m', fun _ => 0, g'⟩ (fun r => ∀ c : Dev Cert.ReferencePromptIdeal.nD,
          r.2.mem ((c.tc : Thread Cert.ReferencePromptIdeal.nD Cert.ReferencePromptIdeal.τ).loc Cert.ReferencePromptIdeal.main_v13) = v0 c
          ∧ r.2.mem ((c.tc : Thread Cert.ReferencePromptIdeal.nD Cert.ReferencePromptIdeal.τ).loc Cert.ReferencePromptIdeal.main_arg0) = m' ((c.tc : Thread Cert.ReferencePromptIdeal.nD Cert.ReferencePromptIdeal.τ).loc Cert.ReferencePromptIdeal.main_arg0)
          ∧ r.2.mem ((c.tc : Thread Cert.ReferencePromptIdeal.nD Cert.ReferencePromptIdeal.τ).loc Cert.ReferencePromptIdeal.main_arg1) = m' ((c.tc : Thread Cert.ReferencePromptIdeal.nD Cert.ReferencePromptIdeal.τ).loc Cert.ReferencePromptIdeal.main_arg1))

def preserves_KernelUpFirst_KernelUpFirstIdeal : Prop :=
  True

def algebraic_KernelUpFirstIdeal_ReferenceUpFirstIdeal [hKernelUpFirstIdeal : Cert.KernelUpFirstIdeal.Facts] [hReferenceUpFirstIdeal : Cert.ReferenceUpFirstIdeal.Facts] : Prop :=
  ∀ (m : (ℓ : Loc Cert.KernelUpFirstIdeal.nD Cert.KernelUpFirstIdeal.τ Cert.KernelUpFirstIdeal.sig) → Buf (Elt Ideal) ℓ) (g : Dev Cert.KernelUpFirstIdeal.nD → PrngReg)
    (m' : (ℓ : Loc Cert.ReferenceUpFirstIdeal.nD Cert.ReferenceUpFirstIdeal.τ Cert.ReferenceUpFirstIdeal.sig) → Buf (Elt Ideal) ℓ) (g' : Dev Cert.ReferenceUpFirstIdeal.nD → PrngReg), Pre_KernelUpFirstIdeal m →
    (∀ c : Dev Cert.KernelUpFirstIdeal.nD,
      m' ((c.tc : Thread Cert.ReferenceUpFirstIdeal.nD Cert.ReferenceUpFirstIdeal.τ).loc Cert.ReferenceUpFirstIdeal.main_arg0) = m ((c.tc : Thread Cert.KernelUpFirstIdeal.nD Cert.KernelUpFirstIdeal.τ).loc Cert.KernelUpFirstIdeal.main_arg0)
      ∧ m' ((c.tc : Thread Cert.ReferenceUpFirstIdeal.nD Cert.ReferenceUpFirstIdeal.τ).loc Cert.ReferenceUpFirstIdeal.main_arg1) = m ((c.tc : Thread Cert.KernelUpFirstIdeal.nD Cert.KernelUpFirstIdeal.τ).loc Cert.KernelUpFirstIdeal.main_arg1)
      ∧ m' ((c.tc : Thread Cert.ReferenceUpFirstIdeal.nD Cert.ReferenceUpFirstIdeal.τ).loc Cert.ReferenceUpFirstIdeal.main_arg2) = m ((c.tc : Thread Cert.KernelUpFirstIdeal.nD Cert.KernelUpFirstIdeal.τ).loc Cert.KernelUpFirstIdeal.main_arg2)) →
    ∃ (v0 : (c : Dev Cert.KernelUpFirstIdeal.nD) → Buf (Elt Ideal) ((c.tc : Thread Cert.KernelUpFirstIdeal.nD Cert.KernelUpFirstIdeal.τ).loc Cert.KernelUpFirstIdeal.main_v1)) (v1 : (c : Dev Cert.KernelUpFirstIdeal.nD) → Buf (Elt Ideal) ((c.tc : Thread Cert.KernelUpFirstIdeal.nD Cert.KernelUpFirstIdeal.τ).loc Cert.KernelUpFirstIdeal.main_v0_1)) (v2 : (c : Dev Cert.KernelUpFirstIdeal.nD) → Buf (Elt Ideal) ((c.tc : Thread Cert.KernelUpFirstIdeal.nD Cert.KernelUpFirstIdeal.τ).loc Cert.KernelUpFirstIdeal.main_v0_2)),
      θ_run (Cert.KernelUpFirstIdeal.defs (F := Ideal)) (onTc (τ := Cert.KernelUpFirstIdeal.τ) (Cert.KernelUpFirstIdeal.main (F := Ideal))) ⟨m, fun _ => 0, g⟩ (fun r => ∀ c : Dev Cert.KernelUpFirstIdeal.nD,
          r.2.mem ((c.tc : Thread Cert.KernelUpFirstIdeal.nD Cert.KernelUpFirstIdeal.τ).loc Cert.KernelUpFirstIdeal.main_v1) = v0 c
          ∧ r.2.mem ((c.tc : Thread Cert.KernelUpFirstIdeal.nD Cert.KernelUpFirstIdeal.τ).loc Cert.KernelUpFirstIdeal.main_v0_1) = v1 c
          ∧ r.2.mem ((c.tc : Thread Cert.KernelUpFirstIdeal.nD Cert.KernelUpFirstIdeal.τ).loc Cert.KernelUpFirstIdeal.main_v0_2) = v2 c
          ∧ r.2.mem ((c.tc : Thread Cert.KernelUpFirstIdeal.nD Cert.KernelUpFirstIdeal.τ).loc Cert.KernelUpFirstIdeal.main_arg0) = m ((c.tc : Thread Cert.KernelUpFirstIdeal.nD Cert.KernelUpFirstIdeal.τ).loc Cert.KernelUpFirstIdeal.main_arg0)
          ∧ r.2.mem ((c.tc : Thread Cert.KernelUpFirstIdeal.nD Cert.KernelUpFirstIdeal.τ).loc Cert.KernelUpFirstIdeal.main_arg1) = m ((c.tc : Thread Cert.KernelUpFirstIdeal.nD Cert.KernelUpFirstIdeal.τ).loc Cert.KernelUpFirstIdeal.main_arg1)
          ∧ r.2.mem ((c.tc : Thread Cert.KernelUpFirstIdeal.nD Cert.KernelUpFirstIdeal.τ).loc Cert.KernelUpFirstIdeal.main_arg2) = m ((c.tc : Thread Cert.KernelUpFirstIdeal.nD Cert.KernelUpFirstIdeal.τ).loc Cert.KernelUpFirstIdeal.main_arg2))
      ∧ θ_run (Cert.ReferenceUpFirstIdeal.defs (F := Ideal)) (onTc (τ := Cert.ReferenceUpFirstIdeal.τ) (Cert.ReferenceUpFirstIdeal.main (F := Ideal))) ⟨m', fun _ => 0, g'⟩ (fun r => ∀ c : Dev Cert.ReferenceUpFirstIdeal.nD,
          r.2.mem ((c.tc : Thread Cert.ReferenceUpFirstIdeal.nD Cert.ReferenceUpFirstIdeal.τ).loc Cert.ReferenceUpFirstIdeal.main_v11) = v0 c
          ∧ r.2.mem ((c.tc : Thread Cert.ReferenceUpFirstIdeal.nD Cert.ReferenceUpFirstIdeal.τ).loc Cert.ReferenceUpFirstIdeal.main_v2) = v1 c
          ∧ r.2.mem ((c.tc : Thread Cert.ReferenceUpFirstIdeal.nD Cert.ReferenceUpFirstIdeal.τ).loc Cert.ReferenceUpFirstIdeal.main_v5) = v2 c
          ∧ r.2.mem ((c.tc : Thread Cert.ReferenceUpFirstIdeal.nD Cert.ReferenceUpFirstIdeal.τ).loc Cert.ReferenceUpFirstIdeal.main_arg0) = m' ((c.tc : Thread Cert.ReferenceUpFirstIdeal.nD Cert.ReferenceUpFirstIdeal.τ).loc Cert.ReferenceUpFirstIdeal.main_arg0)
          ∧ r.2.mem ((c.tc : Thread Cert.ReferenceUpFirstIdeal.nD Cert.ReferenceUpFirstIdeal.τ).loc Cert.ReferenceUpFirstIdeal.main_arg1) = m' ((c.tc : Thread Cert.ReferenceUpFirstIdeal.nD Cert.ReferenceUpFirstIdeal.τ).loc Cert.ReferenceUpFirstIdeal.main_arg1)
          ∧ r.2.mem ((c.tc : Thread Cert.ReferenceUpFirstIdeal.nD Cert.ReferenceUpFirstIdeal.τ).loc Cert.ReferenceUpFirstIdeal.main_arg2) = m' ((c.tc : Thread Cert.ReferenceUpFirstIdeal.nD Cert.ReferenceUpFirstIdeal.τ).loc Cert.ReferenceUpFirstIdeal.main_arg2))

def preserves_KernelInFirst_KernelInFirstIdeal : Prop :=
  True

def algebraic_KernelInFirstIdeal_ReferenceInFirstIdeal [hKernelInFirstIdeal : Cert.KernelInFirstIdeal.Facts] [hReferenceInFirstIdeal : Cert.ReferenceInFirstIdeal.Facts] : Prop :=
  ∀ (m : (ℓ : Loc Cert.KernelInFirstIdeal.nD Cert.KernelInFirstIdeal.τ Cert.KernelInFirstIdeal.sig) → Buf (Elt Ideal) ℓ) (g : Dev Cert.KernelInFirstIdeal.nD → PrngReg)
    (m' : (ℓ : Loc Cert.ReferenceInFirstIdeal.nD Cert.ReferenceInFirstIdeal.τ Cert.ReferenceInFirstIdeal.sig) → Buf (Elt Ideal) ℓ) (g' : Dev Cert.ReferenceInFirstIdeal.nD → PrngReg), Pre_KernelInFirstIdeal m →
    (∀ c : Dev Cert.KernelInFirstIdeal.nD,
      m' ((c.tc : Thread Cert.ReferenceInFirstIdeal.nD Cert.ReferenceInFirstIdeal.τ).loc Cert.ReferenceInFirstIdeal.main_arg0) = m ((c.tc : Thread Cert.KernelInFirstIdeal.nD Cert.KernelInFirstIdeal.τ).loc Cert.KernelInFirstIdeal.main_arg0)
      ∧ m' ((c.tc : Thread Cert.ReferenceInFirstIdeal.nD Cert.ReferenceInFirstIdeal.τ).loc Cert.ReferenceInFirstIdeal.main_arg1) = m ((c.tc : Thread Cert.KernelInFirstIdeal.nD Cert.KernelInFirstIdeal.τ).loc Cert.KernelInFirstIdeal.main_arg1)) →
    ∃ (v0 : (c : Dev Cert.KernelInFirstIdeal.nD) → Buf (Elt Ideal) ((c.tc : Thread Cert.KernelInFirstIdeal.nD Cert.KernelInFirstIdeal.τ).loc Cert.KernelInFirstIdeal.main_v1)) (v1 : (c : Dev Cert.KernelInFirstIdeal.nD) → Buf (Elt Ideal) ((c.tc : Thread Cert.KernelInFirstIdeal.nD Cert.KernelInFirstIdeal.τ).loc Cert.KernelInFirstIdeal.main_v0_1)),
      θ_run (Cert.KernelInFirstIdeal.defs (F := Ideal)) (onTc (τ := Cert.KernelInFirstIdeal.τ) (Cert.KernelInFirstIdeal.main (F := Ideal))) ⟨m, fun _ => 0, g⟩ (fun r => ∀ c : Dev Cert.KernelInFirstIdeal.nD,
          r.2.mem ((c.tc : Thread Cert.KernelInFirstIdeal.nD Cert.KernelInFirstIdeal.τ).loc Cert.KernelInFirstIdeal.main_v1) = v0 c
          ∧ r.2.mem ((c.tc : Thread Cert.KernelInFirstIdeal.nD Cert.KernelInFirstIdeal.τ).loc Cert.KernelInFirstIdeal.main_v0_1) = v1 c
          ∧ r.2.mem ((c.tc : Thread Cert.KernelInFirstIdeal.nD Cert.KernelInFirstIdeal.τ).loc Cert.KernelInFirstIdeal.main_arg0) = m ((c.tc : Thread Cert.KernelInFirstIdeal.nD Cert.KernelInFirstIdeal.τ).loc Cert.KernelInFirstIdeal.main_arg0)
          ∧ r.2.mem ((c.tc : Thread Cert.KernelInFirstIdeal.nD Cert.KernelInFirstIdeal.τ).loc Cert.KernelInFirstIdeal.main_arg1) = m ((c.tc : Thread Cert.KernelInFirstIdeal.nD Cert.KernelInFirstIdeal.τ).loc Cert.KernelInFirstIdeal.main_arg1))
      ∧ θ_run (Cert.ReferenceInFirstIdeal.defs (F := Ideal)) (onTc (τ := Cert.ReferenceInFirstIdeal.τ) (Cert.ReferenceInFirstIdeal.main (F := Ideal))) ⟨m', fun _ => 0, g'⟩ (fun r => ∀ c : Dev Cert.ReferenceInFirstIdeal.nD,
          r.2.mem ((c.tc : Thread Cert.ReferenceInFirstIdeal.nD Cert.ReferenceInFirstIdeal.τ).loc Cert.ReferenceInFirstIdeal.main_v7) = v0 c
          ∧ r.2.mem ((c.tc : Thread Cert.ReferenceInFirstIdeal.nD Cert.ReferenceInFirstIdeal.τ).loc Cert.ReferenceInFirstIdeal.main_v2) = v1 c
          ∧ r.2.mem ((c.tc : Thread Cert.ReferenceInFirstIdeal.nD Cert.ReferenceInFirstIdeal.τ).loc Cert.ReferenceInFirstIdeal.main_arg0) = m' ((c.tc : Thread Cert.ReferenceInFirstIdeal.nD Cert.ReferenceInFirstIdeal.τ).loc Cert.ReferenceInFirstIdeal.main_arg0)
          ∧ r.2.mem ((c.tc : Thread Cert.ReferenceInFirstIdeal.nD Cert.ReferenceInFirstIdeal.τ).loc Cert.ReferenceInFirstIdeal.main_arg1) = m' ((c.tc : Thread Cert.ReferenceInFirstIdeal.nD Cert.ReferenceInFirstIdeal.τ).loc Cert.ReferenceInFirstIdeal.main_arg1))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)) →
    ∃ (v0 : (c : Dev Cert.KernelNormIdeal.nD) → Buf (Elt Ideal) ((c.tc : Thread Cert.KernelNormIdeal.nD Cert.KernelNormIdeal.τ).loc Cert.KernelNormIdeal.main_v1)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v1) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v41) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2))

def preserves_KernelNext_KernelNextIdeal : Prop :=
  True

def algebraic_KernelNextIdeal_ReferenceNextIdeal [hKernelNextIdeal : Cert.KernelNextIdeal.Facts] [hReferenceNextIdeal : Cert.ReferenceNextIdeal.Facts] : Prop :=
  ∀ (m : (ℓ : Loc Cert.KernelNextIdeal.nD Cert.KernelNextIdeal.τ Cert.KernelNextIdeal.sig) → Buf (Elt Ideal) ℓ) (g : Dev Cert.KernelNextIdeal.nD → PrngReg)
    (m' : (ℓ : Loc Cert.ReferenceNextIdeal.nD Cert.ReferenceNextIdeal.τ Cert.ReferenceNextIdeal.sig) → Buf (Elt Ideal) ℓ) (g' : Dev Cert.ReferenceNextIdeal.nD → PrngReg), Pre_KernelNextIdeal m →
    (∀ c : Dev Cert.KernelNextIdeal.nD,
      m' ((c.tc : Thread Cert.ReferenceNextIdeal.nD Cert.ReferenceNextIdeal.τ).loc Cert.ReferenceNextIdeal.main_arg0) = m ((c.tc : Thread Cert.KernelNextIdeal.nD Cert.KernelNextIdeal.τ).loc Cert.KernelNextIdeal.main_arg0)
      ∧ m' ((c.tc : Thread Cert.ReferenceNextIdeal.nD Cert.ReferenceNextIdeal.τ).loc Cert.ReferenceNextIdeal.main_arg1) = m ((c.tc : Thread Cert.KernelNextIdeal.nD Cert.KernelNextIdeal.τ).loc Cert.KernelNextIdeal.main_arg1)
      ∧ m' ((c.tc : Thread Cert.ReferenceNextIdeal.nD Cert.ReferenceNextIdeal.τ).loc Cert.ReferenceNextIdeal.main_arg2) = m ((c.tc : Thread Cert.KernelNextIdeal.nD Cert.KernelNextIdeal.τ).loc Cert.KernelNextIdeal.main_arg2)
      ∧ m' ((c.tc : Thread Cert.ReferenceNextIdeal.nD Cert.ReferenceNextIdeal.τ).loc Cert.ReferenceNextIdeal.main_arg3) = m ((c.tc : Thread Cert.KernelNextIdeal.nD Cert.KernelNextIdeal.τ).loc Cert.KernelNextIdeal.main_arg3)) →
    ∃ (v0 : (c : Dev Cert.KernelNextIdeal.nD) → Buf (Elt Ideal) ((c.tc : Thread Cert.KernelNextIdeal.nD Cert.KernelNextIdeal.τ).loc Cert.KernelNextIdeal.main_v2_0)) (v1 : (c : Dev Cert.KernelNextIdeal.nD) → Buf (Elt Ideal) ((c.tc : Thread Cert.KernelNextIdeal.nD Cert.KernelNextIdeal.τ).loc Cert.KernelNextIdeal.main_v2_1)),
      θ_run (Cert.KernelNextIdeal.defs (F := Ideal)) (onTc (τ := Cert.KernelNextIdeal.τ) (Cert.KernelNextIdeal.main (F := Ideal))) ⟨m, fun _ => 0, g⟩ (fun r => ∀ c : Dev Cert.KernelNextIdeal.nD,
          r.2.mem ((c.tc : Thread Cert.KernelNextIdeal.nD Cert.KernelNextIdeal.τ).loc Cert.KernelNextIdeal.main_v2_0) = v0 c
          ∧ r.2.mem ((c.tc : Thread Cert.KernelNextIdeal.nD Cert.KernelNextIdeal.τ).loc Cert.KernelNextIdeal.main_v2_1) = v1 c
          ∧ r.2.mem ((c.tc : Thread Cert.KernelNextIdeal.nD Cert.KernelNextIdeal.τ).loc Cert.KernelNextIdeal.main_arg0) = m ((c.tc : Thread Cert.KernelNextIdeal.nD Cert.KernelNextIdeal.τ).loc Cert.KernelNextIdeal.main_arg0)
          ∧ r.2.mem ((c.tc : Thread Cert.KernelNextIdeal.nD Cert.KernelNextIdeal.τ).loc Cert.KernelNextIdeal.main_arg1) = m ((c.tc : Thread Cert.KernelNextIdeal.nD Cert.KernelNextIdeal.τ).loc Cert.KernelNextIdeal.main_arg1)
          ∧ r.2.mem ((c.tc : Thread Cert.KernelNextIdeal.nD Cert.KernelNextIdeal.τ).loc Cert.KernelNextIdeal.main_arg2) = m ((c.tc : Thread Cert.KernelNextIdeal.nD Cert.KernelNextIdeal.τ).loc Cert.KernelNextIdeal.main_arg2)
          ∧ r.2.mem ((c.tc : Thread Cert.KernelNextIdeal.nD Cert.KernelNextIdeal.τ).loc Cert.KernelNextIdeal.main_arg3) = m ((c.tc : Thread Cert.KernelNextIdeal.nD Cert.KernelNextIdeal.τ).loc Cert.KernelNextIdeal.main_arg3))
      ∧ θ_run (Cert.ReferenceNextIdeal.defs (F := Ideal)) (onTc (τ := Cert.ReferenceNextIdeal.τ) (Cert.ReferenceNextIdeal.main (F := Ideal))) ⟨m', fun _ => 0, g'⟩ (fun r => ∀ c : Dev Cert.ReferenceNextIdeal.nD,
          r.2.mem ((c.tc : Thread Cert.ReferenceNextIdeal.nD Cert.ReferenceNextIdeal.τ).loc Cert.ReferenceNextIdeal.main_v12) = v0 c
          ∧ r.2.mem ((c.tc : Thread Cert.ReferenceNextIdeal.nD Cert.ReferenceNextIdeal.τ).loc Cert.ReferenceNextIdeal.main_v54) = v1 c
          ∧ r.2.mem ((c.tc : Thread Cert.ReferenceNextIdeal.nD Cert.ReferenceNextIdeal.τ).loc Cert.ReferenceNextIdeal.main_arg0) = m' ((c.tc : Thread Cert.ReferenceNextIdeal.nD Cert.ReferenceNextIdeal.τ).loc Cert.ReferenceNextIdeal.main_arg0)
          ∧ r.2.mem ((c.tc : Thread Cert.ReferenceNextIdeal.nD Cert.ReferenceNextIdeal.τ).loc Cert.ReferenceNextIdeal.main_arg1) = m' ((c.tc : Thread Cert.ReferenceNextIdeal.nD Cert.ReferenceNextIdeal.τ).loc Cert.ReferenceNextIdeal.main_arg1)
          ∧ r.2.mem ((c.tc : Thread Cert.ReferenceNextIdeal.nD Cert.ReferenceNextIdeal.τ).loc Cert.ReferenceNextIdeal.main_arg2) = m' ((c.tc : Thread Cert.ReferenceNextIdeal.nD Cert.ReferenceNextIdeal.τ).loc Cert.ReferenceNextIdeal.main_arg2)
          ∧ r.2.mem ((c.tc : Thread Cert.ReferenceNextIdeal.nD Cert.ReferenceNextIdeal.τ).loc Cert.ReferenceNextIdeal.main_arg3) = m' ((c.tc : Thread Cert.ReferenceNextIdeal.nD Cert.ReferenceNextIdeal.τ).loc Cert.ReferenceNextIdeal.main_arg3))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)
      ∧ m' ((c.tc : Thread Cert.ReferenceModIdeal.nD Cert.ReferenceModIdeal.τ).loc Cert.ReferenceModIdeal.main_arg3) = m ((c.tc : Thread Cert.KernelModIdeal.nD Cert.KernelModIdeal.τ).loc Cert.KernelModIdeal.main_arg3)) →
    ∃ (v0 : (c : Dev Cert.KernelModIdeal.nD) → Buf (Elt Ideal) ((c.tc : Thread Cert.KernelModIdeal.nD Cert.KernelModIdeal.τ).loc Cert.KernelModIdeal.main_v3)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v3) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2)
          ∧ r.2.mem ((c.tc : Thread Cert.KernelModIdeal.nD Cert.KernelModIdeal.τ).loc Cert.KernelModIdeal.main_arg3) = m ((c.tc : Thread Cert.KernelModIdeal.nD Cert.KernelModIdeal.τ).loc Cert.KernelModIdeal.main_arg3))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v7) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2)
          ∧ r.2.mem ((c.tc : Thread Cert.ReferenceModIdeal.nD Cert.ReferenceModIdeal.τ).loc Cert.ReferenceModIdeal.main_arg3) = m' ((c.tc : Thread Cert.ReferenceModIdeal.nD Cert.ReferenceModIdeal.τ).loc Cert.ReferenceModIdeal.main_arg3))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelPost : Cert.KernelPost.Facts) (hKernelPostIdeal : Cert.KernelPostIdeal.Facts) (hReferencePostIdeal : Cert.ReferencePostIdeal.Facts) (hKernelPrompt : Cert.KernelPrompt.Facts) (hKernelPromptIdeal : Cert.KernelPromptIdeal.Facts) (hReferencePromptIdeal : Cert.ReferencePromptIdeal.Facts) (hKernelUpFirst : Cert.KernelUpFirst.Facts) (hKernelUpFirstIdeal : Cert.KernelUpFirstIdeal.Facts) (hReferenceUpFirstIdeal : Cert.ReferenceUpFirstIdeal.Facts) (hKernelInFirst : Cert.KernelInFirst.Facts) (hKernelInFirstIdeal : Cert.KernelInFirstIdeal.Facts) (hReferenceInFirstIdeal : Cert.ReferenceInFirstIdeal.Facts) (hKernelNorm : Cert.KernelNorm.Facts) (hKernelNormIdeal : Cert.KernelNormIdeal.Facts) (hReferenceNormIdeal : Cert.ReferenceNormIdeal.Facts) (hKernelNext : Cert.KernelNext.Facts) (hKernelNextIdeal : Cert.KernelNextIdeal.Facts) (hReferenceNextIdeal : Cert.ReferenceNextIdeal.Facts) (hKernelMod : Cert.KernelMod.Facts) (hKernelModIdeal : Cert.KernelModIdeal.Facts) (hReferenceModIdeal : Cert.ReferenceModIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelPost (hKernelPost := hKernelPost)
    ∧ quiescent_KernelPostIdeal (hKernelPostIdeal := hKernelPostIdeal)
    ∧ quiescent_ReferencePostIdeal (hReferencePostIdeal := hReferencePostIdeal)
    ∧ quiescent_KernelPrompt (hKernelPrompt := hKernelPrompt)
    ∧ quiescent_KernelPromptIdeal (hKernelPromptIdeal := hKernelPromptIdeal)
    ∧ quiescent_ReferencePromptIdeal (hReferencePromptIdeal := hReferencePromptIdeal)
    ∧ quiescent_KernelUpFirst (hKernelUpFirst := hKernelUpFirst)
    ∧ quiescent_KernelUpFirstIdeal (hKernelUpFirstIdeal := hKernelUpFirstIdeal)
    ∧ quiescent_ReferenceUpFirstIdeal (hReferenceUpFirstIdeal := hReferenceUpFirstIdeal)
    ∧ quiescent_KernelInFirst (hKernelInFirst := hKernelInFirst)
    ∧ quiescent_KernelInFirstIdeal (hKernelInFirstIdeal := hKernelInFirstIdeal)
    ∧ quiescent_ReferenceInFirstIdeal (hReferenceInFirstIdeal := hReferenceInFirstIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelNext (hKernelNext := hKernelNext)
    ∧ quiescent_KernelNextIdeal (hKernelNextIdeal := hKernelNextIdeal)
    ∧ quiescent_ReferenceNextIdeal (hReferenceNextIdeal := hReferenceNextIdeal)
    ∧ quiescent_KernelMod (hKernelMod := hKernelMod)
    ∧ quiescent_KernelModIdeal (hKernelModIdeal := hKernelModIdeal)
    ∧ quiescent_ReferenceModIdeal (hReferenceModIdeal := hReferenceModIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelPost_KernelPostIdeal
    ∧ algebraic_KernelPostIdeal_ReferencePostIdeal (hKernelPostIdeal := hKernelPostIdeal) (hReferencePostIdeal := hReferencePostIdeal)
    ∧ preserves_KernelPrompt_KernelPromptIdeal
    ∧ algebraic_KernelPromptIdeal_ReferencePromptIdeal (hKernelPromptIdeal := hKernelPromptIdeal) (hReferencePromptIdeal := hReferencePromptIdeal)
    ∧ preserves_KernelUpFirst_KernelUpFirstIdeal
    ∧ algebraic_KernelUpFirstIdeal_ReferenceUpFirstIdeal (hKernelUpFirstIdeal := hKernelUpFirstIdeal) (hReferenceUpFirstIdeal := hReferenceUpFirstIdeal)
    ∧ preserves_KernelInFirst_KernelInFirstIdeal
    ∧ algebraic_KernelInFirstIdeal_ReferenceInFirstIdeal (hKernelInFirstIdeal := hKernelInFirstIdeal) (hReferenceInFirstIdeal := hReferenceInFirstIdeal)
    ∧ preserves_KernelNorm_KernelNormIdeal
    ∧ algebraic_KernelNormIdeal_ReferenceNormIdeal (hKernelNormIdeal := hKernelNormIdeal) (hReferenceNormIdeal := hReferenceNormIdeal)
    ∧ preserves_KernelNext_KernelNextIdeal
    ∧ algebraic_KernelNextIdeal_ReferenceNextIdeal (hKernelNextIdeal := hKernelNextIdeal) (hReferenceNextIdeal := hReferenceNextIdeal)
    ∧ preserves_KernelMod_KernelModIdeal
    ∧ algebraic_KernelModIdeal_ReferenceModIdeal (hKernelModIdeal := hKernelModIdeal) (hReferenceModIdeal := hReferenceModIdeal)
-- ==== Pre_finite_qk.lean ====
abbrev S1x16384x16x128 : Shape := ⟨4, ![1, 16384, 16, 128]⟩
abbrev S1x16384x4x128 : Shape := ⟨4, ![1, 16384, 4, 128]⟩
abbrev S_ : Shape := ⟨0, ![]⟩

class Facts : Prop where
  bcast_S_S1x16384x16x128 : S_.BroadcastsInDim S1x16384x16x128 (![] : Fin 0 → Fin S1x16384x16x128.rank)
  reducesTo_S1x16384x16x128_S_d0_1_2_3 : S1x16384x16x128.ReducesTo [0, 1, 2, 3] S_
  h_S_ : 0 < S_.numel
  bcast_S_S1x16384x4x128 : S_.BroadcastsInDim S1x16384x4x128 (![] : Fin 0 → Fin S1x16384x4x128.rank)
  reducesTo_S1x16384x4x128_S_d0_1_2_3 : S1x16384x4x128.ReducesTo [0, 1, 2, 3] S_

variable [Facts]

def fn {F : FTy → Type} [FloatOps F] (main_arg0 : FVec F S1x16384x16x128 .f32) (main_arg1 : FVec F S1x16384x4x128 .f32) (main_arg2 : FVec F S1x16384x4x128 .f32) : IVec S_ 1 :=
  let main_v0 : FVec F S1x16384x16x128 .f32 := Host.absf main_arg0
  let main_cst : FVec F S_ .f32 := constant S_ .f32 0x7F800000#32
  let main_v1 : FVec F S1x16384x16x128 .f32 := broadcastInDim S1x16384x16x128 ![] bcast_S_S1x16384x16x128 main_cst
  let main_v2 : IVec S1x16384x16x128 1 := cmpf .olt main_v0 main_v1
  let main_c : IVec S_ 1 := constantI S_ 1 1#1
  let main_v3 : IVec S_ 1 := (fun x v => Host.reduce IntOp.andi x v reducesTo_S1x16384x16x128_S_d0_1_2_3 h_S_) main_v2 main_c
  let main_v4 : FVec F S1x16384x4x128 .f32 := Host.absf main_arg1
  let main_cst_0 : FVec F S_ .f32 := constant S_ .f32 0x7F800000#32
  let main_v5 : FVec F S1x16384x4x128 .f32 := broadcastInDim S1x16384x4x128 ![] bcast_S_S1x16384x4x128 main_cst_0
  let main_v6 : IVec S1x16384x4x128 1 := cmpf .olt main_v4 main_v5
  let main_c_1 : IVec S_ 1 := constantI S_ 1 1#1
  let main_v7 : IVec S_ 1 := (fun x v => Host.reduce IntOp.andi x v reducesTo_S1x16384x4x128_S_d0_1_2_3 h_S_) main_v6 main_c_1
  let main_v8 : IVec S_ 1 := andi main_v3 main_v7
  main_v8
-- ==== Kernel.lean ====
abbrev S1x16384x16x128 : Shape := ⟨4, ![1, 16384, 16, 128]⟩
abbrev S1x16384x4x128 : Shape := ⟨4, ![1, 16384, 4, 128]⟩
abbrev S16384x16x128 : Shape := ⟨3, ![16384, 16, 128]⟩
abbrev S16x16384x128 : Shape := ⟨3, ![16, 16384, 128]⟩
abbrev S16384x4x128 : Shape := ⟨3, ![16384, 4, 128]⟩
abbrev S4x16384x128 : Shape := ⟨3, ![4, 16384, 128]⟩
abbrev S20x16384x128 : Shape := ⟨3, ![20, 16384, 128]⟩
abbrev S32x512x4x128 : Shape := ⟨4, ![32, 512, 4, 128]⟩
abbrev S4x32x128x512 : Shape := ⟨4, ![4, 32, 128, 512]⟩
abbrev S_ : Shape := ⟨0, ![]⟩
abbrev S4x32x16x512 : Shape := ⟨4, ![4, 32, 16, 512]⟩
abbrev S4x32x144x512 : Shape := ⟨4, ![4, 32, 144, 512]⟩
abbrev S16384x2048 : Shape := ⟨2, ![16384, 2048]⟩
abbrev S4x512x128 : Shape := ⟨3, ![4, 512, 128]⟩
abbrev S1x16384x128 : Shape := ⟨3, ![1, 16384, 128]⟩
abbrev S1x32x144x512 : Shape := ⟨4, ![1, 32, 144, 512]⟩
abbrev S512x512 : Shape := ⟨2, ![512, 512]⟩
abbrev S128x2048 : Shape := ⟨2, ![128, 2048]⟩
abbrev S2x512x2048 : Shape := ⟨3, ![2, 512, 2048]⟩
abbrev S2x1x2048 : Shape := ⟨3, ![2, 1, 2048]⟩
abbrev S1x2048 : Shape := ⟨2, ![1, 2048]⟩
abbrev S144x2048 : Shape := ⟨2, ![144, 2048]⟩
abbrev S1x1 : Shape := ⟨2, ![1, 1]⟩
abbrev S2048x128 : Shape := ⟨2, ![2048, 128]⟩
abbrev S512x2048 : Shape := ⟨2, ![512, 2048]⟩
abbrev S1x512x2048 : Shape := ⟨3, ![1, 512, 2048]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S1 : Shape := ⟨1, ![1]⟩
abbrev S2048 : Shape := ⟨1, ![2048]⟩
abbrev S1x1x2048 : Shape := ⟨3, ![1, 1, 2048]⟩
abbrev S1x1x1 : Shape := ⟨3, ![1, 1, 1]⟩
abbrev S1x1x144x512 : Shape := ⟨4, ![1, 1, 144, 512]⟩
abbrev S144x512 : Shape := ⟨2, ![144, 512]⟩
abbrev S128x512 : Shape := ⟨2, ![128, 512]⟩

abbrev nBuf : Space → Nat
  | .hbm => 17
  | .vmem => 16
  | .smem => 0
  | _ => 0

abbrev bufTy : (tb : Table) → Fin (tcTables nBuf tb) → BufTy
  | .hbm, ⟨0, _⟩ => ⟨S1x16384x16x128, .f32⟩
  | .hbm, ⟨1, _⟩ => ⟨S1x16384x4x128, .f32⟩
  | .hbm, ⟨2, _⟩ => ⟨S1x16384x4x128, .f32⟩
  | .hbm, ⟨3, _⟩ => ⟨S16384x16x128, .f32⟩
  | .hbm, ⟨4, _⟩ => ⟨S16x16384x128, .f32⟩
  | .hbm, ⟨5, _⟩ => ⟨S16x16384x128, .bf16⟩
  | .hbm, ⟨6, _⟩ => ⟨S16384x4x128, .f32⟩
  | .hbm, ⟨7, _⟩ => ⟨S4x16384x128, .f32⟩
  | .hbm, ⟨8, _⟩ => ⟨S4x16384x128, .bf16⟩
  | .hbm, ⟨9, _⟩ => ⟨S20x16384x128, .bf16⟩
  | .hbm, ⟨10, _⟩ => ⟨S32x512x4x128, .f32⟩
  | .hbm, ⟨11, _⟩ => ⟨S4x32x128x512, .f32⟩
  | .hbm, ⟨12, _⟩ => ⟨S4x32x128x512, .bf16⟩
  | .hbm, ⟨13, _⟩ => ⟨S_, .bf16⟩
  | .hbm, ⟨14, _⟩ => ⟨S4x32x16x512, .bf16⟩
  | .hbm, ⟨15, _⟩ => ⟨S4x32x144x512, .bf16⟩
  | .hbm, ⟨16, _⟩ => ⟨S16384x2048, .bf16⟩
  | .local _ .vmem, ⟨0, _⟩ => ⟨S4x512x128, .bf16⟩
  | .local _ .vmem, ⟨1, _⟩ => ⟨S4x512x128, .bf16⟩
  | .local _ .vmem, ⟨2, _⟩ => ⟨S1x16384x128, .bf16⟩
  | .local _ .vmem, ⟨3, _⟩ => ⟨S1x16384x128, .bf16⟩
  | .local _ .vmem, ⟨4, _⟩ => ⟨S1x32x144x512, .bf16⟩
  | .local _ .vmem, ⟨5, _⟩ => ⟨S1x32x144x512, .bf16⟩
  | .local _ .vmem, ⟨6, _⟩ => ⟨S512x512, .bf16⟩
  | .local _ .vmem, ⟨7, _⟩ => ⟨S512x512, .bf16⟩
  | .local _ .vmem, ⟨8, _⟩ => ⟨S128x2048, .bf16⟩
  | .local _ .vmem, ⟨9, _⟩ => ⟨S2x512x2048, .f32⟩
  | .local _ .vmem, ⟨10, _⟩ => ⟨S2x1x2048, .f32⟩
  | .local _ .vmem, ⟨11, _⟩ => ⟨S2x512x2048, .bf16⟩
  | .local _ .vmem, ⟨12, _⟩ => ⟨S2x1x2048, .f32⟩
  | .local _ .vmem, ⟨13, _⟩ => ⟨S1x2048, .f32⟩
  | .local _ .vmem, ⟨14, _⟩ => ⟨S144x2048, .f32⟩
  | .local _ .vmem, ⟨15, _⟩ => ⟨S1x1, .f32⟩
  | _, _ => ⟨S1x16384x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![1, 4, 32], ![false, false, false]⟩

def k0_cond1 (i : grid0.Coords) : BitVec 1 :=
  let arg2 : BitVec 32 := BitVec.ofNat 32 (i 2).val
  let c0_i32 : BitVec 32 := 0#32
  let v19 : BitVec 1 := Scalar.cmpi .eq arg2 c0_i32
  let v20 : BitVec 32 := Scalar.extui v19
  let c0_i32_10 : BitVec 32 := 0#32
  let v21 : BitVec 1 := Scalar.cmpi .ne v20 c0_i32_10
  v21

@[reducible] def k0_t1_loop : Scf.Loop 32 :=
  let c0_i32_30 : BitVec 32 := 0#32
  let c32_i32 : BitVec 32 := 32#32
  let v62 : BitVec 32 := Scalar.addi c0_i32_30 c32_i32
  let c1_i32 : BitVec 32 := 1#32
  ⟨c0_i32_30, v62, c1_i32⟩
def k0_mult1 (k0_t1 : Fin k0_t1_loop.trips) : BitVec 32 :=
  let c0_i32_30 : BitVec 32 := 0#32
  let c1_i32 : BitVec 32 := 1#32
  let arg15 : BitVec 32 := Scf.iv c0_i32_30 c1_i32 k0_t1
  let c512_i32 : BitVec 32 := 512#32
  let v67 : BitVec 32 := Scalar.muli arg15 c512_i32
  v67
def k0_off1 (k0_t1 : Fin k0_t1_loop.trips) : Fin 3 → Nat :=
  let c0_34 : Index := 0#32
  let c0_i32_30 : BitVec 32 := 0#32
  let c1_i32 : BitVec 32 := 1#32
  let arg15 : BitVec 32 := Scf.iv c0_i32_30 c1_i32 k0_t1
  let c512_i32 : BitVec 32 := 512#32
  let v67 : BitVec 32 := Scalar.muli arg15 c512_i32
  let v68 : BitVec 32 := v67
  let v69 : Index := Scalar.indexCast v68
  let c0_35 : Index := 0#32
  ![0, v69.toNat, 0]
@[reducible] def k0_t2_loop : Scf.Loop 32 :=
  let c0_i32_29 : BitVec 32 := 0#32
  let c4_i32 : BitVec 32 := 4#32
  let v61 : BitVec 32 := Scalar.addi c0_i32_29 c4_i32
  let c1_i32 : BitVec 32 := 1#32
  ⟨c0_i32_29, v61, c1_i32⟩
def k0_mult2 (k0_t2 : Fin k0_t2_loop.trips) : BitVec 32 :=
  let c8_i32 : BitVec 32 := 8#32
  let c0_i32_29 : BitVec 32 := 0#32
  let c1_i32 : BitVec 32 := 1#32
  let arg15 : BitVec 32 := Scf.iv c0_i32_29 c1_i32 k0_t2
  let v72 : BitVec 32 := Scalar.muli c8_i32 arg15
  let c0_i32_42 : BitVec 32 := 0#32
  let v73 : BitVec 32 := Scalar.addi v72 c0_i32_42
  let c512_i32 : BitVec 32 := 512#32
  let v74 : BitVec 32 := Scalar.muli v73 c512_i32
  v74
def k0_off2 (k0_t2 : Fin k0_t2_loop.trips) (c0_i32_42 : BitVec 32) : Fin 3 → Nat :=
  let c0_43 : Index := 0#32
  let c8_i32 : BitVec 32 := 8#32
  let c0_i32_29 : BitVec 32 := 0#32
  let c1_i32 : BitVec 32 := 1#32
  let arg15 : BitVec 32 := Scf.iv c0_i32_29 c1_i32 k0_t2
  let v72 : BitVec 32 := Scalar.muli c8_i32 arg15
  let v73 : BitVec 32 := Scalar.addi v72 c0_i32_42
  let c512_i32 : BitVec 32 := 512#32
  let v74 : BitVec 32 := Scalar.muli v73 c512_i32
  let v75 : BitVec 32 := v74
  let v76 : Index := Scalar.indexCast v75
  let c0_44 : Index := 0#32
  ![0, v76.toNat, 0]
def k0_off3 (k0_t2 : Fin k0_t2_loop.trips) (c0_i32_42 : BitVec 32) : Fin 4 → Nat :=
  let c0_55 : Index := 0#32
  let c8_i32 : BitVec 32 := 8#32
  let c0_i32_29 : BitVec 32 := 0#32
  let c1_i32 : BitVec 32 := 1#32
  let arg15 : BitVec 32 := Scf.iv c0_i32_29 c1_i32 k0_t2
  let v72 : BitVec 32 := Scalar.muli c8_i32 arg15
  let v73 : BitVec 32 := Scalar.addi v72 c0_i32_42
  let c1_i32_53 : BitVec 32 := 1#32
  let v89 : BitVec 32 := Scalar.subi v73 c1_i32_53
  let c0_i32_54 : BitVec 32 := 0#32
  let v90 : BitVec 32 := Scalar.maxsi v89 c0_i32_54
  let v91 : Index := Scalar.indexCast v90
  let c0_56 : Index := 0#32
  let c0_57 : Index := 0#32
  ![0, v91.toNat, 0, 0]
def k0_mult3 (k0_t2 : Fin k0_t2_loop.trips) : BitVec 32 :=
  let c8_i32_64 : BitVec 32 := 8#32
  let c0_i32_29 : BitVec 32 := 0#32
  let c1_i32 : BitVec 32 := 1#32
  let arg15 : BitVec 32 := Scf.iv c0_i32_29 c1_i32 k0_t2
  let v101 : BitVec 32 := Scalar.muli c8_i32_64 arg15
  let c1_i32_65 : BitVec 32 := 1#32
  let v102 : BitVec 32 := Scalar.addi v101 c1_i32_65
  let c512_i32_66 : BitVec 32 := 512#32
  let v103 : BitVec 32 := Scalar.muli v102 c512_i32_66
  v103
def k0_mult4 (k0_t2 : Fin k0_t2_loop.trips) : BitVec 32 :=
  let c8_i32_88 : BitVec 32 := 8#32
  let c0_i32_29 : BitVec 32 := 0#32
  let c1_i32 : BitVec 32 := 1#32
  let arg15 : BitVec 32 := Scf.iv c0_i32_29 c1_i32 k0_t2
  let v130 : BitVec 32 := Scalar.muli c8_i32_88 arg15
  let c2_i32 : BitVec 32 := 2#32
  let v131 : BitVec 32 := Scalar.addi v130 c2_i32
  let c512_i32_89 : BitVec 32 := 512#32
  let v132 : BitVec 32 := Scalar.muli v131 c512_i32_89
  v132
def k0_mult5 (k0_t2 : Fin k0_t2_loop.trips) : BitVec 32 :=
  let c8_i32_111 : BitVec 32 := 8#32
  let c0_i32_29 : BitVec 32 := 0#32
  let c1_i32 : BitVec 32 := 1#32
  let arg15 : BitVec 32 := Scf.iv c0_i32_29 c1_i32 k0_t2
  let v159 : BitVec 32 := Scalar.muli c8_i32_111 arg15
  let c3_i32 : BitVec 32 := 3#32
  let v160 : BitVec 32 := Scalar.addi v159 c3_i32
  let c512_i32_112 : BitVec 32 := 512#32
  let v161 : BitVec 32 := Scalar.muli v160 c512_i32_112
  v161
def k0_mult6 (k0_t2 : Fin k0_t2_loop.trips) : BitVec 32 :=
  let c8_i32_134 : BitVec 32 := 8#32
  let c0_i32_29 : BitVec 32 := 0#32
  let c1_i32 : BitVec 32 := 1#32
  let arg15 : BitVec 32 := Scf.iv c0_i32_29 c1_i32 k0_t2
  let v188 : BitVec 32 := Scalar.muli c8_i32_134 arg15
  let c4_i32_135 : BitVec 32 := 4#32
  let v189 : BitVec 32 := Scalar.addi v188 c4_i32_135
  let c512_i32_136 : BitVec 32 := 512#32
  let v190 : BitVec 32 := Scalar.muli v189 c512_i32_136
  v190
def k0_mult7 (k0_t2 : Fin k0_t2_loop.trips) : BitVec 32 :=
  let c8_i32_158 : BitVec 32 := 8#32
  let c0_i32_29 : BitVec 32 := 0#32
  let c1_i32 : BitVec 32 := 1#32
  let arg15 : BitVec 32 := Scf.iv c0_i32_29 c1_i32 k0_t2
  let v217 : BitVec 32 := Scalar.muli c8_i32_158 arg15
  let c5_i32 : BitVec 32 := 5#32
  let v218 : BitVec 32 := Scalar.addi v217 c5_i32
  let c512_i32_159 : BitVec 32 := 512#32
  let v219 : BitVec 32 := Scalar.muli v218 c512_i32_159
  v219
def k0_mult8 (k0_t2 : Fin k0_t2_loop.trips) : BitVec 32 :=
  let c8_i32_181 : BitVec 32 := 8#32
  let c0_i32_29 : BitVec 32 := 0#32
  let c1_i32 : BitVec 32 := 1#32
  let arg15 : BitVec 32 := Scf.iv c0_i32_29 c1_i32 k0_t2
  let v246 : BitVec 32 := Scalar.muli c8_i32_181 arg15
  let c6_i32 : BitVec 32 := 6#32
  let v247 : BitVec 32 := Scalar.addi v246 c6_i32
  let c512_i32_182 : BitVec 32 := 512#32
  let v248 : BitVec 32 := Scalar.muli v247 c512_i32_182
  v248
def k0_mult9 (k0_t2 : Fin k0_t2_loop.trips) : BitVec 32 :=
  let c8_i32_204 : BitVec 32 := 8#32
  let c0_i32_29 : BitVec 32 := 0#32
  let c1_i32 : BitVec 32 := 1#32
  let arg15 : BitVec 32 := Scf.iv c0_i32_29 c1_i32 k0_t2
  let v275 : BitVec 32 := Scalar.muli c8_i32_204 arg15
  let c7_i32 : BitVec 32 := 7#32
  let v276 : BitVec 32 := Scalar.addi v275 c7_i32
  let c512_i32_205 : BitVec 32 := 512#32
  let v277 : BitVec 32 := Scalar.muli v276 c512_i32_205
  v277
def k0_mult10 : BitVec 32 :=
  let c0_i32_36 : BitVec 32 := 0#32
  c0_i32_36
@[reducible] def k0_t3_loop : Scf.Loop 32 :=
  let c0_i32_49 : BitVec 32 := 0#32
  let c4_i32 : BitVec 32 := 4#32
  let v83 : BitVec 32 := Scalar.addi c0_i32_49 c4_i32
  let c1_i32 : BitVec 32 := 1#32
  ⟨c0_i32_49, v83, c1_i32⟩
def k0_off4 (k0_t3 : Fin k0_t3_loop.trips) (c0_i32_65 : BitVec 32) : Fin 4 → Nat :=
  let c0_84 : Index := 0#32
  let c8_i32 : BitVec 32 := 8#32
  let c0_i32_49 : BitVec 32 := 0#32
  let c1_i32 : BitVec 32 := 1#32
  let arg15 : BitVec 32 := Scf.iv c0_i32_49 c1_i32 k0_t3
  let v98 : BitVec 32 := Scalar.muli c8_i32 arg15
  let v99 : BitVec 32 := Scalar.addi v98 c0_i32_65
  let c1_i32_82 : BitVec 32 := 1#32
  let v121 : BitVec 32 := Scalar.subi v99 c1_i32_82
  let c0_i32_83 : BitVec 32 := 0#32
  let v122 : BitVec 32 := Scalar.maxsi v121 c0_i32_83
  let v123 : Index := Scalar.indexCast v122
  let c0_85 : Index := 0#32
  let c0_86 : Index := 0#32
  ![0, v123.toNat, 0, 0]
def k0_mult11 (k0_t3 : Fin k0_t3_loop.trips) : BitVec 32 :=
  let c8_i32 : BitVec 32 := 8#32
  let c0_i32_49 : BitVec 32 := 0#32
  let c1_i32 : BitVec 32 := 1#32
  let arg15 : BitVec 32 := Scf.iv c0_i32_49 c1_i32 k0_t3
  let v98 : BitVec 32 := Scalar.muli c8_i32 arg15
  let c0_i32_65 : BitVec 32 := 0#32
  let v99 : BitVec 32 := Scalar.addi v98 c0_i32_65
  let c1_i32_98 : BitVec 32 := 1#32
  let v138 : BitVec 32 := Scalar.addi v99 c1_i32_98
  let c31_i32 : BitVec 32 := 31#32
  let v139 : BitVec 32 := Scalar.minsi v138 c31_i32
  let c512_i32 : BitVec 32 := 512#32
  let v140 : BitVec 32 := Scalar.muli v139 c512_i32
  v140
def k0_off5 (k0_t3 : Fin k0_t3_loop.trips) (c0_i32_65 : BitVec 32) : Fin 3 → Nat :=
  let c0_99 : Index := 0#32
  let c8_i32 : BitVec 32 := 8#32
  let c0_i32_49 : BitVec 32 := 0#32
  let c1_i32 : BitVec 32 := 1#32
  let arg15 : BitVec 32 := Scf.iv c0_i32_49 c1_i32 k0_t3
  let v98 : BitVec 32 := Scalar.muli c8_i32 arg15
  let v99 : BitVec 32 := Scalar.addi v98 c0_i32_65
  let c1_i32_98 : BitVec 32 := 1#32
  let v138 : BitVec 32 := Scalar.addi v99 c1_i32_98
  let c31_i32 : BitVec 32 := 31#32
  let v139 : BitVec 32 := Scalar.minsi v138 c31_i32
  let c512_i32 : BitVec 32 := 512#32
  let v140 : BitVec 32 := Scalar.muli v139 c512_i32
  let v141 : BitVec 32 := v140
  let v142 : Index := Scalar.indexCast v141
  let c0_100 : Index := 0#32
  ![0, v142.toNat, 0]
def k0_mult12 (k0_t3 : Fin k0_t3_loop.trips) : BitVec 32 :=
  let c8_i32_111 : BitVec 32 := 8#32
  let c0_i32_49 : BitVec 32 := 0#32
  let c1_i32 : BitVec 32 := 1#32
  let arg15 : BitVec 32 := Scf.iv c0_i32_49 c1_i32 k0_t3
  let v155 : BitVec 32 := Scalar.muli c8_i32_111 arg15
  let c1_i32_112 : BitVec 32 := 1#32
  let v156 : BitVec 32 := Scalar.addi v155 c1_i32_112
  let c1_i32_145 : BitVec 32 := 1#32
  let v195 : BitVec 32 := Scalar.addi v156 c1_i32_145
  let c31_i32_146 : BitVec 32 := 31#32
  let v196 : BitVec 32 := Scalar.minsi v195 c31_i32_146
  let c512_i32_147 : BitVec 32 := 512#32
  let v197 : BitVec 32 := Scalar.muli v196 c512_i32_147
  v197
def k0_mult13 (k0_t3 : Fin k0_t3_loop.trips) : BitVec 32 :=
  let c8_i32_160 : BitVec 32 := 8#32
  let c0_i32_49 : BitVec 32 := 0#32
  let c1_i32 : BitVec 32 := 1#32
  let arg15 : BitVec 32 := Scf.iv c0_i32_49 c1_i32 k0_t3
  let v212 : BitVec 32 := Scalar.muli c8_i32_160 arg15
  let c2_i32 : BitVec 32 := 2#32
  let v213 : BitVec 32 := Scalar.addi v212 c2_i32
  let c1_i32_193 : BitVec 32 := 1#32
  let v252 : BitVec 32 := Scalar.addi v213 c1_i32_193
  let c31_i32_194 : BitVec 32 := 31#32
  let v253 : BitVec 32 := Scalar.minsi v252 c31_i32_194
  let c512_i32_195 : BitVec 32 := 512#32
  let v254 : BitVec 32 := Scalar.muli v253 c512_i32_195
  v254
def k0_mult14 (k0_t3 : Fin k0_t3_loop.trips) : BitVec 32 :=
  let c8_i32_208 : BitVec 32 := 8#32
  let c0_i32_49 : BitVec 32 := 0#32
  let c1_i32 : BitVec 32 := 1#32
  let arg15 : BitVec 32 := Scf.iv c0_i32_49 c1_i32 k0_t3
  let v269 : BitVec 32 := Scalar.muli c8_i32_208 arg15
  let c3_i32 : BitVec 32 := 3#32
  let v270 : BitVec 32 := Scalar.addi v269 c3_i32
  let c1_i32_241 : BitVec 32 := 1#32
  let v309 : BitVec 32 := Scalar.addi v270 c1_i32_241
  let c31_i32_242 : BitVec 32 := 31#32
  let v310 : BitVec 32 := Scalar.minsi v309 c31_i32_242
  let c512_i32_243 : BitVec 32 := 512#32
  let v311 : BitVec 32 := Scalar.muli v310 c512_i32_243
  v311
def k0_mult15 (k0_t3 : Fin k0_t3_loop.trips) : BitVec 32 :=
  let c8_i32_256 : BitVec 32 := 8#32
  let c0_i32_49 : BitVec 32 := 0#32
  let c1_i32 : BitVec 32 := 1#32
  let arg15 : BitVec 32 := Scf.iv c0_i32_49 c1_i32 k0_t3
  let v326 : BitVec 32 := Scalar.muli c8_i32_256 arg15
  let c4_i32_257 : BitVec 32 := 4#32
  let v327 : BitVec 32 := Scalar.addi v326 c4_i32_257
  let c1_i32_290 : BitVec 32 := 1#32
  let v366 : BitVec 32 := Scalar.addi v327 c1_i32_290
  let c31_i32_291 : BitVec 32 := 31#32
  let v367 : BitVec 32 := Scalar.minsi v366 c31_i32_291
  let c512_i32_292 : BitVec 32 := 512#32
  let v368 : BitVec 32 := Scalar.muli v367 c512_i32_292
  v368
def k0_mult16 (k0_t3 : Fin k0_t3_loop.trips) : BitVec 32 :=
  let c8_i32_305 : BitVec 32 := 8#32
  let c0_i32_49 : BitVec 32 := 0#32
  let c1_i32 : BitVec 32 := 1#32
  let arg15 : BitVec 32 := Scf.iv c0_i32_49 c1_i32 k0_t3
  let v383 : BitVec 32 := Scalar.muli c8_i32_305 arg15
  let c5_i32 : BitVec 32 := 5#32
  let v384 : BitVec 32 := Scalar.addi v383 c5_i32
  let c1_i32_338 : BitVec 32 := 1#32
  let v423 : BitVec 32 := Scalar.addi v384 c1_i32_338
  let c31_i32_339 : BitVec 32 := 31#32
  let v424 : BitVec 32 := Scalar.minsi v423 c31_i32_339
  let c512_i32_340 : BitVec 32 := 512#32
  let v425 : BitVec 32 := Scalar.muli v424 c512_i32_340
  v425
def k0_mult17 (k0_t3 : Fin k0_t3_loop.trips) : BitVec 32 :=
  let c8_i32_353 : BitVec 32 := 8#32
  let c0_i32_49 : BitVec 32 := 0#32
  let c1_i32 : BitVec 32 := 1#32
  let arg15 : BitVec 32 := Scf.iv c0_i32_49 c1_i32 k0_t3
  let v440 : BitVec 32 := Scalar.muli c8_i32_353 arg15
  let c6_i32 : BitVec 32 := 6#32
  let v441 : BitVec 32 := Scalar.addi v440 c6_i32
  let c1_i32_386 : BitVec 32 := 1#32
  let v480 : BitVec 32 := Scalar.addi v441 c1_i32_386
  let c31_i32_387 : BitVec 32 := 31#32
  let v481 : BitVec 32 := Scalar.minsi v480 c31_i32_387
  let c512_i32_388 : BitVec 32 := 512#32
  let v482 : BitVec 32 := Scalar.muli v481 c512_i32_388
  v482
def k0_mult18 (k0_t3 : Fin k0_t3_loop.trips) : BitVec 32 :=
  let c8_i32_401 : BitVec 32 := 8#32
  let c0_i32_49 : BitVec 32 := 0#32
  let c1_i32 : BitVec 32 := 1#32
  let arg15 : BitVec 32 := Scf.iv c0_i32_49 c1_i32 k0_t3
  let v497 : BitVec 32 := Scalar.muli c8_i32_401 arg15
  let c7_i32 : BitVec 32 := 7#32
  let v498 : BitVec 32 := Scalar.addi v497 c7_i32
  let c1_i32_434 : BitVec 32 := 1#32
  let v537 : BitVec 32 := Scalar.addi v498 c1_i32_434
  let c31_i32_435 : BitVec 32 := 31#32
  let v538 : BitVec 32 := Scalar.minsi v537 c31_i32_435
  let c512_i32_436 : BitVec 32 := 512#32
  let v539 : BitVec 32 := Scalar.muli v538 c512_i32_436
  v539
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![arg1.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let v1 : BitVec 32 := Scalar.addi c0_i32 arg0
  let c0_i32_0 : BitVec 32 := 0#32
  let c0_i32_1 : BitVec 32 := 0#32
  ![v0.toNat, v1.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![arg1.toNat, v0.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.muli arg0 c32_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x32x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "qk_scale" => some (((Real.sqrt 128)⁻¹ * (Real.log 2)⁻¹ : ℝ) : EReal)
  | _ => none
-- ==== ReferenceIdeal.lean ====
abbrev S1x16384x16x128 : Shape := ⟨4, ![1, 16384, 16, 128]⟩
abbrev S1x16384x4x128 : Shape := ⟨4, ![1, 16384, 4, 128]⟩
abbrev S1x16384x4x4x128 : Shape := ⟨5, ![1, 16384, 4, 4, 128]⟩
abbrev S1x4x16384x16384x4 : Shape := ⟨5, ![1, 4, 16384, 16384, 4]⟩
abbrev S1x4x4x16384x16384 : Shape := ⟨5, ![1, 4, 4, 16384, 16384]⟩
abbrev S_ : Shape := ⟨0, ![]⟩
abbrev S1x4x4x16384 : Shape := ⟨4, ![1, 4, 4, 16384]⟩
abbrev S1x4x4x16384x1 : Shape := ⟨5, ![1, 4, 4, 16384, 1]⟩
abbrev S1x4x128x4x16384 : Shape := ⟨5, ![1, 4, 128, 4, 16384]⟩
abbrev S16384x2048 : Shape := ⟨2, ![16384, 2048]⟩

abbrev nBuf : Space → Nat
  | .hbm => 28
  | .vmem => 0
  | .smem => 0
  | _ => 0

abbrev bufTy : (tb : Table) → Fin (tcTables nBuf tb) → BufTy
  | .hbm, ⟨0, _⟩ => ⟨S1x16384x16x128, .f32⟩
  | .hbm, ⟨1, _⟩ => ⟨S1x16384x4x128, .f32⟩
  | .hbm, ⟨2, _⟩ => ⟨S1x16384x4x128, .f32⟩
  | .hbm, ⟨3, _⟩ => ⟨S1x16384x4x4x128, .f32⟩
  | .hbm, ⟨4, _⟩ => ⟨S1x4x16384x16384x4, .f32⟩
  | .hbm, ⟨5, _⟩ => ⟨S1x4x4x16384x16384, .f32⟩
  | .hbm, ⟨6, _⟩ => ⟨S_, .f32⟩
  | .hbm, ⟨7, _⟩ => ⟨S_, .f32⟩
  | .hbm, ⟨8, _⟩ => ⟨S1x4x4x16384x16384, .f32⟩
  | .hbm, ⟨9, _⟩ => ⟨S1x4x4x16384x16384, .f32⟩
  | .hbm, ⟨10, _⟩ => ⟨S_, .f32⟩
  | .hbm, ⟨11, _⟩ => ⟨S1x4x4x16384, .f32⟩
  | .hbm, ⟨12, _⟩ => ⟨S_, .f32⟩
  | .hbm, ⟨13, _⟩ => ⟨S1x4x4x16384, .f32⟩
  | .hbm, ⟨14, _⟩ => ⟨S1x4x4x16384, .f32⟩
  | .hbm, ⟨15, _⟩ => ⟨S1x4x4x16384x1, .f32⟩
  | .hbm, ⟨16, _⟩ => ⟨S1x4x4x16384x16384, .f32⟩
  | .hbm, ⟨17, _⟩ => ⟨S1x4x4x16384x16384, .f32⟩
  | .hbm, ⟨18, _⟩ => ⟨S1x4x4x16384x16384, .f32⟩
  | .hbm, ⟨19, _⟩ => ⟨S_, .f32⟩
  | .hbm, ⟨20, _⟩ => ⟨S1x4x4x16384, .f32⟩
  | .hbm, ⟨21, _⟩ => ⟨S1x4x4x16384x1, .f32⟩
  | .hbm, ⟨22, _⟩ => ⟨S1x4x4x16384x16384, .f32⟩
  | .hbm, ⟨23, _⟩ => ⟨S1x4x4x16384x16384, .f32⟩
  | .hbm, ⟨24, _⟩ => ⟨S1x4x128x4x16384, .f32⟩
  | .hbm, ⟨25, _⟩ => ⟨S1x16384x4x4x128, .f32⟩
  | .hbm, ⟨26, _⟩ => ⟨S16384x2048, .f32⟩
  | .hbm, ⟨27, _⟩ => ⟨S16384x2048, .bf16⟩
  | _, _ => ⟨S1x16384x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== KernelUp.lean ====
abbrev S24576x4096 : Shape := ⟨2, ![24576, 4096]⟩
abbrev S4096x11008 : Shape := ⟨2, ![4096, 11008]⟩
abbrev S24576x11008 : Shape := ⟨2, ![24576, 11008]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 5
  | .vmem => 8
  | .smem => 0
  | _ => 0

abbrev bufTy : (tb : Table) → Fin (tcTables nBuf tb) → BufTy
  | .hbm, ⟨0, _⟩ => ⟨S24576x4096, .bf16⟩
  | .hbm, ⟨1, _⟩ => ⟨S4096x11008, .bf16⟩
  | .hbm, ⟨2, _⟩ => ⟨S4096x11008, .bf16⟩
  | .hbm, ⟨3, _⟩ => ⟨S24576x11008, .bf16⟩
  | .hbm, ⟨4, _⟩ => ⟨S24576x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1024x256, .bf16⟩
  | .local _ .vmem, ⟨7, _⟩ => ⟨S1024x256, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![23, 43], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![v0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceUpIdeal.lean ====
abbrev S24576x4096 : Shape := ⟨2, ![24576, 4096]⟩
abbrev S4096x11008 : Shape := ⟨2, ![4096, 11008]⟩
abbrev S24576x11008 : Shape := ⟨2, ![24576, 11008]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x11008, .bf16⟩
  | .hbm, ⟨2, _⟩ => ⟨S4096x11008, .bf16⟩
  | .hbm, ⟨3, _⟩ => ⟨S24576x11008, .bf16⟩
  | .hbm, ⟨4, _⟩ => ⟨S24576x11008, .f32⟩
  | .hbm, ⟨5, _⟩ => ⟨S24576x11008, .f32⟩
  | .hbm, ⟨6, _⟩ => ⟨S24576x11008, .f32⟩
  | .hbm, ⟨7, _⟩ => ⟨S24576x11008, .f32⟩
  | .hbm, ⟨8, _⟩ => ⟨S_, .f32⟩
  | .hbm, ⟨9, _⟩ => ⟨S24576x11008, .f32⟩
  | .hbm, ⟨10, _⟩ => ⟨S24576x11008, .f32⟩
  | .hbm, ⟨11, _⟩ => ⟨S_, .f32⟩
  | .hbm, ⟨12, _⟩ => ⟨S24576x11008, .f32⟩
  | .hbm, ⟨13, _⟩ => ⟨S24576x11008, .f32⟩
  | .hbm, ⟨14, _⟩ => ⟨S24576x11008, .f32⟩
  | .hbm, ⟨15, _⟩ => ⟨S24576x11008, .f32⟩
  | .hbm, ⟨16, _⟩ => ⟨S24576x11008, .i32⟩
  | .hbm, ⟨17, _⟩ => ⟨S_, .i32⟩
  | .hbm, ⟨18, _⟩ => ⟨S24576x11008, .i32⟩
  | .hbm, ⟨19, _⟩ => ⟨S24576x11008, .i1⟩
  | .hbm, ⟨20, _⟩ => ⟨S24576x11008, .bf16⟩
  | .hbm, ⟨21, _⟩ => ⟨S24576x11008, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== KernelDown.lean ====
abbrev S24576x11008 : Shape := ⟨2, ![24576, 11008]⟩
abbrev S2x11008x4096 : Shape := ⟨3, ![2, 11008, 4096]⟩
abbrev S24576x4096 : Shape := ⟨2, ![24576, 4096]⟩
abbrev S8x1x36864 : Shape := ⟨3, ![8, 1, 36864]⟩
abbrev S512x11008 : Shape := ⟨2, ![512, 11008]⟩
abbrev S1x11008x512 : Shape := ⟨3, ![1, 11008, 512]⟩
abbrev S512x512 : Shape := ⟨2, ![512, 512]⟩
abbrev S1x1x512 : Shape := ⟨3, ![1, 1, 512]⟩
abbrev S11008x512 : Shape := ⟨2, ![11008, 512]⟩
abbrev S1x512 : Shape := ⟨2, ![1, 512]⟩

abbrev nBuf : Space → Nat
  | .hbm => 5
  | .vmem => 10
  | .smem => 0
  | _ => 0

abbrev bufTy : (tb : Table) → Fin (tcTables nBuf tb) → BufTy
  | .hbm, ⟨0, _⟩ => ⟨S24576x11008, .bf16⟩
  | .hbm, ⟨1, _⟩ => ⟨S2x11008x4096, .bf16⟩
  | .hbm, ⟨2, _⟩ => ⟨S24576x4096, .f32⟩
  | .hbm, ⟨3, _⟩ => ⟨S8x1x36864, .f32⟩
  | .hbm, ⟨4, _⟩ => ⟨S24576x4096, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S24576x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![48, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c512_i32 : BitVec 32 := 512#32
  let v1 : BitVec 32 := Scalar.muli v0 c512_i32
  let c16384_i32 : BitVec 32 := 16384#32
  let v2 : BitVec 32 := Scalar.subi v1 c16384_i32
  let c4096_i32 : BitVec 32 := 4096#32
  let v3 : BitVec 32 := Scalar.divsi v2 c4096_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c4096_i32 c0_i32_2
  let v10 : BitVec 32 := Scalar.extui v9
  let c0_i32_3 : BitVec 32 := 0#32
  let v11 : BitVec 1 := Scalar.cmpi .slt c4096_i32 c0_i32_3
  let v12 : BitVec 32 := Scalar.extui v11
  let v13 : BitVec 32 := Scalar.subi v10 v12
  let v14 : BitVec 1 := Scalar.cmpi .ne v8 v13
  let v15 : BitVec 32 := Scalar.remsi v2 c4096_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.subi v1 c0_i32_6
  let c16384_i32_7 : BitVec 32 := 16384#32
  let v22 : BitVec 32 := Scalar.divsi v21 c16384_i32_7
  let c0_i32_8 : BitVec 32 := 0#32
  let v23 : BitVec 1 := Scalar.cmpi .sgt v21 c0_i32_8
  let v24 : BitVec 32 := Scalar.extui v23
  let c0_i32_9 : BitVec 32 := 0#32
  let v25 : BitVec 1 := Scalar.cmpi .slt v21 c0_i32_9
  let v26 : BitVec 32 := Scalar.extui v25
  let v27 : BitVec 32 := Scalar.subi v24 v26
  let c0_i32_10 : BitVec 32 := 0#32
  let v28 : BitVec 1 := Scalar.cmpi .sgt c16384_i32_7 c0_i32_10
  let v29 : BitVec 32 := Scalar.extui v28
  let c0_i32_11 : BitVec 32 := 0#32
  let v30 : BitVec 1 := Scalar.cmpi .slt c16384_i32_7 c0_i32_11
  let v31 : BitVec 32 := Scalar.extui v30
  let v32 : BitVec 32 := Scalar.subi v29 v31
  let v33 : BitVec 1 := Scalar.cmpi .ne v27 v32
  let v34 : BitVec 32 := Scalar.remsi v21 c16384_i32_7
  let c0_i32_12 : BitVec 32 := 0#32
  let v35 : BitVec 1 := Scalar.cmpi .ne v34 c0_i32_12
  let v36 : BitVec 1 := Scalar.andi v33 v35
  let c1_i32_13 : BitVec 32 := 1#32
  let v37 : BitVec 32 := Scalar.subi v22 c1_i32_13
  let v38 : BitVec 32 := Scalar.select v36 v37 v22
  let c0_i32_14 : BitVec 32 := 0#32
  let v39 : BitVec 32 := Scalar.addi c0_i32_14 v38
  let c16384_i32_15 : BitVec 32 := 16384#32
  let v40 : BitVec 1 := Scalar.cmpi .slt v1 c16384_i32_15
  let v41 : BitVec 32 := Scalar.select v40 v39 v20
  let c64_i32 : BitVec 32 := 64#32
  let v42 : BitVec 32 := Scalar.addi c64_i32 arg1
  let c0_i32_16 : BitVec 32 := 0#32
  let c0_i32_17 : BitVec 32 := 0#32
  ![v41.toNat, c0_i32_16.toNat, v42.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceDownIdeal.lean ====
abbrev S24576x11008 : Shape := ⟨2, ![24576, 11008]⟩
abbrev S2x11008x4096 : Shape := ⟨3, ![2, 11008, 4096]⟩
abbrev S24576x4096 : Shape := ⟨2, ![24576, 4096]⟩
abbrev S8x1x36864 : Shape := ⟨3, ![8, 1, 36864]⟩
abbrev S1x11008x4096 : Shape := ⟨3, ![1, 11008, 4096]⟩
abbrev S11008x4096 : Shape := ⟨2, ![11008, 4096]⟩
abbrev S8x1x4096 : Shape := ⟨3, ![8, 1, 4096]⟩
abbrev S8x4096 : Shape := ⟨2, ![8, 4096]⟩
abbrev S1x4096 : Shape := ⟨2, ![1, 4096]⟩
abbrev S4096 : Shape := ⟨1, ![4096]⟩
abbrev S16384x4096 : Shape := ⟨2, ![16384, 4096]⟩
abbrev S4096x4096 : Shape := ⟨2, ![4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S24576x11008, .bf16⟩
  | .hbm, ⟨1, _⟩ => ⟨S2x11008x4096, .bf16⟩
  | .hbm, ⟨2, _⟩ => ⟨S24576x4096, .f32⟩
  | .hbm, ⟨3, _⟩ => ⟨S8x1x36864, .f32⟩
  | .hbm, ⟨4, _⟩ => ⟨S1x11008x4096, .bf16⟩
  | .hbm, ⟨5, _⟩ => ⟨S11008x4096, .bf16⟩
  | .hbm, ⟨6, _⟩ => ⟨S24576x4096, .f32⟩
  | .hbm, ⟨7, _⟩ => ⟨S8x1x4096, .f32⟩
  | .hbm, ⟨8, _⟩ => ⟨S8x4096, .f32⟩
  | .hbm, ⟨9, _⟩ => ⟨S1x4096, .f32⟩
  | .hbm, ⟨10, _⟩ => ⟨S4096, .f32⟩
  | .hbm, ⟨11, _⟩ => ⟨S16384x4096, .f32⟩
  | .hbm, ⟨12, _⟩ => ⟨S1x4096, .f32⟩
  | .hbm, ⟨13, _⟩ => ⟨S4096, .f32⟩
  | .hbm, ⟨14, _⟩ => ⟨S4096x4096, .f32⟩
  | .hbm, ⟨15, _⟩ => ⟨S1x4096, .f32⟩
  | .hbm, ⟨16, _⟩ => ⟨S4096, .f32⟩
  | .hbm, ⟨17, _⟩ => ⟨S4096x4096, .f32⟩
  | .hbm, ⟨18, _⟩ => ⟨S24576x4096, .f32⟩
  | .hbm, ⟨19, _⟩ => ⟨S_, .f32⟩
  | .hbm, ⟨20, _⟩ => ⟨S24576x4096, .f32⟩
  | .hbm, ⟨21, _⟩ => ⟨S24576x4096, .f32⟩
  | .hbm, ⟨22, _⟩ => ⟨S24576x4096, .f32⟩
  | .hbm, ⟨23, _⟩ => ⟨S24576x4096, .f32⟩
  | _, _ => ⟨S24576x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩

abbrev nD : Nat := 1
abbrev τ : Topo := Topo.v7x

variable {F : FTy → Type} [FloatOps F]
-- ==== KernelIn.lean ====
abbrev S24576x4096 : Shape := ⟨2, ![24576, 4096]⟩
abbrev S4096x11264 : Shape := ⟨2, ![4096, 11264]⟩
abbrev S88x24576x128 : Shape := ⟨3, ![88, 24576, 128]⟩
abbrev S1024x4096 : Shape := ⟨2, ![1024, 4096]⟩
abbrev S4096x1024 : Shape := ⟨2, ![4096, 1024]⟩
abbrev S8x1024x128 : Shape := ⟨3, ![8, 1024, 128]⟩
abbrev S1024x1024 : Shape := ⟨2, ![1024, 1024]⟩
abbrev S1024x128 : Shape := ⟨2, ![1024, 128]⟩
abbrev S1x1024x128 : Shape := ⟨3, ![1, 1024, 128]⟩

abbrev nBuf : Space → Nat
  | .hbm => 4
  | .vmem => 6
  | .smem => 0
  | _ => 0

abbrev bufTy : (tb : Table) → Fin (tcTables nBuf tb) → BufTy
  | .hbm, ⟨0, _⟩ => ⟨S24576x4096, .bf16⟩
  | .hbm, ⟨1, _⟩ => ⟨S4096x11264, .bf16⟩
  | .hbm, ⟨2, _⟩ => ⟨S88x24576x128, .bf16⟩
  | .hbm, ⟨3, _⟩ => ⟨S88x24576x128, .bf16⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S8x1024x128, .bf16⟩
  | .local _ .vmem, ⟨5, _⟩ => ⟨S8x1024x128, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![23, 11], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![arg1.toNat, v0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceInIdeal.lean ====
abbrev S24576x4096 : Shape := ⟨2, ![24576, 4096]⟩
abbrev S4096x11264 : Shape := ⟨2, ![4096, 11264]⟩
abbrev S88x24576x128 : Shape := ⟨3, ![88, 24576, 128]⟩
abbrev S24576x11264 : Shape := ⟨2, ![24576, 11264]⟩
abbrev S24576x88x128 : Shape := ⟨3, ![24576, 88, 128]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S4096x11264, .bf16⟩
  | .hbm, ⟨2, _⟩ => ⟨S88x24576x128, .bf16⟩
  | .hbm, ⟨3, _⟩ => ⟨S24576x11264, .f32⟩
  | .hbm, ⟨4, _⟩ => ⟨S24576x11264, .bf16⟩
  | .hbm, ⟨5, _⟩ => ⟨S24576x88x128, .bf16⟩
  | .hbm, ⟨6, _⟩ => ⟨S88x24576x128, .bf16⟩
  | .hbm, ⟨7, _⟩ => ⟨S88x24576x128, .i32⟩
  | .hbm, ⟨8, _⟩ => ⟨S_, .i32⟩
  | .hbm, ⟨9, _⟩ => ⟨S88x24576x128, .i32⟩
  | .hbm, ⟨10, _⟩ => ⟨S88x24576x128, .i1⟩
  | .hbm, ⟨11, _⟩ => ⟨S88x24576x128, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== KernelOut.lean ====
abbrev S24576x2048 : Shape := ⟨2, ![24576, 2048]⟩
abbrev S2x4096x4096 : Shape := ⟨3, ![2, 4096, 4096]⟩
abbrev S24576x4096 : Shape := ⟨2, ![24576, 4096]⟩
abbrev S8x1x36864 : Shape := ⟨3, ![8, 1, 36864]⟩
abbrev S1024x2048 : Shape := ⟨2, ![1024, 2048]⟩
abbrev S1x2048x512 : Shape := ⟨3, ![1, 2048, 512]⟩
abbrev S1024x512 : Shape := ⟨2, ![1024, 512]⟩
abbrev S1x1x512 : Shape := ⟨3, ![1, 1, 512]⟩
abbrev S2048x512 : Shape := ⟨2, ![2048, 512]⟩
abbrev S1x512 : Shape := ⟨2, ![1, 512]⟩

abbrev nBuf : Space → Nat
  | .hbm => 6
  | .vmem => 14
  | .smem => 0
  | _ => 0

abbrev bufTy : (tb : Table) → Fin (tcTables nBuf tb) → BufTy
  | .hbm, ⟨0, _⟩ => ⟨S24576x2048, .bf16⟩
  | .hbm, ⟨1, _⟩ => ⟨S24576x2048, .bf16⟩
  | .hbm, ⟨2, _⟩ => ⟨S2x4096x4096, .bf16⟩
  | .hbm, ⟨3, _⟩ => ⟨S24576x4096, .f32⟩
  | .hbm, ⟨4, _⟩ => ⟨S8x1x36864, .f32⟩
  | .hbm, ⟨5, _⟩ => ⟨S24576x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .f32⟩
  | .local _ .vmem, ⟨13, _⟩ => ⟨S1024x512, .f32⟩
  | _, _ => ⟨S24576x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![24, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c16384_i32 : BitVec 32 := 16384#32
  let v1 : BitVec 32 := Scalar.subi v0 c16384_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi c1_i32_4 v18
  let c0_i32_5 : BitVec 32 := 0#32
  let v20 : BitVec 32 := Scalar.subi v0 c0_i32_5
  let c16384_i32_6 : BitVec 32 := 16384#32
  let v21 : BitVec 32 := Scalar.divsi v20 c16384_i32_6
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c0_i32_9 : BitVec 32 := 0#32
  let v27 : BitVec 1 := Scalar.cmpi .sgt c16384_i32_6 c0_i32_9
  let v28 : BitVec 32 := Scalar.extui v27
  let c0_i32_10 : BitVec 32 := 0#32
  let v29 : BitVec 1 := Scalar.cmpi .slt c16384_i32_6 c0_i32_10
  let v30 : BitVec 32 := Scalar.extui v29
  let v31 : BitVec 32 := Scalar.subi v28 v30
  let v32 : BitVec 1 := Scalar.cmpi .ne v26 v31
  let v33 : BitVec 32 := Scalar.remsi v20 c16384_i32_6
  let c0_i32_11 : BitVec 32 := 0#32
  let v34 : BitVec 1 := Scalar.cmpi .ne v33 c0_i32_11
  let v35 : BitVec 1 := Scalar.andi v32 v34
  let c1_i32_12 : BitVec 32 := 1#32
  let v36 : BitVec 32 := Scalar.subi v21 c1_i32_12
  let v37 : BitVec 32 := Scalar.select v35 v36 v21
  let c0_i32_13 : BitVec 32 := 0#32
  let v38 : BitVec 32 := Scalar.addi c0_i32_13 v37
  let c16384_i32_14 : BitVec 32 := 16384#32
  let v39 : BitVec 1 := Scalar.cmpi .slt v0 c16384_i32_14
  let v40 : BitVec 32 := Scalar.select v39 v38 v19
  let c40_i32 : BitVec 32 := 40#32
  let v41 : BitVec 32 := Scalar.addi c40_i32 arg1
  let c0_i32_15 : BitVec 32 := 0#32
  let c0_i32_16 : BitVec 32 := 0#32
  ![v40.toNat, c0_i32_15.toNat, v41.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceOutIdeal.lean ====
abbrev S24576x2048 : Shape := ⟨2, ![24576, 2048]⟩
abbrev S2x4096x4096 : Shape := ⟨3, ![2, 4096, 4096]⟩
abbrev S24576x4096 : Shape := ⟨2, ![24576, 4096]⟩
abbrev S8x1x36864 : Shape := ⟨3, ![8, 1, 36864]⟩
abbrev S1x4096x4096 : Shape := ⟨3, ![1, 4096, 4096]⟩
abbrev S4096x4096 : Shape := ⟨2, ![4096, 4096]⟩
abbrev S8x1x4096 : Shape := ⟨3, ![8, 1, 4096]⟩
abbrev S8x4096 : Shape := ⟨2, ![8, 4096]⟩
abbrev S1x4096 : Shape := ⟨2, ![1, 4096]⟩
abbrev S4096 : Shape := ⟨1, ![4096]⟩
abbrev S16384x4096 : Shape := ⟨2, ![16384, 4096]⟩

abbrev nBuf : Space → Nat
  | .hbm => 23
  | .vmem => 0
  | .smem => 0
  | _ => 0

abbrev bufTy : (tb : Table) → Fin (tcTables nBuf tb) → BufTy
  | .hbm, ⟨0, _⟩ => ⟨S24576x2048, .bf16⟩
  | .hbm, ⟨1, _⟩ => ⟨S24576x2048, .bf16⟩
  | .hbm, ⟨2, _⟩ => ⟨S2x4096x4096, .bf16⟩
  | .hbm, ⟨3, _⟩ => ⟨S24576x4096, .f32⟩
  | .hbm, ⟨4, _⟩ => ⟨S8x1x36864, .f32⟩
  | .hbm, ⟨5, _⟩ => ⟨S24576x4096, .bf16⟩
  | .hbm, ⟨6, _⟩ => ⟨S1x4096x4096, .bf16⟩
  | .hbm, ⟨7, _⟩ => ⟨S4096x4096, .bf16⟩
  | .hbm, ⟨8, _⟩ => ⟨S24576x4096, .f32⟩
  | .hbm, ⟨9, _⟩ => ⟨S8x1x4096, .f32⟩
  | .hbm, ⟨10, _⟩ => ⟨S8x4096, .f32⟩
  | .hbm, ⟨11, _⟩ => ⟨S1x4096, .f32⟩
  | .hbm, ⟨12, _⟩ => ⟨S4096, .f32⟩
  | .hbm, ⟨13, _⟩ => ⟨S16384x4096, .f32⟩
  | .hbm, ⟨14, _⟩ => ⟨S1x4096, .f32⟩
  | .hbm, ⟨15, _⟩ => ⟨S4096, .f32⟩
  | .hbm, ⟨16, _⟩ => ⟨S4096x4096, .f32⟩
  | .hbm, ⟨17, _⟩ => ⟨S1x4096, .f32⟩
  | .hbm, ⟨18, _⟩ => ⟨S4096, .f32⟩
  | .hbm, ⟨19, _⟩ => ⟨S4096x4096, .f32⟩
  | .hbm, ⟨20, _⟩ => ⟨S24576x4096, .f32⟩
  | .hbm, ⟨21, _⟩ => ⟨S24576x4096, .f32⟩
  | .hbm, ⟨22, _⟩ => ⟨S24576x4096, .f32⟩
  | _, _ => ⟨S24576x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== KernelPost.lean ====
abbrev S24576x4096 : Shape := ⟨2, ![24576, 4096]⟩
abbrev S4096 : Shape := ⟨1, ![4096]⟩
abbrev S1x4096 : Shape := ⟨2, ![1, 4096]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePostIdeal.lean ====
abbrev S24576x4096 : Shape := ⟨2, ![24576, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelPrompt.lean ====
abbrev S24576x4096 : Shape := ⟨2, ![24576, 4096]⟩
abbrev S4096 : Shape := ⟨1, ![4096]⟩
abbrev S1x4096 : Shape := ⟨2, ![1, 4096]⟩
abbrev S8192x4096 : Shape := ⟨2, ![8192, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePromptIdeal.lean ====
abbrev S24576x4096 : Shape := ⟨2, ![24576, 4096]⟩
abbrev S4096 : Shape := ⟨1, ![4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KernelUpFirst.lean ====
abbrev S24576x4096 : Shape := ⟨2, ![24576, 4096]⟩
abbrev S2x4096x11008 : Shape := ⟨3, ![2, 4096, 11008]⟩
abbrev S24576x11008 : Shape := ⟨2, ![24576, 11008]⟩
abbrev S4096x11008 : Shape := ⟨2, ![4096, 11008]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩
abbrev S1024x11008 : Shape := ⟨2, ![1024, 11008]⟩

abbrev nBuf : Space → Nat
  | .hbm => 7
  | .vmem => 11
  | .smem => 0
  | _ => 0

abbrev bufTy : (tb : Table) → Fin (tcTables nBuf tb) → BufTy
  | .hbm, ⟨0, _⟩ => ⟨S24576x4096, .bf16⟩
  | .hbm, ⟨1, _⟩ => ⟨S2x4096x11008, .f32⟩
  | .hbm, ⟨2, _⟩ => ⟨S2x4096x11008, .f32⟩
  | .hbm, ⟨3, _⟩ => ⟨S24576x11008, .bf16⟩
  | .hbm, ⟨4, _⟩ => ⟨S4096x11008, .bf16⟩
  | .hbm, ⟨5, _⟩ => ⟨S4096x11008, .bf16⟩
  | .hbm, ⟨6, _⟩ => ⟨S1024x11008, .bf16⟩
  | .local _ .vmem, ⟨0, _⟩ => ⟨S1024x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1024x256, .bf16⟩
  | .local _ .vmem, ⟨6, _⟩ => ⟨S1024x256, .bf16⟩
  | .local _ .vmem, ⟨7, _⟩ => ⟨S4096x256, .bf16⟩
  | .local _ .vmem, ⟨8, _⟩ => ⟨S4096x256, .bf16⟩
  | .local _ .vmem, ⟨9, _⟩ => ⟨S4096x256, .bf16⟩
  | .local _ .vmem, ⟨10, _⟩ => ⟨S4096x256, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![1, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== ReferenceUpFirstIdeal.lean ====
abbrev S24576x4096 : Shape := ⟨2, ![24576, 4096]⟩
abbrev S2x4096x11008 : Shape := ⟨3, ![2, 4096, 11008]⟩
abbrev S1x4096x11008 : Shape := ⟨3, ![1, 4096, 11008]⟩
abbrev S4096x11008 : Shape := ⟨2, ![4096, 11008]⟩
abbrev S1024x4096 : Shape := ⟨2, ![1024, 4096]⟩
abbrev S1024x11008 : Shape := ⟨2, ![1024, 11008]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x11008, .f32⟩
  | .hbm, ⟨2, _⟩ => ⟨S2x4096x11008, .f32⟩
  | .hbm, ⟨3, _⟩ => ⟨S1x4096x11008, .f32⟩
  | .hbm, ⟨4, _⟩ => ⟨S4096x11008, .f32⟩
  | .hbm, ⟨5, _⟩ => ⟨S4096x11008, .bf16⟩
  | .hbm, ⟨6, _⟩ => ⟨S1x4096x11008, .f32⟩
  | .hbm, ⟨7, _⟩ => ⟨S4096x11008, .f32⟩
  | .hbm, ⟨8, _⟩ => ⟨S4096x11008, .bf16⟩
  | .hbm, ⟨9, _⟩ => ⟨S1024x4096, .bf16⟩
  | .hbm, ⟨10, _⟩ => ⟨S1024x11008, .f32⟩
  | .hbm, ⟨11, _⟩ => ⟨S1024x11008, .f32⟩
  | .hbm, ⟨12, _⟩ => ⟨S1024x11008, .f32⟩
  | .hbm, ⟨13, _⟩ => ⟨S1024x11008, .f32⟩
  | .hbm, ⟨14, _⟩ => ⟨S_, .f32⟩
  | .hbm, ⟨15, _⟩ => ⟨S1024x11008, .f32⟩
  | .hbm, ⟨16, _⟩ => ⟨S1024x11008, .f32⟩
  | .hbm, ⟨17, _⟩ => ⟨S_, .f32⟩
  | .hbm, ⟨18, _⟩ => ⟨S1024x11008, .f32⟩
  | .hbm, ⟨19, _⟩ => ⟨S1024x11008, .f32⟩
  | .hbm, ⟨20, _⟩ => ⟨S1024x11008, .f32⟩
  | .hbm, ⟨21, _⟩ => ⟨S1024x11008, .f32⟩
  | .hbm, ⟨22, _⟩ => ⟨S1024x11008, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== KernelInFirst.lean ====
abbrev S24576x4096 : Shape := ⟨2, ![24576, 4096]⟩
abbrev S2x4096x11264 : Shape := ⟨3, ![2, 4096, 11264]⟩
abbrev S88x24576x128 : Shape := ⟨3, ![88, 24576, 128]⟩
abbrev S4096x11264 : Shape := ⟨2, ![4096, 11264]⟩
abbrev S1024x4096 : Shape := ⟨2, ![1024, 4096]⟩
abbrev S1x4096x512 : Shape := ⟨3, ![1, 4096, 512]⟩
abbrev S4x1024x128 : Shape := ⟨3, ![4, 1024, 128]⟩
abbrev S4096x512 : Shape := ⟨2, ![4096, 512]⟩
abbrev S1024x512 : Shape := ⟨2, ![1024, 512]⟩
abbrev S1024x128 : Shape := ⟨2, ![1024, 128]⟩
abbrev S1x1024x128 : Shape := ⟨3, ![1, 1024, 128]⟩
abbrev S88x1024x128 : Shape := ⟨3, ![88, 1024, 128]⟩

abbrev nBuf : Space → Nat
  | .hbm => 5
  | .vmem => 7
  | .smem => 0
  | _ => 0

abbrev bufTy : (tb : Table) → Fin (tcTables nBuf tb) → BufTy
  | .hbm, ⟨0, _⟩ => ⟨S24576x4096, .bf16⟩
  | .hbm, ⟨1, _⟩ => ⟨S2x4096x11264, .f32⟩
  | .hbm, ⟨2, _⟩ => ⟨S88x24576x128, .bf16⟩
  | .hbm, ⟨3, _⟩ => ⟨S4096x11264, .bf16⟩
  | .hbm, ⟨4, _⟩ => ⟨S88x1024x128, .bf16⟩
  | .local _ .vmem, ⟨0, _⟩ => ⟨S1024x4096, .bf16⟩
  | .local _ .vmem, ⟨1, _⟩ => ⟨S1x4096x512, .f32⟩
  | .local _ .vmem, ⟨2, _⟩ => ⟨S1x4096x512, .f32⟩
  | .local _ .vmem, ⟨3, _⟩ => ⟨S4x1024x128, .bf16⟩
  | .local _ .vmem, ⟨4, _⟩ => ⟨S4x1024x128, .bf16⟩
  | .local _ .vmem, ⟨5, _⟩ => ⟨S4096x512, .bf16⟩
  | .local _ .vmem, ⟨6, _⟩ => ⟨S4096x512, .bf16⟩
  | _, _ => ⟨S24576x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]
-- ==== ReferenceInFirstIdeal.lean ====
abbrev S24576x4096 : Shape := ⟨2, ![24576, 4096]⟩
abbrev S2x4096x11264 : Shape := ⟨3, ![2, 4096, 11264]⟩
abbrev S1x4096x11264 : Shape := ⟨3, ![1, 4096, 11264]⟩
abbrev S4096x11264 : Shape := ⟨2, ![4096, 11264]⟩
abbrev S1024x4096 : Shape := ⟨2, ![1024, 4096]⟩
abbrev S1024x11264 : Shape := ⟨2, ![1024, 11264]⟩
abbrev S1024x88x128 : Shape := ⟨3, ![1024, 88, 128]⟩
abbrev S88x1024x128 : Shape := ⟨3, ![88, 1024, 128]⟩

abbrev nBuf : Space → Nat
  | .hbm => 10
  | .vmem => 0
  | .smem => 0
  | _ => 0

abbrev bufTy : (tb : Table) → Fin (tcTables nBuf tb) → BufTy
  | .hbm, ⟨0, _⟩ => ⟨S24576x4096, .bf16⟩
  | .hbm, ⟨1, _⟩ => ⟨S2x4096x11264, .f32⟩
  | .hbm, ⟨2, _⟩ => ⟨S1x4096x11264, .f32⟩
  | .hbm, ⟨3, _⟩ => ⟨S4096x11264, .f32⟩
  | .hbm, ⟨4, _⟩ => ⟨S4096x11264, .bf16⟩
  | .hbm, ⟨5, _⟩ => ⟨S1024x4096, .bf16⟩
  | .hbm, ⟨6, _⟩ => ⟨S1024x11264, .f32⟩
  | .hbm, ⟨7, _⟩ => ⟨S1024x11264, .bf16⟩
  | .hbm, ⟨8, _⟩ => ⟨S1024x88x128, .bf16⟩
  | .hbm, ⟨9, _⟩ => ⟨S88x1024x128, .bf16⟩
  | _, _ => ⟨S24576x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== KernelNorm.lean ====
abbrev S24576x4096 : Shape := ⟨2, ![24576, 4096]⟩
abbrev S4096 : Shape := ⟨1, ![4096]⟩
abbrev S8x1x36864 : Shape := ⟨3, ![8, 1, 36864]⟩
abbrev S1x4096 : Shape := ⟨2, ![1, 4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S8x1x36864, .f32⟩
  | .hbm, ⟨3, _⟩ => ⟨S1x4096, .f32⟩
  | .hbm, ⟨4, _⟩ => ⟨S24576x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 32 := Scalar.subi v0 c16384_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi c1_i32_4 v18
  let c0_i32_5 : BitVec 32 := 0#32
  let v20 : BitVec 32 := Scalar.subi v0 c0_i32_5
  let c16384_i32_6 : BitVec 32 := 16384#32
  let v21 : BitVec 32 := Scalar.divsi v20 c16384_i32_6
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c0_i32_9 : BitVec 32 := 0#32
  let v27 : BitVec 1 := Scalar.cmpi .sgt c16384_i32_6 c0_i32_9
  let v28 : BitVec 32 := Scalar.extui v27
  let c0_i32_10 : BitVec 32 := 0#32
  let v29 : BitVec 1 := Scalar.cmpi .slt c16384_i32_6 c0_i32_10
  let v30 : BitVec 32 := Scalar.extui v29
  let v31 : BitVec 32 := Scalar.subi v28 v30
  let v32 : BitVec 1 := Scalar.cmpi .ne v26 v31
  let v33 : BitVec 32 := Scalar.remsi v20 c16384_i32_6
  let c0_i32_11 : BitVec 32 := 0#32
  let v34 : BitVec 1 := Scalar.cmpi .ne v33 c0_i32_11
  let v35 : BitVec 1 := Scalar.andi v32 v34
  let c1_i32_12 : BitVec 32 := 1#32
  let v36 : BitVec 32 := Scalar.subi v21 c1_i32_12
  let v37 : BitVec 32 := Scalar.select v35 v36 v21
  let c0_i32_13 : BitVec 32 := 0#32
  let v38 : BitVec 32 := Scalar.addi c0_i32_13 v37
  let c16384_i32_14 : BitVec 32 := 16384#32
  let v39 : BitVec 1 := Scalar.cmpi .slt v0 c16384_i32_14
  let v40 : BitVec 32 := Scalar.select v39 v38 v19
  let c0_i32_15 : BitVec 32 := 0#32
  let c4_i32 : BitVec 32 := 4#32
  let c0_i32_16 : BitVec 32 := 0#32
  ![v40.toNat, c0_i32_15.toNat, c4_i32.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 32 := Scalar.subi v0 c16384_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi c1_i32_4 v18
  let c0_i32_5 : BitVec 32 := 0#32
  let v20 : BitVec 32 := Scalar.subi v0 c0_i32_5
  let c16384_i32_6 : BitVec 32 := 16384#32
  let v21 : BitVec 32 := Scalar.divsi v20 c16384_i32_6
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c0_i32_9 : BitVec 32 := 0#32
  let v27 : BitVec 1 := Scalar.cmpi .sgt c16384_i32_6 c0_i32_9
  let v28 : BitVec 32 := Scalar.extui v27
  let c0_i32_10 : BitVec 32 := 0#32
  let v29 : BitVec 1 := Scalar.cmpi .slt c16384_i32_6 c0_i32_10
  let v30 : BitVec 32 := Scalar.extui v29
  let v31 : BitVec 32 := Scalar.subi v28 v30
  let v32 : BitVec 1 := Scalar.cmpi .ne v26 v31
  let v33 : BitVec 32 := Scalar.remsi v20 c16384_i32_6
  let c0_i32_11 : BitVec 32 := 0#32
  let v34 : BitVec 1 := Scalar.cmpi .ne v33 c0_i32_11
  let v35 : BitVec 1 := Scalar.andi v32 v34
  let c1_i32_12 : BitVec 32 := 1#32
  let v36 : BitVec 32 := Scalar.subi v21 c1_i32_12
  let v37 : BitVec 32 := Scalar.select v35 v36 v21
  let c0_i32_13 : BitVec 32 := 0#32
  let v38 : BitVec 32 := Scalar.addi c0_i32_13 v37
  let c16384_i32_14 : BitVec 32 := 16384#32
  let v39 : BitVec 1 := Scalar.cmpi .slt v0 c16384_i32_14
  let v40 : BitVec 32 := Scalar.select v39 v38 v19
  let c0_i32_15 : BitVec 32 := 0#32
  let c3_i32 : BitVec 32 := 3#32
  let c0_i32_16 : BitVec 32 := 0#32
  ![v40.toNat, c0_i32_15.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormIdeal.lean ====
abbrev S24576x4096 : Shape := ⟨2, ![24576, 4096]⟩
abbrev S4096 : Shape := ⟨1, ![4096]⟩
abbrev S8x1x36864 : Shape := ⟨3, ![8, 1, 36864]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S8x1x4096 : Shape := ⟨3, ![8, 1, 4096]⟩
abbrev S8x4096 : Shape := ⟨2, ![8, 4096]⟩
abbrev S16384x4096 : Shape := ⟨2, ![16384, 4096]⟩
abbrev S4096x4096 : Shape := ⟨2, ![4096, 4096]⟩

abbrev nBuf : Space → Nat
  | .hbm => 49
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S8x1x36864, .f32⟩
  | .hbm, ⟨3, _⟩ => ⟨S24576x4096, .f32⟩
  | .hbm, ⟨4, _⟩ => ⟨S_, .f32⟩
  | .hbm, ⟨5, _⟩ => ⟨S24576, .f32⟩
  | .hbm, ⟨6, _⟩ => ⟨S24576x1, .f32⟩
  | .hbm, ⟨7, _⟩ => ⟨S_, .f32⟩
  | .hbm, ⟨8, _⟩ => ⟨S24576x1, .f32⟩
  | .hbm, ⟨9, _⟩ => ⟨S24576x1, .f32⟩
  | .hbm, ⟨10, _⟩ => ⟨S_, .f32⟩
  | .hbm, ⟨11, _⟩ => ⟨S24576x1, .f32⟩
  | .hbm, ⟨12, _⟩ => ⟨S24576x1, .f32⟩
  | .hbm, ⟨13, _⟩ => ⟨S24576x1, .f32⟩
  | .hbm, ⟨14, _⟩ => ⟨S24576x4096, .f32⟩
  | .hbm, ⟨15, _⟩ => ⟨S24576x4096, .f32⟩
  | .hbm, ⟨16, _⟩ => ⟨S1x4096, .f32⟩
  | .hbm, ⟨17, _⟩ => ⟨S24576x4096, .f32⟩
  | .hbm, ⟨18, _⟩ => ⟨S24576x4096, .f32⟩
  | .hbm, ⟨19, _⟩ => ⟨S8x1x4096, .f32⟩
  | .hbm, ⟨20, _⟩ => ⟨S8x4096, .f32⟩
  | .hbm, ⟨21, _⟩ => ⟨S1x4096, .f32⟩
  | .hbm, ⟨22, _⟩ => ⟨S4096, .f32⟩
  | .hbm, ⟨23, _⟩ => ⟨S16384x4096, .f32⟩
  | .hbm, ⟨24, _⟩ => ⟨S1x4096, .f32⟩
  | .hbm, ⟨25, _⟩ => ⟨S4096, .f32⟩
  | .hbm, ⟨26, _⟩ => ⟨S4096x4096, .f32⟩
  | .hbm, ⟨27, _⟩ => ⟨S1x4096, .f32⟩
  | .hbm, ⟨28, _⟩ => ⟨S4096, .f32⟩
  | .hbm, ⟨29, _⟩ => ⟨S4096x4096, .f32⟩
  | .hbm, ⟨30, _⟩ => ⟨S24576x4096, .f32⟩
  | .hbm, ⟨31, _⟩ => ⟨S_, .f32⟩
  | .hbm, ⟨32, _⟩ => ⟨S24576x4096, .f32⟩
  | .hbm, ⟨33, _⟩ => ⟨S24576x4096, .f32⟩
  | .hbm, ⟨34, _⟩ => ⟨S24576x4096, .f32⟩
  | .hbm, ⟨35, _⟩ => ⟨S8x1x4096, .f32⟩
  | .hbm, ⟨36, _⟩ => ⟨S8x4096, .f32⟩
  | .hbm, ⟨37, _⟩ => ⟨S1x4096, .f32⟩
  | .hbm, ⟨38, _⟩ => ⟨S4096, .f32⟩
  | .hbm, ⟨39, _⟩ => ⟨S16384x4096, .f32⟩
  | .hbm, ⟨40, _⟩ => ⟨S1x4096, .f32⟩
  | .hbm, ⟨41, _⟩ => ⟨S4096, .f32⟩
  | .hbm, ⟨42, _⟩ => ⟨S4096x4096, .f32⟩
  | .hbm, ⟨43, _⟩ => ⟨S1x4096, .f32⟩
  | .hbm, ⟨44, _⟩ => ⟨S4096, .f32⟩
  | .hbm, ⟨45, _⟩ => ⟨S4096x4096, .f32⟩
  | .hbm, ⟨46, _⟩ => ⟨S24576x4096, .f32⟩
  | .hbm, ⟨47, _⟩ => ⟨S24576x4096, .f32⟩
  | .hbm, ⟨48, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== KernelNext.lean ====
abbrev S24576x4096 : Shape := ⟨2, ![24576, 4096]⟩
abbrev S4096 : Shape := ⟨1, ![4096]⟩
abbrev S8x1x36864 : Shape := ⟨3, ![8, 1, 36864]⟩
abbrev S1x4096 : Shape := ⟨2, ![1, 4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4096, .f32⟩
  | .hbm, ⟨3, _⟩ => ⟨S8x1x36864, .f32⟩
  | .hbm, ⟨4, _⟩ => ⟨S1x4096, .f32⟩
  | .hbm, ⟨5, _⟩ => ⟨S1x4096, .f32⟩
  | .hbm, ⟨6, _⟩ => ⟨S24576x4096, .f32⟩
  | .hbm, ⟨7, _⟩ => ⟨S24576x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S1x1x4096, .f32⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | _, _ => ⟨S24576x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 32 := Scalar.subi v0 c16384_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi c1_i32_4 v18
  let c0_i32_5 : BitVec 32 := 0#32
  let v20 : BitVec 32 := Scalar.subi v0 c0_i32_5
  let c16384_i32_6 : BitVec 32 := 16384#32
  let v21 : BitVec 32 := Scalar.divsi v20 c16384_i32_6
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c0_i32_9 : BitVec 32 := 0#32
  let v27 : BitVec 1 := Scalar.cmpi .sgt c16384_i32_6 c0_i32_9
  let v28 : BitVec 32 := Scalar.extui v27
  let c0_i32_10 : BitVec 32 := 0#32
  let v29 : BitVec 1 := Scalar.cmpi .slt c16384_i32_6 c0_i32_10
  let v30 : BitVec 32 := Scalar.extui v29
  let v31 : BitVec 32 := Scalar.subi v28 v30
  let v32 : BitVec 1 := Scalar.cmpi .ne v26 v31
  let v33 : BitVec 32 := Scalar.remsi v20 c16384_i32_6
  let c0_i32_11 : BitVec 32 := 0#32
  let v34 : BitVec 1 := Scalar.cmpi .ne v33 c0_i32_11
  let v35 : BitVec 1 := Scalar.andi v32 v34
  let c1_i32_12 : BitVec 32 := 1#32
  let v36 : BitVec 32 := Scalar.subi v21 c1_i32_12
  let v37 : BitVec 32 := Scalar.select v35 v36 v21
  let c0_i32_13 : BitVec 32 := 0#32
  let v38 : BitVec 32 := Scalar.addi c0_i32_13 v37
  let c16384_i32_14 : BitVec 32 := 16384#32
  let v39 : BitVec 1 := Scalar.cmpi .slt v0 c16384_i32_14
  let v40 : BitVec 32 := Scalar.select v39 v38 v19
  let c0_i32_15 : BitVec 32 := 0#32
  let c1_i32_16 : BitVec 32 := 1#32
  let c0_i32_17 : BitVec 32 := 0#32
  ![v40.toNat, c0_i32_15.toNat, c1_i32_16.toNat]

def cc0_transform_4 (i : grid0.Coords) : Fin 3 → Nat :=
  let arg0 : BitVec 32 := BitVec.ofNat 32 (i 0).val
  let c512_i32 : BitVec 32 := 512#32
  let v0 : BitVec 32 := Scalar.muli arg0 c512_i32
  let c16384_i32 : BitVec 32 := 16384#32
  let v1 : BitVec 32 := Scalar.subi v0 c16384_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c1_i32_4 : BitVec 32 := 1#32
  let v19 : BitVec 32 := Scalar.addi c1_i32_4 v18
  let c0_i32_5 : BitVec 32 := 0#32
  let v20 : BitVec 32 := Scalar.subi v0 c0_i32_5
  let c16384_i32_6 : BitVec 32 := 16384#32
  let v21 : BitVec 32 := Scalar.divsi v20 c16384_i32_6
  let c0_i32_7 : BitVec 32 := 0#32
  let v22 : BitVec 1 := Scalar.cmpi .sgt v20 c0_i32_7
  let v23 : BitVec 32 := Scalar.extui v22
  let c0_i32_8 : BitVec 32 := 0#32
  let v24 : BitVec 1 := Scalar.cmpi .slt v20 c0_i32_8
  let v25 : BitVec 32 := Scalar.extui v24
  let v26 : BitVec 32 := Scalar.subi v23 v25
  let c0_i32_9 : BitVec 32 := 0#32
  let v27 : BitVec 1 := Scalar.cmpi .sgt c16384_i32_6 c0_i32_9
  let v28 : BitVec 32 := Scalar.extui v27
  let c0_i32_10 : BitVec 32 := 0#32
  let v29 : BitVec 1 := Scalar.cmpi .slt c16384_i32_6 c0_i32_10
  let v30 : BitVec 32 := Scalar.extui v29
  let v31 : BitVec 32 := Scalar.subi v28 v30
  let v32 : BitVec 1 := Scalar.cmpi .ne v26 v31
  let v33 : BitVec 32 := Scalar.remsi v20 c16384_i32_6
  let c0_i32_11 : BitVec 32 := 0#32
  let v34 : BitVec 1 := Scalar.cmpi .ne v33 c0_i32_11
  let v35 : BitVec 1 := Scalar.andi v32 v34
  let c1_i32_12 : BitVec 32 := 1#32
  let v36 : BitVec 32 := Scalar.subi v21 c1_i32_12
  let v37 : BitVec 32 := Scalar.select v35 v36 v21
  let c0_i32_13 : BitVec 32 := 0#32
  let v38 : BitVec 32 := Scalar.addi c0_i32_13 v37
  let c16384_i32_14 : BitVec 32 := 16384#32
  let v39 : BitVec 1 := Scalar.cmpi .slt v0 c16384_i32_14
  let v40 : BitVec 32 := Scalar.select v39 v38 v19
  let c0_i32_15 : BitVec 32 := 0#32
  let c0_i32_16 : BitVec 32 := 0#32
  let c0_i32_17 : BitVec 32 := 0#32
  ![v40.toNat, c0_i32_15.toNat, c0_i32_16.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceNextIdeal.lean ====
abbrev S24576x4096 : Shape := ⟨2, ![24576, 4096]⟩
abbrev S4096 : Shape := ⟨1, ![4096]⟩
abbrev S8x1x36864 : Shape := ⟨3, ![8, 1, 36864]⟩
abbrev S_ : Shape := ⟨0, ![]⟩
abbrev S24576 : Shape := ⟨1, ![24576]⟩
abbrev S24576x1 : Shape := ⟨2, ![24576, 1]⟩
abbrev S1x4096 : Shape := ⟨2, ![1, 4096]⟩
abbrev S8x1x4096 : Shape := ⟨3, ![8, 1, 4096]⟩
abbrev S8x4096 : Shape := ⟨2, ![8, 4096]⟩
abbrev S16384x4096 : Shape := ⟨2, ![16384, 4096]⟩
abbrev S4096x4096 : Shape := ⟨2, ![4096, 4096]⟩

abbrev nBuf : Space → Nat
  | .hbm => 66
  | .vmem => 0
  | .smem => 0
  | _ => 0

abbrev bufTy : (tb : Table) → Fin (tcTables nBuf tb) → BufTy
  | .hbm, ⟨0, _⟩ => ⟨S24576x4096, .f32⟩
  | .hbm, ⟨1, _⟩ => ⟨S4096, .f32⟩
  | .hbm, ⟨2, _⟩ => ⟨S4096, .f32⟩
  | .hbm, ⟨3, _⟩ => ⟨S8x1x36864, .f32⟩
  | .hbm, ⟨4, _⟩ => ⟨S24576x4096, .f32⟩
  | .hbm, ⟨5, _⟩ => ⟨S_, .f32⟩
  | .hbm, ⟨6, _⟩ => ⟨S24576, .f32⟩
  | .hbm, ⟨7, _⟩ => ⟨S24576x1, .f32⟩
  | .hbm, ⟨8, _⟩ => ⟨S_, .f32⟩
  | .hbm, ⟨9, _⟩ => ⟨S24576x1, .f32⟩
  | .hbm, ⟨10, _⟩ => ⟨S24576x1, .f32⟩
  | .hbm, ⟨11, _⟩ => ⟨S_, .f32⟩
  | .hbm, ⟨12, _⟩ => ⟨S24576x1, .f32⟩
  | .hbm, ⟨13, _⟩ => ⟨S24576x1, .f32⟩
  | .hbm, ⟨14, _⟩ => ⟨S24576x1, .f32⟩
  | .hbm, ⟨15, _⟩ => ⟨S24576x4096, .f32⟩
  | .hbm, ⟨16, _⟩ => ⟨S24576x4096, .f32⟩
  | .hbm, ⟨17, _⟩ => ⟨S1x4096, .f32⟩
  | .hbm, ⟨18, _⟩ => ⟨S24576x4096, .f32⟩
  | .hbm, ⟨19, _⟩ => ⟨S24576x4096, .f32⟩
  | .hbm, ⟨20, _⟩ => ⟨S24576x4096, .f32⟩
  | .hbm, ⟨21, _⟩ => ⟨S_, .f32⟩
  | .hbm, ⟨22, _⟩ => ⟨S24576, .f32⟩
  | .hbm, ⟨23, _⟩ => ⟨S24576x1, .f32⟩
  | .hbm, ⟨24, _⟩ => ⟨S_, .f32⟩
  | .hbm, ⟨25, _⟩ => ⟨S24576x1, .f32⟩
  | .hbm, ⟨26, _⟩ => ⟨S24576x1, .f32⟩
  | .hbm, ⟨27, _⟩ => ⟨S_, .f32⟩
  | .hbm, ⟨28, _⟩ => ⟨S24576x1, .f32⟩
  | .hbm, ⟨29, _⟩ => ⟨S24576x1, .f32⟩
  | .hbm, ⟨30, _⟩ => ⟨S24576x1, .f32⟩
  | .hbm, ⟨31, _⟩ => ⟨S24576x4096, .f32⟩
  | .hbm, ⟨32, _⟩ => ⟨S24576x4096, .f32⟩
  | .hbm, ⟨33, _⟩ => ⟨S1x4096, .f32⟩
  | .hbm, ⟨34, _⟩ => ⟨S24576x4096, .f32⟩
  | .hbm, ⟨35, _⟩ => ⟨S24576x4096, .f32⟩
  | .hbm, ⟨36, _⟩ => ⟨S8x1x4096, .f32⟩
  | .hbm, ⟨37, _⟩ => ⟨S8x4096, .f32⟩
  | .hbm, ⟨38, _⟩ => ⟨S1x4096, .f32⟩
  | .hbm, ⟨39, _⟩ => ⟨S4096, .f32⟩
  | .hbm, ⟨40, _⟩ => ⟨S16384x4096, .f32⟩
  | .hbm, ⟨41, _⟩ => ⟨S1x4096, .f32⟩
  | .hbm, ⟨42, _⟩ => ⟨S4096, .f32⟩
  | .hbm, ⟨43, _⟩ => ⟨S4096x4096, .f32⟩
  | .hbm, ⟨44, _⟩ => ⟨S1x4096, .f32⟩
  | .hbm, ⟨45, _⟩ => ⟨S4096, .f32⟩
  | .hbm, ⟨46, _⟩ => ⟨S4096x4096, .f32⟩
  | .hbm, ⟨47, _⟩ => ⟨S24576x4096, .f32⟩
  | .hbm, ⟨48, _⟩ => ⟨S_, .f32⟩
  | .hbm, ⟨49, _⟩ => ⟨S24576x4096, .f32⟩
  | .hbm, ⟨50, _⟩ => ⟨S24576x4096, .f32⟩
  | .hbm, ⟨51, _⟩ => ⟨S24576x4096, .f32⟩
  | .hbm, ⟨52, _⟩ => ⟨S8x1x4096, .f32⟩
  | .hbm, ⟨53, _⟩ => ⟨S8x4096, .f32⟩
  | .hbm, ⟨54, _⟩ => ⟨S1x4096, .f32⟩
  | .hbm, ⟨55, _⟩ => ⟨S4096, .f32⟩
  | .hbm, ⟨56, _⟩ => ⟨S16384x4096, .f32⟩
  | .hbm, ⟨57, _⟩ => ⟨S1x4096, .f32⟩
  | .hbm, ⟨58, _⟩ => ⟨S4096, .f32⟩
  | .hbm, ⟨59, _⟩ => ⟨S4096x4096, .f32⟩
  | .hbm, ⟨60, _⟩ => ⟨S1x4096, .f32⟩
  | .hbm, ⟨61, _⟩ => ⟨S4096, .f32⟩
  | .hbm, ⟨62, _⟩ => ⟨S4096x4096, .f32⟩
  | .hbm, ⟨63, _⟩ => ⟨S24576x4096, .f32⟩
  | .hbm, ⟨64, _⟩ => ⟨S24576x4096, .f32⟩
  | .hbm, ⟨65, _⟩ => ⟨S24576x4096, .bf16⟩
  | _, _ => ⟨S24576x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]
-- ==== KernelMod.lean ====
abbrev S1x4096 : Shape := ⟨2, ![1, 4096]⟩
abbrev S2x4096 : Shape := ⟨2, ![2, 4096]⟩
abbrev S2x4096x36864 : Shape := ⟨3, ![2, 4096, 36864]⟩
abbrev S2x36864 : Shape := ⟨2, ![2, 36864]⟩
abbrev S_ : Shape := ⟨0, ![]⟩
abbrev S5x4096 : Shape := ⟨2, ![5, 4096]⟩
abbrev S8x4096 : Shape := ⟨2, ![8, 4096]⟩
abbrev S2x1x36864 : Shape := ⟨3, ![2, 1, 36864]⟩
abbrev S2x8x36864 : Shape := ⟨3, ![2, 8, 36864]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 9
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S2x4096, .f32⟩
  | .hbm, ⟨2, _⟩ => ⟨S2x4096x36864, .f32⟩
  | .hbm, ⟨3, _⟩ => ⟨S2x36864, .f32⟩
  | .hbm, ⟨4, _⟩ => ⟨S_, .f32⟩
  | .hbm, ⟨5, _⟩ => ⟨S5x4096, .f32⟩
  | .hbm, ⟨6, _⟩ => ⟨S8x4096, .f32⟩
  | .hbm, ⟨7, _⟩ => ⟨S2x1x36864, .f32⟩
  | .hbm, ⟨8, _⟩ => ⟨S2x8x36864, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 72], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModIdeal.lean ====
abbrev S1x4096 : Shape := ⟨2, ![1, 4096]⟩
abbrev S2x4096 : Shape := ⟨2, ![2, 4096]⟩
abbrev S2x4096x36864 : Shape := ⟨3, ![2, 4096, 36864]⟩
abbrev S2x36864 : Shape := ⟨2, ![2, 36864]⟩
abbrev S_ : Shape := ⟨0, ![]⟩
abbrev S5x4096 : Shape := ⟨2, ![5, 4096]⟩
abbrev S8x4096 : Shape := ⟨2, ![8, 4096]⟩
abbrev S2x36864x8 : Shape := ⟨3, ![2, 36864, 8]⟩
abbrev S2x8x36864 : Shape := ⟨3, ![2, 8, 36864]⟩
abbrev S2x1x36864 : Shape := ⟨3, ![2, 1, 36864]⟩

abbrev nBuf : Space → Nat
  | .hbm => 21
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S2x4096, .f32⟩
  | .hbm, ⟨2, _⟩ => ⟨S2x4096x36864, .f32⟩
  | .hbm, ⟨3, _⟩ => ⟨S2x36864, .f32⟩
  | .hbm, ⟨4, _⟩ => ⟨S_, .f32⟩
  | .hbm, ⟨5, _⟩ => ⟨S5x4096, .f32⟩
  | .hbm, ⟨6, _⟩ => ⟨S8x4096, .f32⟩
  | .hbm, ⟨7, _⟩ => ⟨S8x4096, .f32⟩
  | .hbm, ⟨8, _⟩ => ⟨S8x4096, .f32⟩
  | .hbm, ⟨9, _⟩ => ⟨S_, .f32⟩
  | .hbm, ⟨10, _⟩ => ⟨S8x4096, .f32⟩
  | .hbm, ⟨11, _⟩ => ⟨S8x4096, .f32⟩
  | .hbm, ⟨12, _⟩ => ⟨S_, .f32⟩
  | .hbm, ⟨13, _⟩ => ⟨S8x4096, .f32⟩
  | .hbm, ⟨14, _⟩ => ⟨S8x4096, .f32⟩
  | .hbm, ⟨15, _⟩ => ⟨S8x4096, .f32⟩
  | .hbm, ⟨16, _⟩ => ⟨S2x36864x8, .f32⟩
  | .hbm, ⟨17, _⟩ => ⟨S2x8x36864, .f32⟩
  | .hbm, ⟨18, _⟩ => ⟨S2x1x36864, .f32⟩
  | .hbm, ⟨19, _⟩ => ⟨S2x8x36864, .f32⟩
  | .hbm, ⟨20, _⟩ => ⟨S2x8x36864, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== Proof.Up.lean ====
/- The two products of the feed-forward part with their gate: what the blocked kernel leaves in its result is the
   gated product of whole matrices from the second row block on, and the array it is given in the first. -/
module

public import proofs.«01_k».proof.Proof.Gen.KernelUpIdeal.Value
public import proofs.«01_k».proof.Proof.Gen.ReferenceUpIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelUpIdeal.UpValue

open Cert.KernelUpIdeal Cert.KernelUpIdeal.Gen

variable (m : (ℓ : Loc nD τ sig) → Buf (Elt Ideal) ℓ)

open Cert.ReferenceUpIdeal.Read in
/-- The gated product of whole matrices, before the first row block is put back. -/
abbrev REF (h : FVec Ideal S24576x4096 .bf16) (w1 w3 : FVec Ideal S4096x11008 .bf16) : FVec Ideal S24576x11008 .bf16 :=
  val_main_v13 (F := Ideal) h w1 w3

theorem idx : ∀ t : Fin cfg0.N, win0_0.index t = ![t.val / 43 + 1, 0] ∧ win0_1.index t = ![0, t.val % 43]
    ∧ win0_2.index t = ![0, t.val % 43] ∧ win0_3.index t = ![t.val / 43 + 1, t.val % 43] :=
  (by decide +kernel : ∀ t : Fin grid0.N, _)

theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2))
        (((cfg0.win 3).blk t).view.emb y) := by
  pointwise [k0_pay1, REF, Cert.ReferenceUpIdeal.Read.val_main_v13, Cert.ReferenceUpIdeal.Read.val_main_v9,
    Cert.ReferenceUpIdeal.Read.val_main_v8, Cert.ReferenceUpIdeal.Read.val_main_v7, Cert.ReferenceUpIdeal.Read.val_main_v6,
    Cert.ReferenceUpIdeal.Read.val_main_v5, Cert.ReferenceUpIdeal.Read.val_main_v4, Cert.ReferenceUpIdeal.Read.val_main_v3,
    Cert.ReferenceUpIdeal.Read.val_main_v2, Cert.ReferenceUpIdeal.Read.val_main_v1, Cert.ReferenceUpIdeal.Read.val_main_v0,
    Cert.ReferenceUpIdeal.Read.val_main_cst, Cert.ReferenceUpIdeal.Read.val_main_cst_0]
  simp only [← Ideal.logistic.eq_1]
  blk_point [iblk, V, idx t]

set_option maxHeartbeats 1600000 in
theorem final (c : Dev nD) : (dats m 0 c).arrAt 3 (cfgs 0).N
    = fun i : S24576x11008.Idx => if 1 ≤ (i 0 : ℕ) / 1024 then
        REF (m ((c : Thread nD τ).loc main_arg0)) (m ((c : Thread nD τ).loc main_arg1)) (m ((c : Thread nD τ).loc main_arg2)) i
      else V m c main_v0 i := by
  refine (dats m 0 c).arrAt_eq_of_coversWhere 3 _ (fun β => 1 ≤ β (0 : Fin _)) (by decide +kernel)
    (fun t hf y => ?_) (fun j => ?_)
  · blk_simp; rw [after0_3]; unfold outsAt0; frame_out
    exact point m c t y
  · blk_simp [Pipeline.Window.cell_apply]

theorem final_ref (c : Dev nD) : (dats m 0 c).arrAt 3 (cfgs 0).N
    = Cert.ReferenceUpIdeal.Read.val_main_v14 (F := Ideal) (m ((c : Thread nD τ).loc main_arg0))
        (m ((c : Thread nD τ).loc main_arg1)) (m ((c : Thread nD τ).loc main_arg2)) (m ((c : Thread nD τ).loc main_arg3)) := by
  rw [final]
  funext i
  pointwise [Cert.ReferenceUpIdeal.Read.val_main_v14, Cert.ReferenceUpIdeal.Read.val_main_v12, Cert.ReferenceUpIdeal.Read.val_main_v11, Cert.ReferenceUpIdeal.Read.val_main_v10, Cert.ReferenceUpIdeal.Read.val_main_c]
  have hi : (i 0 : ℕ) < 24576 := (i 0).isLt
  rw [show (1024#32 : BitVec 32) = BitVec.ofNat 32 1024 from rfl, Idealize.ShloMosaic.WordCmp.cmpi_slt_ofNat (by omega) (by omega)]
  by_cases h : (i 0 : ℕ) < 1024
  · rw [if_neg (by omega)]
    simp only [Scalar.select, h, decide_true]
    entry_read
    rfl
  · rw [if_pos (by omega)]
    simp only [Scalar.select, h, decide_false]
    rfl

end Cert.KernelUpIdeal.UpValue

end
-- ==== Proof.AttnLoop.lean ====
/- The slow road of the attention kernel (the running maximum), one trip at a time: the values the six scratch buffers
   hold before a step, and the triple of the counted loop over them. -/
module

public import proofs.«01_k».proof.Proof.Gen.KernelIdeal.Loops
public import proofs.«01_k».proof.Proof.Gen.KernelIdeal.Frame

@[expose] public section

set_option maxRecDepth 100000
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

theorem off1_inb : ∀ k : Fin k0_t1_loop.trips, ∀ a, (k0_off1 k) a + S1x512x128.size a ≤ S1x16384x128.size a := by decide +kernel

section
variable {Val : EltTy → Type} {sig : RefSig} {κ : Kind} {sp : Space} {s : Shape} {e : EltTy}

/-- A load through the box last written. -/
theorem readAt_writes_hit (v : View sig κ sp s e) (f : v.ty.Contents Val) (r : Rect s) (w : r.shape.Idx → Val e) (L : List (View.Piece Val s e)) :
    v.readAt Val r.toLoadRect (v.writes Val f (⟨r, w⟩ :: L)) = w := by
  funext j
  exact View.read_writes_cons_emb v f r w L j

theorem readCov_hit [∀ e, Nonempty (Val e)] (v : View sig κ sp s e) (r : Rect s) (w : r.shape.Idx → Val e) (L : List (View.Piece Val s e)) :
    v.readCov (⟨r, w⟩ :: L) r.toLoadRect = w := View.readCov_cons_toLoadRect v r w L

/-! The two slots of a double buffer are apart. -/

theorem readCov_miss_S2x512x2048_01 [∀ e, Nonempty (Val e)] (v : View sig κ sp S2x512x2048 e)
    (w : S1x512x2048.Idx → Val e) (L : List (View.Piece Val S2x512x2048 e)) :
    v.readCov (⟨Rect.unit (s := S2x512x2048) ![0, 0, 0] ![1, 512, 2048] inb_S2x512x2048_S1x512x2048_0_0_0, w⟩ :: L) (Rect.unit (s := S2x512x2048) ![1, 0, 0] ![1, 512, 2048] inb_S2x512x2048_S1x512x2048_1_0_0).toLoadRect
      = v.readCov L (Rect.unit (s := S2x512x2048) ![1, 0, 0] ![1, 512, 2048] inb_S2x512x2048_S1x512x2048_1_0_0).toLoadRect :=
  View.readCov_cons_of_disjoint v _ L _ (Rect.unit_disjoint (s := S2x512x2048) (inb := inb_S2x512x2048_S1x512x2048_0_0_0) (inb' := inb_S2x512x2048_S1x512x2048_1_0_0) (0 : Fin 3) (by decide))

theorem readCov_miss_S2x512x2048_10 [∀ e, Nonempty (Val e)] (v : View sig κ sp S2x512x2048 e)
    (w : S1x512x2048.Idx → Val e) (L : List (View.Piece Val S2x512x2048 e)) :
    v.readCov (⟨Rect.unit (s := S2x512x2048) ![1, 0, 0] ![1, 512, 2048] inb_S2x512x2048_S1x512x2048_1_0_0, w⟩ :: L) (Rect.unit (s := S2x512x2048) ![0, 0, 0] ![1, 512, 2048] inb_S2x512x2048_S1x512x2048_0_0_0).toLoadRect
      = v.readCov L (Rect.unit (s := S2x512x2048) ![0, 0, 0] ![1, 512, 2048] inb_S2x512x2048_S1x512x2048_0_0_0).toLoadRect :=
  View.readCov_cons_of_disjoint v _ L _ (Rect.unit_disjoint (s := S2x512x2048) (inb := inb_S2x512x2048_S1x512x2048_1_0_0) (inb' := inb_S2x512x2048_S1x512x2048_0_0_0) (0 : Fin 3) (by decide))

theorem readCov_miss_S2x1x2048_01 [∀ e, Nonempty (Val e)] (v : View sig κ sp S2x1x2048 e)
    (w : S1x1x2048.Idx → Val e) (L : List (View.Piece Val S2x1x2048 e)) :
    v.readCov (⟨Rect.unit (s := S2x1x2048) ![0, 0, 0] ![1, 1, 2048] inb_S2x1x2048_S1x1x2048_0_0_0, w⟩ :: L) (Rect.unit (s := S2x1x2048) ![1, 0, 0] ![1, 1, 2048] inb_S2x1x2048_S1x1x2048_1_0_0).toLoadRect
      = v.readCov L (Rect.unit (s := S2x1x2048) ![1, 0, 0] ![1, 1, 2048] inb_S2x1x2048_S1x1x2048_1_0_0).toLoadRect :=
  View.readCov_cons_of_disjoint v _ L _ (Rect.unit_disjoint (s := S2x1x2048) (inb := inb_S2x1x2048_S1x1x2048_0_0_0) (inb' := inb_S2x1x2048_S1x1x2048_1_0_0) (0 : Fin 3) (by decide))

theorem readCov_miss_S2x1x2048_10 [∀ e, Nonempty (Val e)] (v : View sig κ sp S2x1x2048 e)
    (w : S1x1x2048.Idx → Val e) (L : List (View.Piece Val S2x1x2048 e)) :
    v.readCov (⟨Rect.unit (s := S2x1x2048) ![1, 0, 0] ![1, 1, 2048] inb_S2x1x2048_S1x1x2048_1_0_0, w⟩ :: L) (Rect.unit (s := S2x1x2048) ![0, 0, 0] ![1, 1, 2048] inb_S2x1x2048_S1x1x2048_0_0_0).toLoadRect
      = v.readCov L (Rect.unit (s := S2x1x2048) ![0, 0, 0] ![1, 1, 2048] inb_S2x1x2048_S1x1x2048_0_0_0).toLoadRect :=
  View.readCov_cons_of_disjoint v _ L _ (Rect.unit_disjoint (s := S2x1x2048) (inb := inb_S2x1x2048_S1x1x2048_1_0_0) (inb' := inb_S2x1x2048_S1x1x2048_0_0_0) (0 : Fin 3) (by decide))
end

/-- What a step reads: the waiting scores and their column maxima, the previous step's weights and rescaling factors,
    the running maximum, the accumulator. -/
@[ext] structure St (F : FTy → Type) where
  s : Vec F S1x512x2048 .f32
  mx : Vec F S1x1x2048 .f32
  p : Vec F S1x512x2048 .bf16
  a : Vec F S1x1x2048 .f32
  m : Vec F S1x2048 .f32
  acc : Vec F S144x2048 .f32

/-- One step: the weights of the waiting scores, the accumulator by the previous chunk (values `vp`), the next chunk's
    scores (keys `kn`). -/
def step (q : Vec F S128x2048 .bf16) (kn : Vec F S1x512x128 .bf16) (vp : Vec F S1x1x144x512 .bf16) (x : St F) : St F where
  s := k0_pay36 kn q
  mx := k0_pay37 kn q
  p := k0_pay29 x.m x.mx x.s
  a := k0_pay30 x.m x.mx
  m := k0_pay31 x.m x.mx
  acc := k0_pay34 (k0_pay32 vp) (k0_pay33 x.p) x.a x.acc

/-- The fast road keeps the weights and the accumulator only. -/
@[ext] structure StF (F : FTy → Type) where
  p : Vec F S1x512x2048 .bf16
  acc : Vec F S144x2048 .f32

/-- One step of the fast road: the weights of a chunk against the fixed bound `b`, the accumulator by the chunk before. -/
def stepF (b : FVec F S1x2048 .f32) (q : Vec F S128x2048 .bf16) (kc : Vec F S1x512x128 .bf16) (vp : Vec F S1x1x144x512 .bf16) (x : StF F) : StF F where
  p := k0_pay10 b kc q
  acc := k0_pay11 x.acc vp x.p

section
variable (arg4 : Memref sig .tc .vmem S1x16384x128 .bf16) (arg5 : Memref sig .tc .vmem S1x32x144x512 .bf16) (arg7 : Memref sig .tc .vmem S128x2048 .bf16)
  (X4 : BufTy.Contents (Elt F) arg4.view.ty) (X5 : BufTy.Contents (Elt F) arg5.view.ty) (X7 : BufTy.Contents (Elt F) arg7.view.ty)

/-- The transposed queries as the loops read them. -/
abbrev rq : Vec F S128x2048 .bf16 := arg7.view.readAt (Elt F) (Rect.unit (s := S128x2048) ![0, 0] S128x2048.size inb_S128x2048_S128x2048_0_0).toLoadRect X7
/-- The keys read at an offset. -/
abbrev kn (o : Fin 3 → ℕ) (h : ∀ a, o a + S1x512x128.size a ≤ S1x16384x128.size a) : Vec F S1x512x128 .bf16 :=
  arg4.view.readAt (Elt F) (Rect.unit (s := S1x16384x128) o S1x512x128.size h).toLoadRect X4
/-- The values read at an offset. -/
abbrev vp (o : Fin 4 → ℕ) (h : ∀ a, o a + S1x1x144x512.size a ≤ S1x32x144x512.size a) : Vec F S1x1x144x512 .bf16 :=
  arg5.view.readAt (Elt F) (Rect.unit (s := S1x32x144x512) o S1x1x144x512.size h).toLoadRect X5

/-- A step reading its keys and values at given offsets. -/
def stepAt (o : Fin 3 → ℕ) (h : ∀ a, o a + S1x512x128.size a ≤ S1x16384x128.size a) (o' : Fin 4 → ℕ)
    (h' : ∀ a, o' a + S1x1x144x512.size a ≤ S1x32x144x512.size a) (x : St F) : St F :=
  step (rq arg7 X7) (kn arg4 X4 o h) (vp arg5 X5 o' h') x

/-- Trip `k`: its eight steps. -/
def tripSt (k : Fin k0_t3_loop.trips) (x : St F) : St F :=
  let g := stepAt arg4 arg5 arg7 X4 X5 X7
  let x := g (k0_off5 k 0#32) (k0_off5_inb k 0) (k0_off4 k 0#32) (k0_off4_inb k 0) x
  let x := g (k0_off5 k 1#32) (k0_off5_inb k 1) (k0_off4 k 1#32) (k0_off4_inb k 1) x
  let x := g (k0_off5 k 2#32) (k0_off5_inb k 2) (k0_off4 k 2#32) (k0_off4_inb k 2) x
  let x := g (k0_off5 k 3#32) (k0_off5_inb k 3) (k0_off4 k 3#32) (k0_off4_inb k 3) x
  let x := g (k0_off5 k 4#32) (k0_off5_inb k 4) (k0_off4 k 4#32) (k0_off4_inb k 4) x
  let x := g (k0_off5 k 5#32) (k0_off5_inb k 5) (k0_off4 k 5#32) (k0_off4_inb k 5) x
  let x := g (k0_off5 k 6#32) (k0_off5_inb k 6) (k0_off4 k 6#32) (k0_off4_inb k 6) x
  let x := g (k0_off5 k 7#32) (k0_off5_inb k 7) (k0_off4 k 7#32) (k0_off4_inb k 7) x
  x

/-- A step of the fast road reading its keys and values at given offsets. -/
def stepAtF (b : FVec F S1x2048 .f32) (o : Fin 3 → ℕ) (h : ∀ a, o a + S1x512x128.size a ≤ S1x16384x128.size a) (o' : Fin 4 → ℕ)
    (h' : ∀ a, o' a + S1x1x144x512.size a ≤ S1x32x144x512.size a) (x : StF F) : StF F :=
  stepF b (rq arg7 X7) (kn arg4 X4 o h) (vp arg5 X5 o' h') x

/-- Trip `k` of the fast road: its eight steps. -/
def tripF (b : FVec F S1x2048 .f32) (k : Fin k0_t2_loop.trips) (x : StF F) : StF F :=
  let g := stepAtF arg4 arg5 arg7 X4 X5 X7 b
  let x := g (k0_off2 k 0#32) (k0_off2_inb k 0) (k0_off3 k 0#32) (k0_off3_inb k 0) x
  let x := g (k0_off2 k 1#32) (k0_off2_inb k 1) (k0_off3 k 1#32) (k0_off3_inb k 1) x
  let x := g (k0_off2 k 2#32) (k0_off2_inb k 2) (k0_off3 k 2#32) (k0_off3_inb k 2) x
  let x := g (k0_off2 k 3#32) (k0_off2_inb k 3) (k0_off3 k 3#32) (k0_off3_inb k 3) x
  let x := g (k0_off2 k 4#32) (k0_off2_inb k 4) (k0_off3 k 4#32) (k0_off3_inb k 4) x
  let x := g (k0_off2 k 5#32) (k0_off2_inb k 5) (k0_off3 k 5#32) (k0_off3_inb k 5) x
  let x := g (k0_off2 k 6#32) (k0_off2_inb k 6) (k0_off3 k 6#32) (k0_off3_inb k 6) x
  let x := g (k0_off2 k 7#32) (k0_off2_inb k 7) (k0_off3 k 7#32) (k0_off3_inb k 7) x
  x

/-- The fast road before trip `k`. -/
def stAtF (b : FVec F S1x2048 .f32) (x : StF F) : ℕ → StF F
  | 0 => x
  | k + 1 => if h : k < k0_t2_loop.trips then tripF arg4 arg5 arg7 X4 X5 X7 b ⟨k, h⟩ (stAtF b x k) else stAtF b x k

theorem stAtF_succ (b : FVec F S1x2048 .f32) (x : StF F) (k : Fin k0_t2_loop.trips) :
    stAtF arg4 arg5 arg7 X4 X5 X7 b x (k.val + 1) = tripF arg4 arg5 arg7 X4 X5 X7 b k (stAtF arg4 arg5 arg7 X4 X5 X7 b x k.val) := by
  rw [stAtF]; exact dif_pos k.isLt

/-- The largest squared key length, over the chunks before `k`. -/
def kmaxAt (x : FVec F S1x1 .f32) : ℕ → FVec F S1x1 .f32
  | 0 => x
  | k + 1 => if h : k < k0_t1_loop.trips then
      k0_pay112 (kmaxAt x k) (kn arg4 X4 (k0_off1 ⟨k, h⟩) (off1_inb ⟨k, h⟩)) else kmaxAt x k

theorem kmaxAt_succ (x : FVec F S1x1 .f32) (k : Fin k0_t1_loop.trips) :
    kmaxAt arg4 X4 x (k.val + 1) = k0_pay112 (kmaxAt arg4 X4 x k.val) (kn arg4 X4 (k0_off1 k) (off1_inb k)) := by
  rw [kmaxAt]; exact dif_pos k.isLt

/-- The values before trip `k`. -/
def stAt (x : St F) : ℕ → St F
  | 0 => x
  | k + 1 => if h : k < k0_t3_loop.trips then tripSt arg4 arg5 arg7 X4 X5 X7 ⟨k, h⟩ (stAt x k) else stAt x k

theorem stAt_succ (x : St F) (k : Fin k0_t3_loop.trips) :
    stAt arg4 arg5 arg7 X4 X5 X7 x (k.val + 1) = tripSt arg4 arg5 arg7 X4 X5 X7 k (stAt arg4 arg5 arg7 X4 X5 X7 x k.val) := by
  rw [stAt]; exact dif_pos k.isLt
end

section
variable (arg8 : Memref sig .tc .vmem S2x512x2048 .f32) (arg9 : Memref sig .tc .vmem S2x1x2048 .f32) (arg10 : Memref sig .tc .vmem S2x512x2048 .bf16)
  (arg11 : Memref sig .tc .vmem S2x1x2048 .f32) (arg12 : Memref sig .tc .vmem S1x2048 .f32) (arg13 : Memref sig .tc .vmem S144x2048 .f32)

/-- What a step will read of the six buffers. -/
def rd (f8 : BufTy.Contents (Elt F) arg8.view.ty) (f9 : BufTy.Contents (Elt F) arg9.view.ty) (f10 : BufTy.Contents (Elt F) arg10.view.ty)
    (f11 : BufTy.Contents (Elt F) arg11.view.ty) (f12 : BufTy.Contents (Elt F) arg12.view.ty) (f13 : BufTy.Contents (Elt F) arg13.view.ty) : St F where
  s := arg8.view.readAt (Elt F) (Rect.unit (s := S2x512x2048) ![0, 0, 0] S1x512x2048.size inb_S2x512x2048_S1x512x2048_0_0_0).toLoadRect f8
  mx := arg9.view.readAt (Elt F) (Rect.unit (s := S2x1x2048) ![0, 0, 0] S1x1x2048.size inb_S2x1x2048_S1x1x2048_0_0_0).toLoadRect f9
  p := arg10.view.readAt (Elt F) (Rect.unit (s := S2x512x2048) ![1, 0, 0] S1x512x2048.size inb_S2x512x2048_S1x512x2048_1_0_0).toLoadRect f10
  a := arg11.view.readAt (Elt F) (Rect.unit (s := S2x1x2048) ![1, 0, 0] S1x1x2048.size inb_S2x1x2048_S1x1x2048_1_0_0).toLoadRect f11
  m := arg12.view.readAt (Elt F) (Rect.unit (s := S1x2048) ![0, 0] S1x2048.size inb_S1x2048_S1x2048_0_0).toLoadRect f12
  acc := arg13.view.readAt (Elt F) (Rect.unit (s := S144x2048) ![0, 0] S144x2048.size inb_S144x2048_S144x2048_0_0).toLoadRect f13

/-- What a step of the fast road will read: the weights of the step before, the accumulator. -/
def rdF (f10 : BufTy.Contents (Elt F) arg10.view.ty) (f13 : BufTy.Contents (Elt F) arg13.view.ty) : StF F where
  p := arg10.view.readAt (Elt F) (Rect.unit (s := S2x512x2048) ![1, 0, 0] S1x512x2048.size inb_S2x512x2048_S1x512x2048_1_0_0).toLoadRect f10
  acc := arg13.view.readAt (Elt F) (Rect.unit (s := S144x2048) ![0, 0] S144x2048.size inb_S144x2048_S144x2048_0_0).toLoadRect f13
end

section
variable (c : Dev nD) (i : grid0.Coords) (arg3 : Memref sig .tc .vmem S4x512x128 .bf16) (harg3 : arg3.IsWhole) (arg4 : Memref sig .tc .vmem S1x16384x128 .bf16) (harg4 : arg4.IsWhole) (arg5 : Memref sig .tc .vmem S1x32x144x512 .bf16) (harg5 : arg5.IsWhole) (arg6 : Memref sig .tc .vmem S512x512 .bf16) (harg6 : arg6.IsWhole) (arg7 : Memref sig .tc .vmem S128x2048 .bf16) (harg7 : arg7.IsWhole) (arg8 : Memref sig .tc .vmem S2x512x2048 .f32) (harg8 : arg8.IsWhole) (arg9 : Memref sig .tc .vmem S2x1x2048 .f32) (harg9 : arg9.IsWhole) (arg10 : Memref sig .tc .vmem S2x512x2048 .bf16) (harg10 : arg10.IsWhole) (arg11 : Memref sig .tc .vmem S2x1x2048 .f32) (harg11 : arg11.IsWhole) (arg12 : Memref sig .tc .vmem S1x2048 .f32) (harg12 : arg12.IsWhole) (arg13 : Memref sig .tc .vmem S144x2048 .f32) (harg13 : arg13.IsWhole) (arg14 : Memref sig .tc .vmem S1x1 .f32) (harg14 : arg14.IsWhole)
  (X4 : BufTy.Contents (Elt F) arg4.view.ty) (X5 : BufTy.Contents (Elt F) arg5.view.ty) (X7 : BufTy.Contents (Elt F) arg7.view.ty)

/-- The resources of the slow road: keys, values and queries as given, the six scratch buffers holding `x`. -/
abbrev Res3 (x : St F) : sProp 𝕄 :=
  iprop((arg4.view.loc (c : Thread nD τ) ↦[arg4.view.set]{fullShare} X4) ∗ (arg5.view.loc (c : Thread nD τ) ↦[arg5.view.set]{fullShare} X5)
    ∗ (arg7.view.loc (c : Thread nD τ) ↦[arg7.view.set]{fullShare} X7)
    ∗ ∃ f8 f9 f10 f11 f12 f13, (arg8.view.loc (c : Thread nD τ) ↦[arg8.view.set]{fullShare} f8)
      ∗ (arg9.view.loc (c : Thread nD τ) ↦[arg9.view.set]{fullShare} f9) ∗ (arg10.view.loc (c : Thread nD τ) ↦[arg10.view.set]{fullShare} f10)
      ∗ (arg11.view.loc (c : Thread nD τ) ↦[arg11.view.set]{fullShare} f11) ∗ (arg12.view.loc (c : Thread nD τ) ↦[arg12.view.set]{fullShare} f12)
      ∗ (arg13.view.loc (c : Thread nD τ) ↦[arg13.view.set]{fullShare} f13) ∗ ⌜rd arg8 arg9 arg10 arg11 arg12 arg13 f8 f9 f10 f11 f12 f13 = x⌝)

theorem trip3 (k : Fin k0_t3_loop.trips) (x : St F) :
    Res3 c arg4 arg5 arg7 arg8 arg9 arg10 arg11 arg12 arg13 X4 X5 X7 x
      ⊢ wp frame (wpE (defs₀ (F := F)) Variants.none (c : Thread nD τ) none) Set.univ (k0_t3_body (F := F) i arg3 harg3 arg4 harg4 arg5 harg5 arg6 harg6 arg7 harg7 arg8 harg8 arg9 harg9 arg10 harg10 arg11 harg11 arg12 harg12 arg13 harg13 arg14 harg14 k PUnit.unit)
          (fun _ => Res3 c arg4 arg5 arg7 arg8 arg9 arg10 arg11 arg12 arg13 X4 X5 X7 (tripSt arg4 arg5 arg7 X4 X5 X7 k x)) := by
  have hk : k.val < 4 := Nat.lt_of_lt_of_le k.isLt k0_t3_abs.2.1
  iintro ⟨HR4, HR5, HR7, %f8, %f9, %f10, %f11, %f12, %f13, HW8, HW9, HW10, HW11, HW12, HW13, %hx⟩
  unfold k0_t3_body
  sl_exec
  sl_step
  isplitl [HR4]; · iexact HR4
  isplitl [HR5]; · iexact HR5
  isplitl [HR7]; · iexact HR7
  iexists _; iexists _; iexists _; iexists _; iexists _; iexists _
  isplitl [HW8]; · iexact HW8
  isplitl [HW9]; · iexact HW9
  isplitl [HW10]; · iexact HW10
  isplitl [HW11]; · iexact HW11
  isplitl [HW12]; · iexact HW12
  isplitl [HW13]; · iexact HW13
  ipureintro
  subst hx
  refine St.ext ?_ ?_ ?_ ?_ ?_ ?_
  all_goals sl_unfold_run_names
  all_goals dsimp only [rd, tripSt, stepAt, step, rq, kn, vp, k0_pay28, k0_pay29, k0_pay30, k0_pay31, k0_pay32, k0_pay33, k0_pay34, k0_pay35, k0_pay36, k0_pay37]
  all_goals try simp only [readAt_writes_hit, readCov_hit, readCov_miss_S2x512x2048_01, readCov_miss_S2x512x2048_10, readCov_miss_S2x1x2048_01, readCov_miss_S2x1x2048_10]
  · rfl

/-- The resources of the fast road. -/
abbrev Res2 (x : StF F) : sProp 𝕄 :=
  iprop((arg4.view.loc (c : Thread nD τ) ↦[arg4.view.set]{fullShare} X4) ∗ (arg5.view.loc (c : Thread nD τ) ↦[arg5.view.set]{fullShare} X5) ∗ (arg7.view.loc (c : Thread nD τ) ↦[arg7.view.set]{fullShare} X7)
    ∗ ∃ f10 f13, (arg10.view.loc (c : Thread nD τ) ↦[arg10.view.set]{fullShare} f10) ∗ (arg13.view.loc (c : Thread nD τ) ↦[arg13.view.set]{fullShare} f13) ∗ ⌜rdF arg10 arg13 f10 f13 = x⌝)

theorem trip2 (b : FVec F S1x2048 .f32) (k : Fin k0_t2_loop.trips) (x : StF F) :
    Res2 c arg4 arg5 arg7 arg10 arg13 X4 X5 X7 x
      ⊢ wp frame (wpE (defs₀ (F := F)) Variants.none (c : Thread nD τ) none) Set.univ (k0_t2_body (F := F) i arg3 harg3 arg4 harg4 arg5 harg5 arg6 harg6 arg7 harg7 arg8 harg8 arg9 harg9 arg10 harg10 arg11 harg11 arg12 harg12 arg13 harg13 arg14 harg14 b k PUnit.unit)
          (fun _ => Res2 c arg4 arg5 arg7 arg10 arg13 X4 X5 X7 (tripF arg4 arg5 arg7 X4 X5 X7 b k x)) := by
  have hk : k.val < 4 := Nat.lt_of_lt_of_le k.isLt k0_t2_abs.2.1
  iintro ⟨HR4, HR5, HR7, %f10, %f13, HW10, HW13, %hx⟩
  unfold k0_t2_body
  sl_exec
  sl_step
  isplitl [HR4]; · iexact HR4
  isplitl [HR5]; · iexact HR5
  isplitl [HR7]; · iexact HR7
  iexists _; iexists _
  isplitl [HW10]; · iexact HW10
  isplitl [HW13]; · iexact HW13
  ipureintro
  subst hx
  refine StF.ext ?_ ?_
  all_goals sl_unfold_run_names
  all_goals dsimp only [rdF, tripF, stepAtF, stepF, rq, kn, vp, k0_pay10, k0_pay11]
  all_goals try simp only [readAt_writes_hit, readCov_hit, readCov_miss_S2x512x2048_01, readCov_miss_S2x512x2048_10, readCov_miss_S2x1x2048_01, readCov_miss_S2x1x2048_10]
  · rfl
end

section
variable (c : Dev nD) (i : grid0.Coords) (arg3 : Memref sig .tc .vmem S4x512x128 .bf16) (harg3 : arg3.IsWhole) (arg4 : Memref sig .tc .vmem S1x16384x128 .bf16) (harg4 : arg4.IsWhole) (arg5 : Memref sig .tc .vmem S1x32x144x512 .bf16) (harg5 : arg5.IsWhole) (arg6 : Memref sig .tc .vmem S512x512 .bf16) (harg6 : arg6.IsWhole) (arg7 : Memref sig .tc .vmem S128x2048 .bf16) (harg7 : arg7.IsWhole) (arg8 : Memref sig .tc .vmem S2x512x2048 .f32) (harg8 : arg8.IsWhole) (arg9 : Memref sig .tc .vmem S2x1x2048 .f32) (harg9 : arg9.IsWhole) (arg10 : Memref sig .tc .vmem S2x512x2048 .bf16) (harg10 : arg10.IsWhole) (arg11 : Memref sig .tc .vmem S2x1x2048 .f32) (harg11 : arg11.IsWhole) (arg12 : Memref sig .tc .vmem S1x2048 .f32) (harg12 : arg12.IsWhole) (arg13 : Memref sig .tc .vmem S144x2048 .f32) (harg13 : arg13.IsWhole) (arg14 : Memref sig .tc .vmem S1x1 .f32) (harg14 : arg14.IsWhole)
  (X4 : BufTy.Contents (Elt F) arg4.view.ty) (X5 : BufTy.Contents (Elt F) arg5.view.ty) (X7 : BufTy.Contents (Elt F) arg7.view.ty)

set_option warn.classDefReducibility false in
/-- The slow road's loop. -/
@[reducible, sl_loop] def loop3 (G8 : BufTy.Contents (Elt F) arg8.view.ty) (G9 : BufTy.Contents (Elt F) arg9.view.ty) (G10 : BufTy.Contents (Elt F) arg10.view.ty)
    (G11 : BufTy.Contents (Elt F) arg11.view.ty) (G12 : BufTy.Contents (Elt F) arg12.view.ty) (G13 : BufTy.Contents (Elt F) arg13.view.ty) :
    LoopInvTy_k0_t3 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 where
  inv k _ := Res3 c arg4 arg5 arg7 arg8 arg9 arg10 arg11 arg12 arg13 X4 X5 X7
    (stAt arg4 arg5 arg7 X4 X5 X7 (rd arg8 arg9 arg10 arg11 arg12 arg13 G8 G9 G10 G11 G12 G13) k)
  step k _ := by
    rw [stAt_succ]
    exact trip3 c i arg3 harg3 arg4 harg4 arg5 harg5 arg6 harg6 arg7 harg7 arg8 harg8 arg9 harg9 arg10 harg10 arg11 harg11 arg12 harg12 arg13 harg13 arg14 harg14 X4 X5 X7 k _

set_option warn.classDefReducibility false in
/-- The fast road's loop. -/
@[reducible, sl_loop] def loop2 (b : FVec F S1x2048 .f32) (G10 : BufTy.Contents (Elt F) arg10.view.ty) (G13 : BufTy.Contents (Elt F) arg13.view.ty) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 b where
  inv k _ := Res2 c arg4 arg5 arg7 arg10 arg13 X4 X5 X7
    (stAtF arg4 arg5 arg7 X4 X5 X7 b (rdF arg10 arg13 G10 G13) k)
  step k _ := by
    rw [stAtF_succ]
    exact trip2 c i arg3 harg3 arg4 harg4 arg5 harg5 arg6 harg6 arg7 harg7 arg8 harg8 arg9 harg9 arg10 harg10 arg11 harg11 arg12 harg12 arg13 harg13 arg14 harg14 X4 X5 X7 b k _

set_option warn.classDefReducibility false in
/-- The loop over the keys. -/
@[reducible, sl_loop] def loop1 (h1 : k0_cond1 i = 1#1) (init : FVec F S1x1 .f32) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 h1 init where
  inv k acc := iprop((arg4.view.loc (c : Thread nD τ) ↦[arg4.view.set]{fullShare} X4) ∗ ⌜acc = kmaxAt arg4 X4 init k⌝)
  step k acc := by
    have hk : k.val < 32 := Nat.lt_of_lt_of_le k.isLt k0_t1_abs.2.1
    rw [kmaxAt_succ]
    iintro ⟨HR4, %hx⟩
    subst hx
    unfold k0_t1_body
    sl_exec
    sl_step
    isplitl [HR4]; · iexact HR4
    ipureintro; rfl
end

end Cert.KernelIdeal.Attn

end
-- ==== Proof.AttnPure.lean ====
module

public import proofs.«01_k».proof.Proof.AttnLoop

@[expose] public section

set_option maxRecDepth 100000
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-! ## The same values of the blocks themselves -/

/-- A block's part at an offset. -/
abbrev kQ (K : Vec F S1x16384x128 .bf16) (o : Fin 3 → ℕ) (h : ∀ a, o a + S1x512x128.size a ≤ S1x16384x128.size a) : Vec F S1x512x128 .bf16 :=
  View.ld K (Rect.unit (s := S1x16384x128) o S1x512x128.size h)
abbrev vQ (W : Vec F S1x32x144x512 .bf16) (o : Fin 4 → ℕ) (h : ∀ a, o a + S1x1x144x512.size a ≤ S1x32x144x512.size a) : Vec F S1x1x144x512 .bf16 :=
  View.ld W (Rect.unit (s := S1x32x144x512) o S1x1x144x512.size h)

section
variable (q : Vec F S128x2048 .bf16) (K : Vec F S1x16384x128 .bf16) (W : Vec F S1x32x144x512 .bf16)

def stepQ (o : Fin 3 → ℕ) (h : ∀ a, o a + S1x512x128.size a ≤ S1x16384x128.size a) (o' : Fin 4 → ℕ)
    (h' : ∀ a, o' a + S1x1x144x512.size a ≤ S1x32x144x512.size a) (x : St F) : St F :=
  step q (kQ K o h) (vQ W o' h') x

/-- Trip `k` of the running maximum. -/
def tripQ (k : Fin k0_t3_loop.trips) (x : St F) : St F :=
  let g := stepQ q K W
  let x := g (k0_off5 k 0#32) (k0_off5_inb k 0) (k0_off4 k 0#32) (k0_off4_inb k 0) x
  let x := g (k0_off5 k 1#32) (k0_off5_inb k 1) (k0_off4 k 1#32) (k0_off4_inb k 1) x
  let x := g (k0_off5 k 2#32) (k0_off5_inb k 2) (k0_off4 k 2#32) (k0_off4_inb k 2) x
  let x := g (k0_off5 k 3#32) (k0_off5_inb k 3) (k0_off4 k 3#32) (k0_off4_inb k 3) x
  let x := g (k0_off5 k 4#32) (k0_off5_inb k 4) (k0_off4 k 4#32) (k0_off4_inb k 4) x
  let x := g (k0_off5 k 5#32) (k0_off5_inb k 5) (k0_off4 k 5#32) (k0_off4_inb k 5) x
  let x := g (k0_off5 k 6#32) (k0_off5_inb k 6) (k0_off4 k 6#32) (k0_off4_inb k 6) x
  let x := g (k0_off5 k 7#32) (k0_off5_inb k 7) (k0_off4 k 7#32) (k0_off4_inb k 7) x
  x

/-- The running maximum's values before trip `n`. -/
def stQ (x : St F) : ℕ → St F
  | 0 => x
  | k + 1 => if h : k < k0_t3_loop.trips then tripQ q K W ⟨k, h⟩ (stQ x k) else stQ x k

def stepFQ (b : FVec F S1x2048 .f32) (o : Fin 3 → ℕ) (h : ∀ a, o a + S1x512x128.size a ≤ S1x16384x128.size a) (o' : Fin 4 → ℕ)
    (h' : ∀ a, o' a + S1x1x144x512.size a ≤ S1x32x144x512.size a) (x : StF F) : StF F :=
  stepF b q (kQ K o h) (vQ W o' h') x

/-- Trip `k` against a fixed bound. -/
def tripFQ (b : FVec F S1x2048 .f32) (k : Fin k0_t2_loop.trips) (x : StF F) : StF F :=
  let g := stepFQ q K W b
  let x := g (k0_off2 k 0#32) (k0_off2_inb k 0) (k0_off3 k 0#32) (k0_off3_inb k 0) x
  let x := g (k0_off2 k 1#32) (k0_off2_inb k 1) (k0_off3 k 1#32) (k0_off3_inb k 1) x
  let x := g (k0_off2 k 2#32) (k0_off2_inb k 2) (k0_off3 k 2#32) (k0_off3_inb k 2) x
  let x := g (k0_off2 k 3#32) (k0_off2_inb k 3) (k0_off3 k 3#32) (k0_off3_inb k 3) x
  let x := g (k0_off2 k 4#32) (k0_off2_inb k 4) (k0_off3 k 4#32) (k0_off3_inb k 4) x
  let x := g (k0_off2 k 5#32) (k0_off2_inb k 5) (k0_off3 k 5#32) (k0_off3_inb k 5) x
  let x := g (k0_off2 k 6#32) (k0_off2_inb k 6) (k0_off3 k 6#32) (k0_off3_inb k 6) x
  let x := g (k0_off2 k 7#32) (k0_off2_inb k 7) (k0_off3 k 7#32) (k0_off3_inb k 7) x
  x

/-- The values against a fixed bound before trip `n`. -/
def stFQ (b : FVec F S1x2048 .f32) (x : StF F) : ℕ → StF F
  | 0 => x
  | k + 1 => if h : k < k0_t2_loop.trips then tripFQ q K W b ⟨k, h⟩ (stFQ b x k) else stFQ b x k

/-- The largest squared length of the keys of the chunks before `n`. -/
def kmQ (x : FVec F S1x1 .f32) : ℕ → FVec F S1x1 .f32
  | 0 => x
  | k + 1 => if h : k < k0_t1_loop.trips then
      k0_pay112 (kmQ x k) (kQ K (k0_off1 ⟨k, h⟩) (off1_inb ⟨k, h⟩)) else kmQ x k

/-- The block's largest squared key length. -/
def km : FVec F S1x1 .f32 := k0_pay113 (kmQ K k0_pay111 k0_t1_loop.trips)

/-- Whether every bound is small enough for the fast road. -/
def small (kmax : FVec F S1x1 .f32) : BitVec 1 :=
  Scalar.cmpi .ne (Scalar.extui (Scalar.cmpf .olt (k0_pay1 (k0_pay115 q kmax)) (Scalar.ofBits .f32 0x42200000#32)) : BitVec 32) 0#32

/-- The fast road's accumulator. -/
def accFast (b : FVec F S1x2048 .f32) : Vec F S144x2048 .f32 :=
  let x := stFQ q K W b ⟨k0_pay110, k0_pay109⟩ k0_t2_loop.trips
  k0_pay3 x.acc (vQ W ![0, 31, 0, 0] inb_S1x32x144x512_S1x1x144x512_0_31_0_0) x.p

/-- The running maximum's accumulator. -/
def accSlow : Vec F S144x2048 .f32 :=
  let k₀ := kQ K ![0, 0, 0] inb_S1x16384x128_S1x512x128_0_0_0
  let x := stQ q K W ⟨k0_pay104 k₀ q, k0_pay105 k₀ q, k0_pay110, k0_pay102, k0_pay101, k0_pay109⟩ k0_t3_loop.trips
  k0_pay4 (k0_pay107 (vQ W ![0, 31, 0, 0] inb_S1x32x144x512_S1x1x144x512_0_31_0_0)) x.p x.a x.acc

/-- The accumulator at the end. -/
def accQ (kmax : FVec F S1x1 .f32) : Vec F S144x2048 .f32 :=
  if small q kmax = 1#1 then accFast q K W (k0_pay114 q kmax) else accSlow q K W
end

/-- The block written: its four heads of the accumulator divided by its row of weights. -/
def outQ (acc : Vec F S144x2048 .f32) : Vec F S512x512 .bf16 :=
  let n := View.ld acc (Rect.unit (s := S144x2048) ![0, 0] S128x2048.size inb_S144x2048_S128x2048_0_0)
  let d := View.ld acc (Rect.unit (s := S144x2048) ![128, 0] S1x2048.size inb_S144x2048_S1x2048_128_0)
  View.canon (Val := Elt F) [⟨Rect.unit (s := S512x512) ![0, 384] S512x128.size inb_S512x512_S512x128_0_384, k0_pay9 n d⟩,
    ⟨Rect.unit (s := S512x512) ![0, 256] S512x128.size inb_S512x512_S512x128_0_256, k0_pay8 n d⟩,
    ⟨Rect.unit (s := S512x512) ![0, 128] S512x128.size inb_S512x512_S512x128_0_128, k0_pay7 n d⟩,
    ⟨Rect.unit (s := S512x512) ![0, 0] S512x128.size inb_S512x512_S512x128_0_0, k0_pay6 n d⟩]

section
variable (arg4 : Memref sig .tc .vmem S1x16384x128 .bf16) (arg5 : Memref sig .tc .vmem S1x32x144x512 .bf16) (arg7 : Memref sig .tc .vmem S128x2048 .bf16)
  (X4 : BufTy.Contents (Elt F) arg4.view.ty) (X5 : BufTy.Contents (Elt F) arg5.view.ty) (X7 : BufTy.Contents (Elt F) arg7.view.ty)

theorem stAt_eq (x : St F) (n : ℕ) :
    stAt arg4 arg5 arg7 X4 X5 X7 x n = stQ (rq arg7 X7) (arg4.view.read (Elt F) X4) (arg5.view.read (Elt F) X5) x n := by
  induction n with
  | zero => rfl
  | succ n ih =>
    rw [stAt, stQ, ih]
    split
    · rfl
    · rfl

theorem stAtF_eq (b : FVec F S1x2048 .f32) (x : StF F) (n : ℕ) :
    stAtF arg4 arg5 arg7 X4 X5 X7 b x n = stFQ (rq arg7 X7) (arg4.view.read (Elt F) X4) (arg5.view.read (Elt F) X5) b x n := by
  induction n with
  | zero => rfl
  | succ n ih =>
    rw [stAtF, stFQ, ih]
    split
    · rfl
    · rfl

theorem kmaxAt_eq (x : FVec F S1x1 .f32) (n : ℕ) : kmaxAt arg4 X4 x n = kmQ (arg4.view.read (Elt F) X4) x n := by
  induction n with
  | zero => rfl
  | succ n ih => rw [kmaxAt, kmQ, ih]; rfl
end

/-- The transposed and scaled queries of a block. -/
def qQ (Q : Vec F S4x512x128 .bf16) : Vec F S128x2048 .bf16 :=
  k0_pay108 (View.ld Q (Rect.unit (s := S4x512x128) ![0, 0, 0] S4x512x128.size inb_S4x512x128_S4x512x128_0_0_0))

theorem bit_cases (v : BitVec 1) :
    (Scalar.cmpi .ne (Scalar.extui v : BitVec 32) 0#32 = 1#1 ∧ ¬ Scalar.cmpi .ne (Scalar.extui (Scalar.xori v 1#1) : BitVec 32) 0#32 = 1#1)
    ∨ (¬ Scalar.cmpi .ne (Scalar.extui v : BitVec 32) 0#32 = 1#1 ∧ Scalar.cmpi .ne (Scalar.extui (Scalar.xori v 1#1) : BitVec 32) 0#32 = 1#1) := by
  revert v; decide

end Cert.KernelIdeal.Attn

end
-- ==== Proof.AttnBody.lean ====
module

public import proofs.«01_k».proof.Proof.AttnPure
public import proofs.«01_k».proof.Proof.Gen.KernelIdeal.Points
public import proofs.«01_k».proof.Proof.Gen.KernelIdeal.Launch

@[expose] public section

set_option maxRecDepth 100000
set_option maxHeartbeats 400000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section
variable (c : Dev nD) (i : grid0.Coords) (arg3 : Memref sig .tc .vmem S4x512x128 .bf16) (harg3 : arg3.IsWhole) (arg4 : Memref sig .tc .vmem S1x16384x128 .bf16) (harg4 : arg4.IsWhole) (arg5 : Memref sig .tc .vmem S1x32x144x512 .bf16) (harg5 : arg5.IsWhole) (arg6 : Memref sig .tc .vmem S512x512 .bf16) (harg6 : arg6.IsWhole) (arg7 : Memref sig .tc .vmem S128x2048 .bf16) (harg7 : arg7.IsWhole) (arg8 : Memref sig .tc .vmem S2x512x2048 .f32) (harg8 : arg8.IsWhole) (arg9 : Memref sig .tc .vmem S2x1x2048 .f32) (harg9 : arg9.IsWhole) (arg10 : Memref sig .tc .vmem S2x512x2048 .bf16) (harg10 : arg10.IsWhole) (arg11 : Memref sig .tc .vmem S2x1x2048 .f32) (harg11 : arg11.IsWhole) (arg12 : Memref sig .tc .vmem S1x2048 .f32) (harg12 : arg12.IsWhole) (arg13 : Memref sig .tc .vmem S144x2048 .f32) (harg13 : arg13.IsWhole) (arg14 : Memref sig .tc .vmem S1x1 .f32) (harg14 : arg14.IsWhole)
  (X3 : BufTy.Contents (Elt F) arg3.view.ty) (X4 : BufTy.Contents (Elt F) arg4.view.ty) (X5 : BufTy.Contents (Elt F) arg5.view.ty)

/-- The largest squared key length as the body reads it. -/
abbrev rk (f14 : BufTy.Contents (Elt F) arg14.view.ty) : Vec F S1x1 .f32 :=
  arg14.view.readAt (Elt F) (Rect.unit (s := S1x1) ![0, 0] S1x1.size inb_S1x1_S1x1_0_0).toLoadRect f14

/-- What the body leaves. -/
def Post (kmax : FVec F S1x1 .f32) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5)
    ∗ (∃ g6, (arg6.view.loc (c : Thread nD τ) ↦[arg6.view.set]{fullShare} g6) ∗ ⌜arg6.view.read (Elt F) g6 = outQ (accQ (qQ (arg3.view.read (Elt F) X3)) (arg4.view.read (Elt F) X4) (arg5.view.read (Elt F) X5) kmax)⌝)
    ∗ (∃ g7, (arg7.view.loc (c : Thread nD τ) ↦[arg7.view.set]{fullShare} g7)) ∗ (∃ g8, (arg8.view.loc (c : Thread nD τ) ↦[arg8.view.set]{fullShare} g8)) ∗ (∃ g9, (arg9.view.loc (c : Thread nD τ) ↦[arg9.view.set]{fullShare} g9)) ∗ (∃ g10, (arg10.view.loc (c : Thread nD τ) ↦[arg10.view.set]{fullShare} g10)) ∗ (∃ g11, (arg11.view.loc (c : Thread nD τ) ↦[arg11.view.set]{fullShare} g11)) ∗ (∃ g12, (arg12.view.loc (c : Thread nD τ) ↦[arg12.view.set]{fullShare} g12)) ∗ (∃ g13, (arg13.view.loc (c : Thread nD τ) ↦[arg13.view.set]{fullShare} g13))
    ∗ (∃ g14, (arg14.view.loc (c : Thread nD τ) ↦[arg14.view.set]{fullShare} g14) ∗ ⌜rk arg14 g14 = kmax⌝))

/-- A read of the four heads written. -/
theorem read_out (v : View sig .tc .vmem S512x512 .bf16) (f : v.ty.Contents (Elt F)) (n : Vec F S128x2048 .f32) (d : Vec F S1x2048 .f32) :
    v.read (Elt F) (v.writes (Elt F) f [⟨Rect.unit (s := S512x512) ![0, 384] S512x128.size inb_S512x512_S512x128_0_384, k0_pay9 n d⟩,
      ⟨Rect.unit (s := S512x512) ![0, 256] S512x128.size inb_S512x512_S512x128_0_256, k0_pay8 n d⟩,
      ⟨Rect.unit (s := S512x512) ![0, 128] S512x128.size inb_S512x512_S512x128_0_128, k0_pay7 n d⟩,
      ⟨Rect.unit (s := S512x512) ![0, 0] S512x128.size inb_S512x512_S512x128_0_0, k0_pay6 n d⟩])
    = View.canon [⟨Rect.unit (s := S512x512) ![0, 384] S512x128.size inb_S512x512_S512x128_0_384, k0_pay9 n d⟩,
      ⟨Rect.unit (s := S512x512) ![0, 256] S512x128.size inb_S512x512_S512x128_0_256, k0_pay8 n d⟩,
      ⟨Rect.unit (s := S512x512) ![0, 128] S512x128.size inb_S512x512_S512x128_0_128, k0_pay7 n d⟩,
      ⟨Rect.unit (s := S512x512) ![0, 0] S512x128.size inb_S512x512_S512x128_0_0, k0_pay6 n d⟩] :=
  View.read_writes_eq_canon _ _ _ (View.cover_of_tiledL _ S512x128.size (by sl_kernel_rfl))

theorem idx_whole (j : S144x2048.Idx) : (Rect.unit (s := S144x2048) ![0, 0] S144x2048.size inb_S144x2048_S144x2048_0_0).idx j = j := by
  funext a; apply Fin.ext; fin_cases a <;> simp [LoadRect.idx]

/-- A read of the accumulator just stored. -/
theorem readAt_acc (v : View sig .tc .vmem S144x2048 .f32) (f : v.ty.Contents (Elt F)) (w : Vec F S144x2048 .f32) (L : List (View.Piece (Elt F) S144x2048 .f32)) (r : Rect S144x2048) :
    v.readAt (Elt F) r.toLoadRect (v.writes (Elt F) f (⟨Rect.unit (s := S144x2048) ![0, 0] S144x2048.size inb_S144x2048_S144x2048_0_0, w⟩ :: L)) = View.ld w r := by
  funext x
  exact (congrArg (fun j => v.read (Elt F) (v.writes (Elt F) f (⟨Rect.unit (s := S144x2048) ![0, 0] S144x2048.size inb_S144x2048_S144x2048_0_0, w⟩ :: L)) j) (idx_whole _).symm).trans
    (View.read_writes_cons_emb v f (Rect.unit (s := S144x2048) ![0, 0] S144x2048.size inb_S144x2048_S144x2048_0_0) w L (r.idx x))

/-- A read of the four heads written of the accumulator just stored. -/
theorem read_out_acc (v : View sig .tc .vmem S512x512 .bf16) (f : v.ty.Contents (Elt F)) (u : View sig .tc .vmem S144x2048 .f32) (w : Vec F S144x2048 .f32) (L : List (View.Piece (Elt F) S144x2048 .f32)) :
    v.read (Elt F) (v.writes (Elt F) f [
      ⟨Rect.unit (s := S512x512) ![0, 384] S512x128.size inb_S512x512_S512x128_0_384, k0_pay9 (u.readCov (⟨Rect.unit (s := S144x2048) ![0, 0] S144x2048.size inb_S144x2048_S144x2048_0_0, w⟩ :: L) (Rect.unit (s := S144x2048) ![0, 0] S128x2048.size inb_S144x2048_S128x2048_0_0).toLoadRect) (u.readCov (⟨Rect.unit (s := S144x2048) ![0, 0] S144x2048.size inb_S144x2048_S144x2048_0_0, w⟩ :: L) (Rect.unit (s := S144x2048) ![128, 0] S1x2048.size inb_S144x2048_S1x2048_128_0).toLoadRect)⟩,
      ⟨Rect.unit (s := S512x512) ![0, 256] S512x128.size inb_S512x512_S512x128_0_256, k0_pay8 (u.readCov (⟨Rect.unit (s := S144x2048) ![0, 0] S144x2048.size inb_S144x2048_S144x2048_0_0, w⟩ :: L) (Rect.unit (s := S144x2048) ![0, 0] S128x2048.size inb_S144x2048_S128x2048_0_0).toLoadRect) (u.readCov (⟨Rect.unit (s := S144x2048) ![0, 0] S144x2048.size inb_S144x2048_S144x2048_0_0, w⟩ :: L) (Rect.unit (s := S144x2048) ![128, 0] S1x2048.size inb_S144x2048_S1x2048_128_0).toLoadRect)⟩,
      ⟨Rect.unit (s := S512x512) ![0, 128] S512x128.size inb_S512x512_S512x128_0_128, k0_pay7 (u.readCov (⟨Rect.unit (s := S144x2048) ![0, 0] S144x2048.size inb_S144x2048_S144x2048_0_0, w⟩ :: L) (Rect.unit (s := S144x2048) ![0, 0] S128x2048.size inb_S144x2048_S128x2048_0_0).toLoadRect) (u.readCov (⟨Rect.unit (s := S144x2048) ![0, 0] S144x2048.size inb_S144x2048_S144x2048_0_0, w⟩ :: L) (Rect.unit (s := S144x2048) ![128, 0] S1x2048.size inb_S144x2048_S1x2048_128_0).toLoadRect)⟩,
      ⟨Rect.unit (s := S512x512) ![0, 0] S512x128.size inb_S512x512_S512x128_0_0, k0_pay6 (u.readCov (⟨Rect.unit (s := S144x2048) ![0, 0] S144x2048.size inb_S144x2048_S144x2048_0_0, w⟩ :: L) (Rect.unit (s := S144x2048) ![0, 0] S128x2048.size inb_S144x2048_S128x2048_0_0).toLoadRect) (u.readCov (⟨Rect.unit (s := S144x2048) ![0, 0] S144x2048.size inb_S144x2048_S144x2048_0_0, w⟩ :: L) (Rect.unit (s := S144x2048) ![128, 0] S1x2048.size inb_S144x2048_S1x2048_128_0).toLoadRect)⟩])
    = outQ w := by
  have h : ∀ r : Rect S144x2048, u.readCov (⟨Rect.unit (s := S144x2048) ![0, 0] S144x2048.size inb_S144x2048_S144x2048_0_0, w⟩ :: L) r.toLoadRect = View.ld w r :=
    fun r => readAt_acc u u.junk w L r
  rw [h, h, read_out]; rfl

theorem rq_store (v : View sig .tc .vmem S128x2048 .bf16) (f : v.ty.Contents (Elt F)) (w : Vec F S128x2048 .bf16) :
    v.readAt (Elt F) (Rect.unit (s := S128x2048) ![0, 0] S128x2048.size inb_S128x2048_S128x2048_0_0).toLoadRect
      (v.writes (Elt F) f [⟨Rect.unit (s := S128x2048) ![0, 0] S128x2048.size inb_S128x2048_S128x2048_0_0, w⟩]) = w :=
  readAt_writes_hit _ _ _ _ _

theorem rdF_init f10 f13 (w10 : Vec F S1x512x2048 .bf16) (w13 : Vec F S144x2048 .f32) :
    rdF arg10 arg13 (arg10.view.writes (Elt F) f10 [⟨Rect.unit (s := S2x512x2048) ![1, 0, 0] S1x512x2048.size inb_S2x512x2048_S1x512x2048_1_0_0, w10⟩])
      (arg13.view.writes (Elt F) f13 [⟨Rect.unit (s := S144x2048) ![0, 0] S144x2048.size inb_S144x2048_S144x2048_0_0, w13⟩]) = ⟨w10, w13⟩ := by
  dsimp only [rdF]
  rw [readAt_writes_hit, readAt_writes_hit]

theorem rd_init f8 f9 f10 f11 f12 f13 (w8 : Vec F S1x512x2048 .f32) (w9 : Vec F S1x1x2048 .f32) (w10 : Vec F S1x512x2048 .bf16) (w11 : Vec F S1x1x2048 .f32)
    (w12 : Vec F S1x2048 .f32) (w13 : Vec F S144x2048 .f32) :
    rd arg8 arg9 arg10 arg11 arg12 arg13
      (arg8.view.writes (Elt F) f8 [⟨Rect.unit (s := S2x512x2048) ![0, 0, 0] S1x512x2048.size inb_S2x512x2048_S1x512x2048_0_0_0, w8⟩])
      (arg9.view.writes (Elt F) f9 [⟨Rect.unit (s := S2x1x2048) ![0, 0, 0] S1x1x2048.size inb_S2x1x2048_S1x1x2048_0_0_0, w9⟩])
      (arg10.view.writes (Elt F) f10 [⟨Rect.unit (s := S2x512x2048) ![1, 0, 0] S1x512x2048.size inb_S2x512x2048_S1x512x2048_1_0_0, w10⟩])
      (arg11.view.writes (Elt F) f11 [⟨Rect.unit (s := S2x1x2048) ![1, 0, 0] S1x1x2048.size inb_S2x1x2048_S1x1x2048_1_0_0, w11⟩])
      (arg12.view.writes (Elt F) f12 [⟨Rect.unit (s := S1x2048) ![0, 0] S1x2048.size inb_S1x2048_S1x2048_0_0, w12⟩])
      (arg13.view.writes (Elt F) f13 [⟨Rect.unit (s := S144x2048) ![0, 0] S144x2048.size inb_S144x2048_S144x2048_0_0, w13⟩]) = ⟨w8, w9, w10, w11, w12, w13⟩ := by
  dsimp only [rd]
  simp only [readAt_writes_hit]

/-- The first visit of a group of heads. -/
theorem body_first (hc : k0_cond1 i = 1#1) f6 f7 f8 f9 f10 f11 f12 f13 f14 :
   iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) ⊢ wp frame (wpE (defs₀ (F := F)) Variants.none (c : Thread nD τ) none) Set.univ (cc0_attention (F := F) i arg3 harg3 arg4 harg4 arg5 harg5 arg6 harg6 arg7 harg7 arg8 harg8 arg9 harg9 arg10 harg10 arg11 harg11 arg12 harg12 arg13 harg13 arg14 harg14)
     (fun _ => Post c arg3 arg4 arg5 arg6 arg7 arg8 arg9 arg10 arg11 arg12 arg13 arg14 X3 X4 X5 (km (arg4.view.read (Elt F) X4))) := by
  unfold Post
  iintro ⟨HR3, HR4, HR5, H6, HW7, HW8, HW9, HW10, HW11, HW12, HW13, HW14⟩
  unfold cc0_attention
  sl_exec
  have hq' : rq arg7 (arg7.view.writes (Elt F) arg7.view.junk (body_first.sl.HW7_1 arg3 X3)) = qQ (arg3.view.read (Elt F) X3) := by
    sl_unfold_run_names; exact rq_store _ _ _
  have hk' : rk arg14 (arg14.view.writes (Elt F) f14 (body_first.sl.HW14_1 arg4 X4)) = km (arg4.view.read (Elt F) X4) := by
    sl_unfold_run_names
    refine (readAt_writes_hit _ _ _ _ _).trans ?_
    rw [kmaxAt_eq]; rfl
  have hr' : body_first.sl.r arg3 arg4 arg7 arg14 X3 X4 = k0_pay114 (qQ (arg3.view.read (Elt F) X3)) (km (arg4.view.read (Elt F) X4)) := by
    sl_unfold_run_names
    simp only [readCov_hit, kmaxAt_eq]; rfl
  have hv' : body_first.sl.v35 arg3 arg4 arg7 arg14 X3 X4 = Scalar.cmpf .olt (k0_pay1 (k0_pay115 (qQ (arg3.view.read (Elt F) X3)) (km (arg4.view.read (Elt F) X4)))) (Scalar.ofBits .f32 0x42200000#32) := by
    sl_unfold_run_names
    simp only [readCov_hit, kmaxAt_eq]; rfl
  rcases bit_cases (body_first.sl.v35 arg3 arg4 arg7 arg14 X3 X4) with ⟨h1, h2⟩ | ⟨h1, h2⟩
  · have h1' : body_first.sl.v37 arg3 arg4 arg7 arg14 X3 X4 = 1#1 := h1
    sl_exec
    rw [hv'] at h1
    sl_step
    isplitl [HR3]; · iexact HR3
    isplitl [HR4]; · iexact HR4
    isplitl [HR5]; · iexact HR5
    isplitl [H6]
    · iexists _; isplitl [H6]; · iexact H6
      ipureintro

      refine (read_out_acc arg6.view _ arg13.view (k0_pay3 (rdF arg10 arg13 f10L0 f13L1).acc (vQ (arg5.view.read (Elt F) X5) ![0, 31, 0, 0] inb_S1x32x144x512_S1x1x144x512_0_31_0_0) (rdF arg10 arg13 f10L0 f13L1).p) _).trans ?_
      have hs : small (qQ (arg3.view.read (Elt F) X3)) (km (arg4.view.read (Elt F) X4)) = 1#1 := h1
      rw [accQ, if_pos hs, hL5, stAtF_eq, hq', hr', accFast]
      refine congrArg outQ ?_
      sl_unfold_run_names
      rw [rdF_init]
    isplitl [HW7]; · iexists _; iexact HW7
    isplitl [HW8]; · iexists _; iexact HW8
    isplitl [HW9]; · iexists _; iexact HW9
    isplitl [HW10]; · iexists _; iexact HW10
    isplitl [HW11]; · iexists _; iexact HW11
    isplitl [HW12]; · iexists _; iexact HW12
    isplitl [HW13]; · iexists _; iexact HW13
    iexists _; isplitl [HW14]; · iexact HW14
    ipureintro
    sl_unfold_run_names
    exact (readAt_writes_hit _ _ _ _ _).trans (by rw [kmaxAt_eq]; rfl)
  · sl_exec
    rw [hv'] at h1
    sl_step
    isplitl [HR3]; · iexact HR3
    isplitl [HR4]; · iexact HR4
    isplitl [HR5]; · iexact HR5
    isplitl [H6]
    · iexists _; isplitl [H6]; · iexact H6
      ipureintro

      refine (read_out_acc arg6.view _ arg13.view (k0_pay4 (k0_pay107 (vQ (arg5.view.read (Elt F) X5) ![0, 31, 0, 0] inb_S1x32x144x512_S1x1x144x512_0_31_0_0)) (rd arg8 arg9 arg10 arg11 arg12 arg13 f8L0 f9L1 f10L2 f11L3 f12L4 f13L5).p (rd arg8 arg9 arg10 arg11 arg12 arg13 f8L0 f9L1 f10L2 f11L3 f12L4 f13L5).a (rd arg8 arg9 arg10 arg11 arg12 arg13 f8L0 f9L1 f10L2 f11L3 f12L4 f13L5).acc) _).trans ?_
      have hs : ¬ small (qQ (arg3.view.read (Elt F) X3)) (km (arg4.view.read (Elt F) X4)) = 1#1 := h1
      rw [accQ, if_neg hs, hL9, stAt_eq, hq', accSlow]
      refine congrArg outQ ?_
      sl_unfold_run_names
      rw [rd_init]
      simp only [readCov_hit]
      rfl
    isplitl [HW7]; · iexists _; iexact HW7
    isplitl [HW8]; · iexists _; iexact HW8
    isplitl [HW9]; · iexists _; iexact HW9
    isplitl [HW10]; · iexists _; iexact HW10
    isplitl [HW11]; · iexists _; iexact HW11
    isplitl [HW12]; · iexists _; iexact HW12
    isplitl [HW13]; · iexists _; iexact HW13
    iexists _; isplitl [HW14]; · iexact HW14
    ipureintro
    sl_unfold_run_names
    exact (readAt_writes_hit _ _ _ _ _).trans (by rw [kmaxAt_eq]; rfl)

/-- A later visit of a group of heads: the largest key length is the one kept. -/
theorem body_next (hc : ¬ k0_cond1 i = 1#1) f6 f7 f8 f9 f10 f11 f12 f13 f14 :
   iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)) ⊢ wp frame (wpE (defs₀ (F := F)) Variants.none (c : Thread nD τ) none) Set.univ (cc0_attention (F := F) i arg3 harg3 arg4 harg4 arg5 harg5 arg6 harg6 arg7 harg7 arg8 harg8 arg9 harg9 arg10 harg10 arg11 harg11 arg12 harg12 arg13 harg13 arg14 harg14)
     (fun _ => Post c arg3 arg4 arg5 arg6 arg7 arg8 arg9 arg10 arg11 arg12 arg13 arg14 X3 X4 X5 (rk arg14 f14)) := by
  unfold Post
  iintro ⟨HR3, HR4, HR5, H6, HW7, HW8, HW9, HW10, HW11, HW12, HW13, HW14⟩
  unfold cc0_attention
  sl_exec
  have hq' : rq arg7 (arg7.view.writes (Elt F) arg7.view.junk (body_next.sl.HW7_1 arg3 X3)) = qQ (arg3.view.read (Elt F) X3) := by
    sl_unfold_run_names; exact rq_store _ _ _
  have hr' : body_next.sl.r c arg3 arg7 arg14 X3 f14 = k0_pay114 (qQ (arg3.view.read (Elt F) X3)) (rk arg14 f14) := by
    sl_unfold_run_names
    simp only [readCov_hit]; rfl
  have hv' : body_next.sl.v35 c arg3 arg7 arg14 X3 f14 = Scalar.cmpf .olt (k0_pay1 (k0_pay115 (qQ (arg3.view.read (Elt F) X3)) (rk arg14 f14))) (Scalar.ofBits .f32 0x42200000#32) := by
    sl_unfold_run_names
    simp only [readCov_hit]; rfl
  rcases bit_cases (body_next.sl.v35 c arg3 arg7 arg14 X3 f14) with ⟨h1, h2⟩ | ⟨h1, h2⟩
  · have h1' : body_next.sl.v37 c arg3 arg7 arg14 X3 f14 = 1#1 := h1
    sl_exec
    rw [hv'] at h1
    sl_step
    isplitl [HR3]; · iexact HR3
    isplitl [HR4]; · iexact HR4
    isplitl [HR5]; · iexact HR5
    isplitl [H6]
    · iexists _; isplitl [H6]; · iexact H6
      ipureintro

      refine (read_out_acc arg6.view _ arg13.view (k0_pay3 (rdF arg10 arg13 f10L0 f13L1).acc (vQ (arg5.view.read (Elt F) X5) ![0, 31, 0, 0] inb_S1x32x144x512_S1x1x144x512_0_31_0_0) (rdF arg10 arg13 f10L0 f13L1).p) _).trans ?_
      have hs : small (qQ (arg3.view.read (Elt F) X3)) (rk arg14 f14) = 1#1 := h1
      rw [accQ, if_pos hs, hL5, stAtF_eq, hq', hr', accFast]
      refine congrArg outQ ?_
      sl_unfold_run_names
      rw [rdF_init]
    isplitl [HW7]; · iexists _; iexact HW7
    isplitl [HW8]; · iexists _; iexact HW8
    isplitl [HW9]; · iexists _; iexact HW9
    isplitl [HW10]; · iexists _; iexact HW10
    isplitl [HW11]; · iexists _; iexact HW11
    isplitl [HW12]; · iexists _; iexact HW12
    isplitl [HW13]; · iexists _; iexact HW13
    iexists _; isplitl [HW14]; · iexact HW14
    ipureintro
    rfl
  · sl_exec
    rw [hv'] at h1
    sl_step
    isplitl [HR3]; · iexact HR3
    isplitl [HR4]; · iexact HR4
    isplitl [HR5]; · iexact HR5
    isplitl [H6]
    · iexists _; isplitl [H6]; · iexact H6
      ipureintro

      refine (read_out_acc arg6.view _ arg13.view (k0_pay4 (k0_pay107 (vQ (arg5.view.read (Elt F) X5) ![0, 31, 0, 0] inb_S1x32x144x512_S1x1x144x512_0_31_0_0)) (rd arg8 arg9 arg10 arg11 arg12 arg13 f8L0 f9L1 f10L2 f11L3 f12L4 f13L5).p (rd arg8 arg9 arg10 arg11 arg12 arg13 f8L0 f9L1 f10L2 f11L3 f12L4 f13L5).a (rd arg8 arg9 arg10 arg11 arg12 arg13 f8L0 f9L1 f10L2 f11L3 f12L4 f13L5).acc) _).trans ?_
      have hs : ¬ small (qQ (arg3.view.read (Elt F) X3)) (rk arg14 f14) = 1#1 := h1
      rw [accQ, if_neg hs, hL9, stAt_eq, hq', accSlow]
      refine congrArg outQ ?_
      sl_unfold_run_names
      rw [rd_init]
      simp only [readCov_hit]
      rfl
    isplitl [HW7]; · iexists _; iexact HW7
    isplitl [HW8]; · iexists _; iexact HW8
    isplitl [HW9]; · iexists _; iexact HW9
    isplitl [HW10]; · iexists _; iexact HW10
    isplitl [HW11]; · iexists _; iexact HW11
    isplitl [HW12]; · iexists _; iexact HW12
    isplitl [HW13]; · iexists _; iexact HW13
    iexists _; isplitl [HW14]; · iexact HW14
    ipureintro
    rfl
end

end Cert.KernelIdeal.Attn
end
-- ==== Proof.AttnRun.lean ====
/- The attention call's launch: what every point of the grid leaves, and the run of the whole program. -/
module
public import proofs.«01_k».proof.Proof.AttnBody
public import proofs.«01_k».proof.Proof.Gen.KernelIdeal.Frame
public import Idealize.ShloMosaic.Lib.Claim

@[expose] public section
set_option maxRecDepth 16384
set_option maxHeartbeats 400000
noncomputable section
namespace Cert.KernelIdeal.Attn
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The largest squared key length kept in its one-cell buffer. -/
abbrev rw1 (x : Vec F S1x1 .f32) : FVec F S1x1 .f32 :=
  View.ld x (Rect.unit (s := S1x1) ![0, 0] S1x1.size inb_S1x1_S1x1_0_0)

section
variable (c : Dev nD) (i : grid0.Coords) (arg3 : Memref sig .tc .vmem S4x512x128 .bf16) (harg3 : arg3.IsWhole) (arg4 : Memref sig .tc .vmem S1x16384x128 .bf16) (harg4 : arg4.IsWhole) (arg5 : Memref sig .tc .vmem S1x32x144x512 .bf16) (harg5 : arg5.IsWhole) (arg6 : Memref sig .tc .vmem S512x512 .bf16) (harg6 : arg6.IsWhole) (arg7 : Memref sig .tc .vmem S128x2048 .bf16) (harg7 : arg7.IsWhole) (arg8 : Memref sig .tc .vmem S2x512x2048 .f32) (harg8 : arg8.IsWhole) (arg9 : Memref sig .tc .vmem S2x1x2048 .f32) (harg9 : arg9.IsWhole) (arg10 : Memref sig .tc .vmem S2x512x2048 .bf16) (harg10 : arg10.IsWhole) (arg11 : Memref sig .tc .vmem S2x1x2048 .f32) (harg11 : arg11.IsWhole) (arg12 : Memref sig .tc .vmem S1x2048 .f32) (harg12 : arg12.IsWhole) (arg13 : Memref sig .tc .vmem S144x2048 .f32) (harg13 : arg13.IsWhole) (arg14 : Memref sig .tc .vmem S1x1 .f32) (harg14 : arg14.IsWhole)

/-- The body's post with the buffers' contents as they read. -/
theorem post_owns (X3 : BufTy.Contents (Elt F) arg3.view.ty) (X4 : BufTy.Contents (Elt F) arg4.view.ty) (X5 : BufTy.Contents (Elt F) arg5.view.ty) (kmax : FVec F S1x1 .f32) :
    (Post c arg3 arg4 arg5 arg6 arg7 arg8 arg9 arg10 arg11 arg12 arg13 arg14 X3 X4 X5 kmax : sProp 𝕄) ⊢
      iprop(owns (c : Thread nD τ) arg3 fullShare (arg3.view.read (Elt F) X3) ∗ owns (c : Thread nD τ) arg4 fullShare (arg4.view.read (Elt F) X4) ∗ owns (c : Thread nD τ) arg5 fullShare (arg5.view.read (Elt F) X5) ∗ owns (c : Thread nD τ) arg6 fullShare (outQ (accQ (qQ (arg3.view.read (Elt F) X3)) (arg4.view.read (Elt F) X4) (arg5.view.read (Elt F) X5) kmax)) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d ∗ ⌜rw1 d = kmax⌝)) := by
  unfold Post owns
  iintro ⟨H3, H4, H5, ⟨%g6, H6, %e6⟩, ⟨%g7, H7⟩, ⟨%g8, H8⟩, ⟨%g9, H9⟩, ⟨%g10, H10⟩, ⟨%g11, H11⟩, ⟨%g12, H12⟩, ⟨%g13, H13⟩, ⟨%g14, H14, %e14⟩⟩
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; exact e6
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]
  · iexists _; iexists _; isplitr; swap; · iexact H10
    ipureintro; rfl
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  iexists (arg14.view.read (Elt F) g14)
  isplitl [H14]
  · iexists _; isplitr; swap; · iexact H14
    ipureintro; rfl
  ipureintro; exact e14

/-- A first visit of a group. -/
theorem owned_first (hc : k0_cond1 i = 1#1) (x3 : Vec F S4x512x128 .bf16) (x4 : Vec F S1x16384x128 .bf16) (x5 : Vec F S1x32x144x512 .bf16) :
    (iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) : sProp 𝕄) ⊢ wp frame (wpE (defs₀ (F := F)) Variants.none (c : Thread nD τ) none) Set.univ (cc0_attention (F := F) i arg3 harg3 arg4 harg4 arg5 harg5 arg6 harg6 arg7 harg7 arg8 harg8 arg9 harg9 arg10 harg10 arg11 harg11 arg12 harg12 arg13 harg13 arg14 harg14)
      (fun _ => iprop(owns (c : Thread nD τ) arg3 fullShare x3 ∗ owns (c : Thread nD τ) arg4 fullShare x4 ∗ owns (c : Thread nD τ) arg5 fullShare x5 ∗ owns (c : Thread nD τ) arg6 fullShare (outQ (accQ (qQ x3) x4 x5 (km x4))) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d ∗ ⌜rw1 d = (km x4)⌝))) := by
  unfold owns
  iintro ⟨⟨%f3, %h3, H3⟩, ⟨%f4, %h4, H4⟩, ⟨%f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%d14, %f14, %h14, H14⟩⟩
  subst h3; subst h4; subst h5
  have hb := triple_restated (body_first c i arg3 harg3 arg4 harg4 arg5 harg5 arg6 harg6 arg7 harg7 arg8 harg8 arg9 harg9 arg10 harg10 arg11 harg11 arg12 harg12 arg13 harg13 arg14 harg14 f3 f4 f5 hc f6 f7 f8 f9 f10 f11 f12 f13 f14) rfl .rfl
    fun _ => post_owns c arg3 arg4 arg5 arg6 arg7 arg8 arg9 arg10 arg11 arg12 arg13 arg14 f3 f4 f5 _
  unfold owns at hb
  iapply hb
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The same beside a resource the body leaves alone. -/
theorem owned_first_beside (hc : k0_cond1 i = 1#1) (x3 : Vec F S4x512x128 .bf16) (x4 : Vec F S1x16384x128 .bf16) (x5 : Vec F S1x32x144x512 .bf16) (R : sProp 𝕄) :
    (iprop((owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) ∗ R) : sProp 𝕄) ⊢ wp frame (wpE (defs₀ (F := F)) Variants.none (c : Thread nD τ) none) Set.univ (cc0_attention (F := F) i arg3 harg3 arg4 harg4 arg5 harg5 arg6 harg6 arg7 harg7 arg8 harg8 arg9 harg9 arg10 harg10 arg11 harg11 arg12 harg12 arg13 harg13 arg14 harg14)
      (fun _ => iprop((owns (c : Thread nD τ) arg3 fullShare x3 ∗ owns (c : Thread nD τ) arg4 fullShare x4 ∗ owns (c : Thread nD τ) arg5 fullShare x5 ∗ owns (c : Thread nD τ) arg6 fullShare (outQ (accQ (qQ x3) x4 x5 (km x4))) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d ∗ ⌜rw1 d = (km x4)⌝)) ∗ R)) :=
  (sep_mono_l (Q := R) (owned_first c i arg3 harg3 arg4 harg4 arg5 harg5 arg6 harg6 arg7 harg7 arg8 harg8 arg9 harg9 arg10 harg10 arg11 harg11 arg12 harg12 arg13 harg13 arg14 harg14 hc x3 x4 x5)).trans (wp_frame_r _ _ _)

/-- A later visit of a group. -/
theorem owned_next (hc : ¬ k0_cond1 i = 1#1) (x3 : Vec F S4x512x128 .bf16) (x4 : Vec F S1x16384x128 .bf16) (x5 : Vec F S1x32x144x512 .bf16) (x14 : Vec F S1x1 .f32) :
    (iprop(owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14) : sProp 𝕄) ⊢ wp frame (wpE (defs₀ (F := F)) Variants.none (c : Thread nD τ) none) Set.univ (cc0_attention (F := F) i arg3 harg3 arg4 harg4 arg5 harg5 arg6 harg6 arg7 harg7 arg8 harg8 arg9 harg9 arg10 harg10 arg11 harg11 arg12 harg12 arg13 harg13 arg14 harg14)
      (fun _ => iprop(owns (c : Thread nD τ) arg3 fullShare x3 ∗ owns (c : Thread nD τ) arg4 fullShare x4 ∗ owns (c : Thread nD τ) arg5 fullShare x5 ∗ owns (c : Thread nD τ) arg6 fullShare (outQ (accQ (qQ x3) x4 x5 (rw1 x14))) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d ∗ ⌜rw1 d = (rw1 x14)⌝))) := by
  unfold owns
  iintro ⟨⟨%f3, %h3, H3⟩, ⟨%f4, %h4, H4⟩, ⟨%f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩, ⟨%f14, %h14, H14⟩⟩
  subst h3; subst h4; subst h5; subst h14
  have hb := triple_restated (body_next c i arg3 harg3 arg4 harg4 arg5 harg5 arg6 harg6 arg7 harg7 arg8 harg8 arg9 harg9 arg10 harg10 arg11 harg11 arg12 harg12 arg13 harg13 arg14 harg14 f3 f4 f5 hc f6 f7 f8 f9 f10 f11 f12 f13 f14) rfl .rfl
    fun _ => post_owns c arg3 arg4 arg5 arg6 arg7 arg8 arg9 arg10 arg11 arg12 arg13 arg14 f3 f4 f5 _
  unfold owns at hb
  iapply hb
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The same beside a resource the body leaves alone. -/
theorem owned_next_beside (hc : ¬ k0_cond1 i = 1#1) (x3 : Vec F S4x512x128 .bf16) (x4 : Vec F S1x16384x128 .bf16) (x5 : Vec F S1x32x144x512 .bf16) (x14 : Vec F S1x1 .f32) (R : sProp 𝕄) :
    (iprop((owns (c : Thread nD τ) arg3 fullShare x3 ∗ owns (c : Thread nD τ) arg4 fullShare x4 ∗ owns (c : Thread nD τ) arg5 fullShare x5 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ owns (c : Thread nD τ) arg14 fullShare x14) ∗ R) : sProp 𝕄) ⊢ wp frame (wpE (defs₀ (F := F)) Variants.none (c : Thread nD τ) none) Set.univ (cc0_attention (F := F) i arg3 harg3 arg4 harg4 arg5 harg5 arg6 harg6 arg7 harg7 arg8 harg8 arg9 harg9 arg10 harg10 arg11 harg11 arg12 harg12 arg13 harg13 arg14 harg14)
      (fun _ => iprop((owns (c : Thread nD τ) arg3 fullShare x3 ∗ owns (c : Thread nD τ) arg4 fullShare x4 ∗ owns (c : Thread nD τ) arg5 fullShare x5 ∗ owns (c : Thread nD τ) arg6 fullShare (outQ (accQ (qQ x3) x4 x5 (rw1 x14))) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d ∗ ⌜rw1 d = (rw1 x14)⌝)) ∗ R)) :=
  (sep_mono_l (Q := R) (owned_next c i arg3 harg3 arg4 harg4 arg5 harg5 arg6 harg6 arg7 harg7 arg8 harg8 arg9 harg9 arg10 harg10 arg11 harg11 arg12 harg12 arg13 harg13 arg14 harg14 hc x3 x4 x5 x14)).trans (wp_frame_r _ _ _)

end

variable (m : (ℓ : Loc nD τ sig) → Buf (Elt F) ℓ) (ρ : Dev nD → PrngReg)

/-- What the output block holds after point `t`. -/
def outB (c : Dev nD) (t : Fin cfg0.N) : Vec F S512x512 .bf16 :=
  outQ (accQ (qQ (iblk m c 0 t)) (iblk m c 1 t) (iblk m c 2 t) (km (iblk m c 1 t)))

/-- The kept largest squared key length, before point `t`: of the keys in place unless a group starts. -/
def Kept (c : Dev nD) (t : Fin (cfg0.N + 1)) (f : Vec F S1x1 .f32) : Prop :=
  ∀ h : t.val < cfg0.N, t.val % 32 ≠ 0 → rw1 f = km (iblk m c 1 ⟨t.val, h⟩)

/-- The buffers the points keep between them. -/
def keep (c : Dev nD) (t : Fin (cfg0.N + 1)) : sProp 𝕄 :=
  iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d ∗ ⌜Kept m c t d⌝)) ∗ ∃ r, prngReg c r)

/-- The proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outB m c t
  Φ t := keep m c t
  q w := Pipeline.shareOf spec0 w
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outB m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- A group starts exactly where its number of points is a multiple of 32. -/
theorem first_iff : ∀ t : Fin grid0.N, k0_cond1 (grid0.coords t) = 1#1 ↔ t.val % 32 = 0 := by decide +kernel

/-- Within a group the keys stay in place. -/
theorem keys_stay (c : Dev nD) (t : Fin cfg0.N) (h : t.val + 1 < cfg0.N) (hn : (t.val + 1) % 32 ≠ 0) :
    iblk m c 1 ⟨t.val + 1, h⟩ = iblk m c 1 t := by
  have hf : (cfg0.win 1).fetch ⟨t.val + 1, h⟩ = false := by
    rw [Bool.eq_false_iff]; intro e; exact hn ((fetch0_1 ⟨t.val + 1, h⟩).mp e)
  have hb := (dats m 0 c).before_unfetched_in 1 rfl ⟨t.val + 1, h⟩ hf (fun _ => rfl) (fun _ => Classical.choice inferInstance)
  rw [before0_1] at hb
  rw [hb]
  exact after0_1 m c t

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.castSucc = keep m c t.castSucc from rfl, show (dats m 0 c).Φ t.succ = keep m c t.succ from rfl,
    show (dats m 0 c).owesAt () t.succ = (dats m 0 c).owesAt () t.castSucc from rfl,
    after0_0, after0_1, after0_2, after0_3]
  unfold keep
  iintro ⟨⟨⟨W0, W1, W2, W3, W4, W5, W6, ⟨%w7, W7, %hk⟩⟩, Hr⟩, Ho, ⟨%d0, H0⟩, ⟨%d1, H1⟩, ⟨%d2, H2⟩, ⟨%d3, H3⟩⟩
  have hs : ∀ w : Vec F S1x1 .f32, rw1 w = km (iblk m c 1 t) → Kept m c t.succ w := fun w e h hn => by
    rw [show (⟨t.succ.val, h⟩ : Fin cfg0.N) = ⟨t.val + 1, h⟩ from rfl, keys_stay m c t h hn]; exact e
  rcases Decidable.em (t.val % 32 = 0) with h0 | h0
  · have hb := owned_first_beside (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) _ (Memref.isWhole_whole cc0_scratch7) ((first_iff t).mpr h0) (iblk m c 0 t) (iblk m c 1 t) (iblk m c 2 t) (iprop((∃ r, prngReg c r) ∗ (dats m 0 c).owesAt () t.castSucc))
    iapply (triple_restated hb rfl .rfl fun _ => ?_)
    · iintro ⟨⟨H0, H1, H2, H3, W0, W1, W2, W3, W4, W5, W6, ⟨%v7, W7, %hv⟩⟩, Hr, Ho⟩
      isplitl [W0 W1 W2 W3 W4 W5 W6 W7 Hr]
      · isplitr [Hr]; swap; · iexact Hr
        isplitl [W0]; · iexact W0
        isplitl [W1]; · iexact W1
        isplitl [W2]; · iexact W2
        isplitl [W3]; · iexact W3
        isplitl [W4]; · iexact W4
        isplitl [W5]; · iexact W5
        isplitl [W6]; · iexact W6
        iexists v7; isplitl [W7]; · iexact W7
        ipureintro; exact hs v7 hv
      isplitl [Ho]; · iexact Ho
      isplitl [H0]; · iexact H0
      isplitl [H1]; · iexact H1
      isplitl [H2]; · iexact H2
      iexact H3
    · isplitr [Hr Ho]; swap
      · isplitl [Hr]; · iexact Hr
        iexact Ho
      isplitl [H0]; · iexact H0
      isplitl [H1]; · iexact H1
      isplitl [H2]; · iexact H2
      isplitl [H3]; · iexists _; iexact H3
      isplitl [W0]; · iexact W0
      isplitl [W1]; · iexact W1
      isplitl [W2]; · iexact W2
      isplitl [W3]; · iexact W3
      isplitl [W4]; · iexact W4
      isplitl [W5]; · iexact W5
      isplitl [W6]; · iexact W6
      iexists w7; iexact W7
  · have hb := owned_next_beside (F := F) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (Memref.isWhole_whole cc0_scratch0) _ (Memref.isWhole_whole cc0_scratch1) _ (Memref.isWhole_whole cc0_scratch2) _ (Memref.isWhole_whole cc0_scratch3) _ (Memref.isWhole_whole cc0_scratch4) _ (Memref.isWhole_whole cc0_scratch5) _ (Memref.isWhole_whole cc0_scratch6) _ (Memref.isWhole_whole cc0_scratch7) (fun h => h0 ((first_iff t).mp h)) (iblk m c 0 t) (iblk m c 1 t) (iblk m c 2 t) w7 (iprop((∃ r, prngReg c r) ∗ (dats m 0 c).owesAt () t.castSucc))
    rw [show rw1 w7 = km (iblk m c 1 t) from hk t.isLt h0] at hb
    iapply (triple_restated hb rfl .rfl fun _ => ?_)
    · iintro ⟨⟨H0, H1, H2, H3, W0, W1, W2, W3, W4, W5, W6, ⟨%v7, W7, %hv⟩⟩, Hr, Ho⟩
      isplitl [W0 W1 W2 W3 W4 W5 W6 W7 Hr]
      · isplitr [Hr]; swap; · iexact Hr
        isplitl [W0]; · iexact W0
        isplitl [W1]; · iexact W1
        isplitl [W2]; · iexact W2
        isplitl [W3]; · iexact W3
        isplitl [W4]; · iexact W4
        isplitl [W5]; · iexact W5
        isplitl [W6]; · iexact W6
        iexists v7; isplitl [W7]; · iexact W7
        ipureintro; exact hs v7 hv
      isplitl [Ho]; · iexact Ho
      isplitl [H0]; · iexact H0
      isplitl [H1]; · iexact H1
      isplitl [H2]; · iexact H2
      iexact H3
    · isplitr [Hr Ho]; swap
      · isplitl [Hr]; · iexact Hr
        iexact Ho
      isplitl [H0]; · iexact H0
      isplitl [H1]; · iexact H1
      isplitl [H2]; · iexact H2
      isplitl [H3]; · iexists _; iexact H3
      isplitl [W0]; · iexact W0
      isplitl [W1]; · iexact W1
      isplitl [W2]; · iexact W2
      isplitl [W3]; · iexact W3
      isplitl [W4]; · iexact W4
      isplitl [W5]; · iexact W5
      isplitl [W6]; · iexact W6
      iexact W7

theorem defs₀_row (t : Fin cfg0.N) :
    defs₀ (F := F) .tc cfg0.body (cfg0.bodyArgs t (cfg0.slots t)) = bodyAt0 t := by
  unfold defs₀; rw [Defs.onTc_tc]

/-- The obligation of the library's launch. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffers at any contents are what the first point needs, -/
theorem keep_in (c : Dev nD) : Pipeline.ΦA spec0 c ⊢ keep m c 0 := by
  unfold Pipeline.ΦA keep
  rw [scopedRest0_eq]
  simp only [owns_whole]
  iintro ⟨⟨W0, W1, W2, W3, W4, W5, W6, ⟨%f, W7⟩⟩, Hr⟩
  isplitr [Hr]; swap; · iexact Hr
  isplitl [W0]; · iexact W0
  isplitl [W1]; · iexact W1
  isplitl [W2]; · iexact W2
  isplitl [W3]; · iexact W3
  isplitl [W4]; · iexact W4
  isplitl [W5]; · iexact W5
  isplitl [W6]; · iexact W6
  iexists f; isplitl [W7]; · iexact W7
  ipureintro; intro h hn; exact absurd rfl hn

/-- and the last point leaves them at some contents. -/
theorem keep_out (c : Dev nD) : keep m c (Fin.last cfg0.N) ⊢ Pipeline.ΦA spec0 c := by
  unfold Pipeline.ΦA keep
  rw [scopedRest0_eq]
  simp only [owns_whole]
  iintro ⟨⟨W0, W1, W2, W3, W4, W5, W6, ⟨%f, W7, -⟩⟩, Hr⟩
  isplitr [Hr]; swap; · iexact Hr
  isplitl [W0]; · iexact W0
  isplitl [W1]; · iexact W1
  isplitl [W2]; · iexact W2
  isplitl [W3]; · iexact W3
  isplitl [W4]; · iexact W4
  isplitl [W5]; · iexact W5
  isplitl [W6]; · iexact W6
  iexists f; iexact W7

set_option backward.isDefEq.respectTransparency.types false in
/-- The run of the whole program. -/
theorem run_quiescent : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => keep_in m c) (hout := fun c => keep_out m c)

/-- The run's post. -/
theorem run_main : θ_run defs (onTc (τ := τ) (main (F := F))) (s₀ m ρ) (Pipeline.FramePost cfgs (dats m) 0 (V m)) :=
  (θ_run defs _ _).mono (fun _ h => h.1) (run_quiescent m ρ)

/-- The frame, at any interpretation of the floats. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.KernelIdeal.Attn
end
-- ==== Proof.AttnPays.lean ====
/- The attention kernel's stored values over the reals, element by element. -/
module
public import proofs.«01_k».proof.Proof.AttnPure
public import Idealize.ShloMosaic.Lib.Pipeline.ValueKit

@[expose] public section
set_option maxHeartbeats 400000
noncomputable section
namespace Cert.KernelIdeal.Attn
open Cert.KernelIdeal Cert.KernelIdeal.Gen
open Idealize.ShloMosaic Idealize.ShloMosaic.TcCoe

/-- The word of minus infinity. -/
theorem negInf : Ideal.ofBits FTy.f32 0xFF800000#32 = ⊥ := by
  norm_num [Ideal.ofBits, FTy.bits]; rfl

theorem pay36 (kn : Vec Ideal S1x512x128 .bf16) (q : Vec Ideal S128x2048 .bf16) (z : Fin 1) (j : Fin 512) (x : Fin 2048) :
    k0_pay36 (F := Ideal) kn q (ix3 z j x) = ∑ d : Fin 128, kn (ix3 (0 : Fin 1) j d) * q (ix2 d x) := by
  pointwise [k0_pay36, k0_pay35]
theorem pay104 (kn : Vec Ideal S1x512x128 .bf16) (q : Vec Ideal S128x2048 .bf16) (z : Fin 1) (j : Fin 512) (x : Fin 2048) :
    k0_pay104 (F := Ideal) kn q (ix3 z j x) = ∑ d : Fin 128, kn (ix3 (0 : Fin 1) j d) * q (ix2 d x) := by
  pointwise [k0_pay104, k0_pay103]
theorem pay37 (kn : Vec Ideal S1x512x128 .bf16) (q : Vec Ideal S128x2048 .bf16) (z z' : Fin 1) (x : Fin 2048) :
    k0_pay37 (F := Ideal) kn q (ix3 z z' x) = Finset.univ.fold max ⊥ fun j : Fin 512 => ∑ d : Fin 128, kn (ix3 (0 : Fin 1) j d) * q (ix2 d x) := by
  pointwise [k0_pay37, k0_pay35]
  rw [← negInf]
theorem pay29 (m : Vec Ideal S1x2048 .f32) (mx : Vec Ideal S1x1x2048 .f32) (s : Vec Ideal S1x512x2048 .f32) (z : Fin 1) (j : Fin 512) (x : Fin 2048) :
    k0_pay29 (F := Ideal) m mx s (ix3 z j x) = Ideal.exp2 (s (ix3 (0 : Fin 1) j x) - max (m (ix2 (0 : Fin 1) x)) (mx (ix3 (0 : Fin 1) (0 : Fin 1) x))) := by
  pointwise [k0_pay29, k0_pay28]
  rfl
theorem pay30 (m : Vec Ideal S1x2048 .f32) (mx : Vec Ideal S1x1x2048 .f32) (z z' : Fin 1) (x : Fin 2048) :
    k0_pay30 (F := Ideal) m mx (ix3 z z' x) = Ideal.exp2 (m (ix2 (0 : Fin 1) x) - max (m (ix2 (0 : Fin 1) x)) (mx (ix3 (0 : Fin 1) (0 : Fin 1) x))) := by
  pointwise [k0_pay30, k0_pay28]
  rfl
theorem pay31 (m : Vec Ideal S1x2048 .f32) (mx : Vec Ideal S1x1x2048 .f32) (z : Fin 1) (x : Fin 2048) :
    k0_pay31 (F := Ideal) m mx (ix2 z x) = max (m (ix2 (0 : Fin 1) x)) (mx (ix3 (0 : Fin 1) (0 : Fin 1) x)) := by
  pointwise [k0_pay31, k0_pay28]
  rw [Subsingleton.elim z 0]
theorem pay34 (v : Vec Ideal S1x1x144x512 .bf16) (p : Vec Ideal S1x512x2048 .bf16) (a : Vec Ideal S1x1x2048 .f32) (acc : Vec Ideal S144x2048 .f32)
    (r : Fin 144) (x : Fin 2048) :
    k0_pay34 (F := Ideal) (k0_pay32 v) (k0_pay33 p) a acc (ix2 r x)
      = a (ix3 (0 : Fin 1) (0 : Fin 1) x) * acc (ix2 r x) + ∑ j : Fin 512, v (ix4 (0 : Fin 1) (0 : Fin 1) r j) * p (ix3 (0 : Fin 1) j x) := by
  pointwise [k0_pay34, k0_pay32, k0_pay33]
theorem pay4 (v : Vec Ideal S1x1x144x512 .bf16) (p : Vec Ideal S1x512x2048 .bf16) (a : Vec Ideal S1x1x2048 .f32) (acc : Vec Ideal S144x2048 .f32)
    (r : Fin 144) (x : Fin 2048) :
    k0_pay4 (F := Ideal) (k0_pay107 v) p a acc (ix2 r x)
      = a (ix3 (0 : Fin 1) (0 : Fin 1) x) * acc (ix2 r x) + ∑ j : Fin 512, v (ix4 (0 : Fin 1) (0 : Fin 1) r j) * p (ix3 (0 : Fin 1) j x) := by
  pointwise [k0_pay4, k0_pay107]
theorem pay10 (b : Vec Ideal S1x2048 .f32) (kn : Vec Ideal S1x512x128 .bf16) (q : Vec Ideal S128x2048 .bf16) (z : Fin 1) (j : Fin 512) (x : Fin 2048) :
    k0_pay10 (F := Ideal) b kn q (ix3 z j x) = Ideal.exp2 ((∑ d : Fin 128, kn (ix3 (0 : Fin 1) j d) * q (ix2 d x)) - b (ix2 (0 : Fin 1) x)) := by
  pointwise [k0_pay10]
  rfl
theorem pay11 (acc : Vec Ideal S144x2048 .f32) (v : Vec Ideal S1x1x144x512 .bf16) (p : Vec Ideal S1x512x2048 .bf16) (r : Fin 144) (x : Fin 2048) :
    k0_pay11 (F := Ideal) acc v p (ix2 r x) = acc (ix2 r x) + ∑ j : Fin 512, v (ix4 (0 : Fin 1) (0 : Fin 1) r j) * p (ix3 (0 : Fin 1) j x) := by
  pointwise [k0_pay11]
theorem pay3 (acc : Vec Ideal S144x2048 .f32) (v : Vec Ideal S1x1x144x512 .bf16) (p : Vec Ideal S1x512x2048 .bf16) (r : Fin 144) (x : Fin 2048) :
    k0_pay3 (F := Ideal) acc v p (ix2 r x) = acc (ix2 r x) + ∑ j : Fin 512, v (ix4 (0 : Fin 1) (0 : Fin 1) r j) * p (ix3 (0 : Fin 1) j x) := by
  pointwise [k0_pay3]
theorem pay105 (kn : Vec Ideal S1x512x128 .bf16) (q : Vec Ideal S128x2048 .bf16) : k0_pay105 (F := Ideal) kn q = k0_pay37 kn q := rfl
theorem pay110 (i) : k0_pay110 (F := Ideal) i = 0 := by pointwise [k0_pay110]
theorem pay109 (i) : k0_pay109 (F := Ideal) i = 0 := by pointwise [k0_pay109]
theorem pay102 (i) : k0_pay102 (F := Ideal) i = 1 := by pointwise [k0_pay102]
theorem pay101 (i) : k0_pay101 (F := Ideal) i = ⊥ := by pointwise [k0_pay101]; exact negInf
theorem pay111 (i) : k0_pay111 (F := Ideal) i = 0 := by pointwise [k0_pay111]
theorem pay108 (Q : Vec Ideal S4x512x128 .bf16) (d : Fin 128) (x : Fin 2048) :
    k0_pay108 (F := Ideal) Q (ix2 d x) = Q (ix3 (⟨x.val / 512, by omega⟩ : Fin 4) (⟨x.val % 512, by omega⟩ : Fin 512) d)
      * (((Real.sqrt 128)⁻¹ * (Real.log 2)⁻¹ : ℝ) : EReal) := by
  pointwise [k0_pay108]
  rfl
theorem pay112 (a : Vec Ideal S1x1 .f32) (kn : Vec Ideal S1x512x128 .bf16) (z z' : Fin 1) :
    k0_pay112 (F := Ideal) a kn (ix2 z z') = max (a (ix2 z z')) (Finset.univ.fold max ⊥ fun j : Fin 512 => ∑ d : Fin 128, kn (ix3 (0 : Fin 1) j d) * kn (ix3 (0 : Fin 1) j d)) := by
  pointwise [k0_pay112]
  rw [← negInf]
theorem pay114 (q : Vec Ideal S128x2048 .bf16) (k : Vec Ideal S1x1 .f32) (z : Fin 1) (x : Fin 2048) :
    k0_pay114 (F := Ideal) q k (ix2 z x) = Ideal.sqrt ((∑ d : Fin 128, q (ix2 d x) * q (ix2 d x)) * k (ix2 (0 : Fin 1) (0 : Fin 1))) := by
  pointwise [k0_pay114]
theorem pay6 (n : Vec Ideal S128x2048 .f32) (d : Vec Ideal S1x2048 .f32) (r : Fin 512) (l : Fin 128) :
    k0_pay6 (F := Ideal) n d (ix2 r l) = Ideal.div (n (ix2 l (⟨0 + r.val, by omega⟩ : Fin 2048))) (d (ix2 (0 : Fin 1) (⟨0 + r.val, by omega⟩ : Fin 2048))) := by
  pointwise [k0_pay6, k0_pay5]
theorem pay7 (n : Vec Ideal S128x2048 .f32) (d : Vec Ideal S1x2048 .f32) (r : Fin 512) (l : Fin 128) :
    k0_pay7 (F := Ideal) n d (ix2 r l) = Ideal.div (n (ix2 l (⟨512 + r.val, by omega⟩ : Fin 2048))) (d (ix2 (0 : Fin 1) (⟨512 + r.val, by omega⟩ : Fin 2048))) := by
  pointwise [k0_pay7, k0_pay5]
theorem pay8 (n : Vec Ideal S128x2048 .f32) (d : Vec Ideal S1x2048 .f32) (r : Fin 512) (l : Fin 128) :
    k0_pay8 (F := Ideal) n d (ix2 r l) = Ideal.div (n (ix2 l (⟨1024 + r.val, by omega⟩ : Fin 2048))) (d (ix2 (0 : Fin 1) (⟨1024 + r.val, by omega⟩ : Fin 2048))) := by
  pointwise [k0_pay8, k0_pay5]
theorem pay9 (n : Vec Ideal S128x2048 .f32) (d : Vec Ideal S1x2048 .f32) (r : Fin 512) (l : Fin 128) :
    k0_pay9 (F := Ideal) n d (ix2 r l) = Ideal.div (n (ix2 l (⟨1536 + r.val, by omega⟩ : Fin 2048))) (d (ix2 (0 : Fin 1) (⟨1536 + r.val, by omega⟩ : Fin 2048))) := by
  pointwise [k0_pay9, k0_pay5]
end Cert.KernelIdeal.Attn
end
-- ==== Proof.AttnMath.lean ====
/- The two roads of the attention over the reals: both leave the weighted sums against one real reference. -/
module
public import proofs.«01_k».proof.Proof.AttnPays

@[expose] public section
set_option maxHeartbeats 400000
noncomputable section
namespace Cert.KernelIdeal.Attn
open Cert.KernelIdeal Cert.KernelIdeal.Gen
open Idealize.ShloMosaic Idealize.ShloMosaic.TcCoe

/-- A real number among the extended ones. -/
def IsR (a : EReal) : Prop := ∃ r : ℝ, a = r

theorem IsR.add {a b : EReal} : IsR a → IsR b → IsR (a + b) := fun ⟨r, h⟩ ⟨s, k⟩ => ⟨r + s, by rw [h, k]; rfl⟩
theorem IsR.mul {a b : EReal} : IsR a → IsR b → IsR (a * b) := fun ⟨r, h⟩ ⟨s, k⟩ => ⟨r * s, by rw [h, k, EReal.coe_mul]⟩
theorem IsR.max {a b : EReal} (ha : IsR a) (hb : IsR b) : IsR (max a b) := by
  rcases max_choice a b with h | h <;> rw [h] <;> assumption
theorem IsR.zero : IsR 0 := ⟨0, rfl⟩
theorem IsR.sum {ι : Type} (s : Finset ι) (f : ι → EReal) (h : ∀ i, IsR (f i)) : IsR (∑ i ∈ s, f i) :=
  Finset.sum_induction f IsR (fun _ _ => IsR.add) IsR.zero fun i _ => h i
theorem IsR.fold {ι : Type} [Fintype ι] [Nonempty ι] (f : ι → EReal) (h : ∀ i, IsR (f i)) : IsR (Finset.univ.fold Max.max ⊥ f) := by
  obtain ⟨i, _, hi⟩ := Finset.exists_mem_eq_sup Finset.univ Finset.univ_nonempty f
  have e : Finset.univ.fold Max.max ⊥ f = Finset.univ.sup f := rfl
  rw [e, hi]; exact h i

theorem IsR.fold_set {ι : Type} (s : Finset ι) (hs : s.Nonempty) (f : ι → EReal) (h : ∀ i, IsR (f i)) : IsR (s.fold Max.max ⊥ f) := by
  obtain ⟨i, _, hi⟩ := Finset.exists_mem_eq_sup s hs f
  have e : s.fold Max.max ⊥ f = s.sup f := rfl
  rw [e, hi]; exact h i

/-- A sum of reals. -/
theorem coe_sum_real {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A nonnegative real times a sum. -/
theorem mul_sum_real {ι : Type} (s : Finset ι) (f : ι → EReal) (c : ℝ) (hc : 0 ≤ c) :
    (c : EReal) * ∑ i ∈ s, f i = ∑ i ∈ s, (c : EReal) * f i := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

/-- Shifting the reference of a weight. -/
theorem exp2_shift (s μ ν : ℝ) : Ideal.exp2 ((μ : EReal) - ν) * Ideal.exp2 ((s : EReal) - μ) = Ideal.exp2 ((s : EReal) - ν) := by
  rw [← EReal.coe_sub, ← EReal.coe_sub, ← EReal.coe_sub, Ideal.exp2_coe, Ideal.exp2_coe, Ideal.exp2_coe, ← EReal.coe_mul]
  congr 1
  have h := Real.rpow_add (x := 2) (by norm_num) (μ - ν) (s - μ)
  rw [show μ - ν + (s - μ) = s - ν by ring] at h
  exact h.symm

/-- The weighted sum of the chunks before `n` against the reference `b`. -/
def Full (sc v : ℕ → Fin 512 → EReal) (n : ℕ) (b : EReal) : EReal :=
  ∑ c ∈ Finset.range n, ∑ j, v c j * Ideal.exp2 (sc c j - b)

theorem Full_succ (sc v : ℕ → Fin 512 → EReal) (n : ℕ) (b : EReal) :
    Full sc v (n + 1) b = Full sc v n b + ∑ j, v n j * Ideal.exp2 (sc n j - b) := Finset.sum_range_succ _ _

theorem Full_shift (sc v : ℕ → Fin 512 → EReal) (hs : ∀ c j, IsR (sc c j)) (n : ℕ) {μ ν : EReal} (hμ : IsR μ) (hν : IsR ν) :
    Ideal.exp2 (μ - ν) * Full sc v n μ = Full sc v n ν := by
  obtain ⟨μ, rfl⟩ := hμ; obtain ⟨ν, rfl⟩ := hν
  have hp : ∀ f : EReal, True := fun _ => trivial
  unfold Full
  have hc : Ideal.exp2 ((μ : EReal) - ν) = ((Real.rpow 2 (μ - ν) : ℝ) : EReal) := by rw [← EReal.coe_sub, Ideal.exp2_coe]
  have h0 : 0 ≤ Real.rpow 2 (μ - ν) := Real.rpow_nonneg (by norm_num) _
  rw [hc, mul_sum_real _ _ _ h0]
  refine Finset.sum_congr rfl fun c _ => ?_
  rw [mul_sum_real _ _ _ h0]
  refine Finset.sum_congr rfl fun j _ => ?_
  obtain ⟨s, e⟩ := hs c j
  rw [e, mul_left_comm, ← hc, exp2_shift]

/-- Where the values of a step lie. -/
theorem k0_off3_at : ∀ (k : Fin k0_t2_loop.trips) (r : Fin 8), k0_off3 k (BitVec.ofNat 32 r.val) = ![0, 8 * k.val + r.val - 1, 0, 0] := by decide +kernel
theorem k0_off4_at : ∀ (k : Fin k0_t3_loop.trips) (r : Fin 8), k0_off4 k (BitVec.ofNat 32 r.val) = ![0, 8 * k.val + r.val - 1, 0, 0] := by decide +kernel

/-- Key `j` of chunk `c`, and the chunk as a row of the values. -/
def key (c : ℕ) (j : Fin 512) : Fin 16384 := ⟨512 * min c 31 + j.val, by omega⟩
def ck (c : ℕ) : Fin 32 := ⟨min c 31, by omega⟩

section
variable (q : Vec Ideal S128x2048 .bf16) (K : Vec Ideal S1x16384x128 .bf16) (W : Vec Ideal S1x32x144x512 .bf16)

/-- A score. -/
def sc (x : Fin 2048) (c : ℕ) (j : Fin 512) : EReal := ∑ d : Fin 128, K (ix3 (0 : Fin 1) (key c j) d) * q (ix2 d x)
/-- A value. -/
def vv (r : Fin 144) (c : ℕ) (j : Fin 512) : EReal := W (ix4 (0 : Fin 1) (ck c) r j)

theorem kQ_at (o : Fin 3 → ℕ) (h) (c : ℕ) (hc : c ≤ 31) (ho : o = ![0, 512 * c, 0]) (j : Fin 512) (d : Fin 128) :
    kQ K o h (ix3 (0 : Fin 1) j d) = K (ix3 (0 : Fin 1) (key c j) d) := by
  subst ho
  refine congrArg K (funext fun a => Fin.ext ?_)
  match a with
  | 0 => rfl
  | 1 => simp [LoadRect.idx, key, Nat.min_eq_left hc]
  | 2 => simp [LoadRect.idx]

theorem vQ_at (o : Fin 4 → ℕ) (h) (c : ℕ) (hc : c ≤ 31) (ho : o = ![0, c, 0, 0]) (r : Fin 144) (j : Fin 512) :
    vQ W o h (ix4 (0 : Fin 1) (0 : Fin 1) r j) = vv W r c j := by
  subst ho
  refine congrArg W (funext fun a => Fin.ext ?_)
  match a with
  | 0 => rfl
  | 1 => simp [LoadRect.idx, ck, Nat.min_eq_left hc]
  | 2 => simp [LoadRect.idx]
  | 3 => simp [LoadRect.idx]

/-- The running maximum's values before step `n`: the scores waiting, a maximum seen, and the accumulator with the
    weights still to be added to it. -/
structure Inv (n : ℕ) (st : St Ideal) : Prop where
  s : ∀ j x, st.s (ix3 (0 : Fin 1) j x) = sc q K x n j
  mx : ∀ x, IsR (st.mx (ix3 (0 : Fin 1) (0 : Fin 1) x))
  m : ∀ x, (n = 0 ∧ st.m (ix2 (0 : Fin 1) x) = ⊥) ∨ IsR (st.m (ix2 (0 : Fin 1) x))
  acc : ∀ r x, st.a (ix3 (0 : Fin 1) (0 : Fin 1) x) * st.acc (ix2 r x) + ∑ j : Fin 512, vv W r (n - 1) j * st.p (ix3 (0 : Fin 1) j x)
    = Full (sc q K x) (vv W r) n (st.m (ix2 (0 : Fin 1) x))

variable (hq : ∀ d x, IsR (q (ix2 d x))) (hK : ∀ k d, IsR (K (ix3 (0 : Fin 1) k d)))

include hq hK in
theorem sc_real (x : Fin 2048) (c : ℕ) (j : Fin 512) : IsR (sc q K x c j) := IsR.sum _ _ fun d => (hK _ d).mul (hq d x)

include hq hK in
theorem Inv.step {n : ℕ} {st : St Ideal} (I : Inv q K W n st) (kn : Vec Ideal S1x512x128 .bf16) (vp : Vec Ideal S1x1x144x512 .bf16)
    (hk : ∀ j d, kn (ix3 (0 : Fin 1) j d) = K (ix3 (0 : Fin 1) (key (n + 1) j) d))
    (hv : ∀ r j, vp (ix4 (0 : Fin 1) (0 : Fin 1) r j) = vv W r (n - 1) j) : Inv q K W (n + 1) (step q kn vp st) := by
  have hm : ∀ x, IsR (max (st.m (ix2 (0 : Fin 1) x)) (st.mx (ix3 (0 : Fin 1) (0 : Fin 1) x))) := fun x => by
    rcases I.m x with ⟨_, h⟩ | h
    · rw [h, max_eq_right bot_le]; exact I.mx x
    · exact h.max (I.mx x)
  constructor
  · intro j x
    show k0_pay36 (F := Ideal) kn q _ = _
    rw [pay36]; unfold sc
    exact Finset.sum_congr rfl fun d _ => by rw [hk]
  · intro x
    have e := pay37 kn q (0 : Fin 1) (0 : Fin 1) x
    have e' : (Attn.step q kn vp st).mx = k0_pay37 (F := Ideal) kn q := by unfold Attn.step; dsimp only
    rw [e', e]
    exact IsR.fold _ fun j => IsR.sum _ _ fun d => by rw [hk]; exact (hK _ d).mul (hq d x)
  · intro x
    right
    rw [show (Attn.step q kn vp st).m (ix2 (0 : Fin 1) x) = _ from pay31 st.m st.mx 0 x]; exact hm x
  · intro r x
    show k0_pay30 (F := Ideal) st.m st.mx _ * k0_pay34 (F := Ideal) (k0_pay32 vp) (k0_pay33 st.p) st.a st.acc _
      + ∑ j : Fin 512, vv W r n j * k0_pay29 (F := Ideal) st.m st.mx st.s (ix3 (0 : Fin 1) j x) = Full _ _ (n + 1) (k0_pay31 (F := Ideal) st.m st.mx _)
    rw [pay31, pay30, pay34, Full_succ]
    have e : st.a (ix3 (0 : Fin 1) (0 : Fin 1) x) * st.acc (ix2 r x) + ∑ j : Fin 512, vp (ix4 (0 : Fin 1) (0 : Fin 1) r j) * st.p (ix3 (0 : Fin 1) j x)
        = Full (sc q K x) (vv W r) n (st.m (ix2 (0 : Fin 1) x)) := by
      rw [← I.acc r x]; congr 1; exact Finset.sum_congr rfl fun j _ => by rw [hv]
    rw [e]
    congr 1
    · rcases I.m x with ⟨h, _⟩ | h
      · subst h; simp [Full]
      · exact Full_shift _ _ (sc_real q K hq hK x) n h (hm x)
    · exact Finset.sum_congr rfl fun j _ => by rw [pay29, I.s]

include hq hK in
theorem Inv.trip {k : Fin k0_t3_loop.trips} {st : St Ideal} (I : Inv q K W (8 * k.val) st) : Inv q K W (8 * k.val + 8) (tripQ q K W k st) := by
  have hk4 : k.val < 4 := k.isLt
  have go : ∀ (r : Fin 8) (n : ℕ) (st : St Ideal), n = 8 * k.val + r.val → Inv q K W n st → ∀ h h',
      Inv q K W (n + 1) (stepQ q K W (k0_off5 k (BitVec.ofNat 32 r.val)) h (k0_off4 k (BitVec.ofNat 32 r.val)) h' st) := by
    intro r n st hn I h h'
    refine I.step q K W hq hK _ _ (fun j d => ?_) (fun r' j => ?_)
    · rw [kQ_at K _ h (min (n + 1) 31) (by omega) (by rw [k0_off5_eq]; congr 2; omega)]
      unfold key; simp
    · rw [vQ_at W _ h' (n - 1) (by omega) (by rw [k0_off4_at, hn])]
  exact go 7 _ _ rfl (go 6 _ _ rfl (go 5 _ _ rfl (go 4 _ _ rfl (go 3 _ _ rfl (go 2 _ _ rfl (go 1 _ _ rfl (go 0 _ _ rfl I _ _) _ _) _ _) _ _) _ _) _ _) _ _) _ _

include hq hK in
theorem Inv.all {st : St Ideal} (I : Inv q K W 0 st) : ∀ n, n ≤ 4 → Inv q K W (8 * n) (stQ q K W st n)
  | 0, _ => I
  | n + 1, h => by
    have hn : n < k0_t3_loop.trips := Nat.lt_of_lt_of_le h (by decide)
    rw [stQ, dif_pos hn]
    exact (Inv.all I n (by omega)).trip q K W hq hK (k := ⟨n, hn⟩)

/-- The fast road's values before step `n`. -/
def InvF (b : FVec Ideal S1x2048 .f32) (n : ℕ) (st : StF Ideal) : Prop :=
  ∀ r x, st.acc (ix2 r x) + ∑ j : Fin 512, vv W r (n - 1) j * st.p (ix3 (0 : Fin 1) j x) = Full (sc q K x) (vv W r) n (b (ix2 (0 : Fin 1) x))

theorem InvF.step {b : FVec Ideal S1x2048 .f32} {n : ℕ} {st : StF Ideal} (I : InvF q K W b n st) (kn : Vec Ideal S1x512x128 .bf16) (vp : Vec Ideal S1x1x144x512 .bf16)
    (hk : ∀ j d, kn (ix3 (0 : Fin 1) j d) = K (ix3 (0 : Fin 1) (key n j) d))
    (hv : ∀ r j, vp (ix4 (0 : Fin 1) (0 : Fin 1) r j) = vv W r (n - 1) j) : InvF q K W b (n + 1) (stepF b q kn vp st) := by
  intro r x
  show k0_pay11 (F := Ideal) st.acc vp st.p _ + ∑ j : Fin 512, vv W r n j * k0_pay10 (F := Ideal) b kn q (ix3 (0 : Fin 1) j x) = _
  rw [pay11, Full_succ, ← I r x]
  congr 1
  · congr 1; exact Finset.sum_congr rfl fun j _ => by rw [hv]
  · refine Finset.sum_congr rfl fun j _ => ?_
    rw [pay10]; unfold sc; congr 3
    exact Finset.sum_congr rfl fun d _ => by rw [hk]

theorem InvF.trip {b : FVec Ideal S1x2048 .f32} {k : Fin k0_t2_loop.trips} {st : StF Ideal} (I : InvF q K W b (8 * k.val) st) :
    InvF q K W b (8 * k.val + 8) (tripFQ q K W b k st) := by
  have hk4 : k.val < 4 := k.isLt
  have go : ∀ (r : Fin 8) (n : ℕ) (st : StF Ideal), n = 8 * k.val + r.val → InvF q K W b n st → ∀ h h',
      InvF q K W b (n + 1) (stepFQ q K W b (k0_off2 k (BitVec.ofNat 32 r.val)) h (k0_off3 k (BitVec.ofNat 32 r.val)) h' st) := by
    intro r n st hn I h h'
    refine I.step q K W _ _ (fun j d => ?_) (fun r' j => ?_)
    · rw [kQ_at K _ h n (by omega) (by rw [k0_off2_eq]; congr 2; omega)]
    · rw [vQ_at W _ h' (n - 1) (by omega) (by rw [k0_off3_at, hn])]
  exact go 7 _ _ rfl (go 6 _ _ rfl (go 5 _ _ rfl (go 4 _ _ rfl (go 3 _ _ rfl (go 2 _ _ rfl (go 1 _ _ rfl (go 0 _ _ rfl I _ _) _ _) _ _) _ _) _ _) _ _) _ _) _ _

theorem InvF.all {b : FVec Ideal S1x2048 .f32} {st : StF Ideal} (I : InvF q K W b 0 st) : ∀ n, n ≤ 4 → InvF q K W b (8 * n) (stFQ q K W b st n)
  | 0, _ => I
  | n + 1, h => by
    have hn : n < k0_t2_loop.trips := Nat.lt_of_lt_of_le h (by decide)
    rw [stFQ, dif_pos hn]
    exact (InvF.all I n (by omega)).trip q K W (k := ⟨n, hn⟩)

theorem fast_value (b : FVec Ideal S1x2048 .f32) (r : Fin 144) (x : Fin 2048) :
    accFast q K W b (ix2 r x) = Full (sc q K x) (vv W r) 32 (b (ix2 (0 : Fin 1) x)) := by
  have I0 : InvF q K W b 0 ⟨k0_pay110 (F := Ideal), k0_pay109 (F := Ideal)⟩ := fun r x => by
    show k0_pay109 (F := Ideal) (ix2 r x) + ∑ j : Fin 512, vv W r 0 j * k0_pay110 (F := Ideal) (ix3 (0 : Fin 1) j x) = _
    simp [pay109, pay110, Full]
  have I := InvF.all q K W I0 4 le_rfl r x
  unfold accFast
  rw [pay3, ← I]
  congr 1
  exact Finset.sum_congr rfl fun j _ => by rw [vQ_at W _ _ 31 le_rfl rfl]; rfl

include hq hK in
theorem slow_value (x : Fin 2048) : ∃ b, IsR b ∧ ∀ r, accSlow q K W (ix2 r x) = Full (sc q K x) (vv W r) 32 b := by
  have hk0 : ∀ j d, kQ K ![0, 0, 0] inb_S1x16384x128_S1x512x128_0_0_0 (ix3 (0 : Fin 1) j d) = K (ix3 (0 : Fin 1) (key 0 j) d) := fun j d =>
    kQ_at K _ _ 0 (by omega) rfl j d
  have I0 : Inv q K W 0 ⟨k0_pay104 (kQ K ![0, 0, 0] inb_S1x16384x128_S1x512x128_0_0_0) q, k0_pay105 (kQ K ![0, 0, 0] inb_S1x16384x128_S1x512x128_0_0_0) q,
      k0_pay110 (F := Ideal), k0_pay102 (F := Ideal), k0_pay101 (F := Ideal), k0_pay109 (F := Ideal)⟩ := by
    constructor
    · intro j x
      show k0_pay104 (F := Ideal) _ q _ = _
      rw [pay104]; unfold sc
      exact Finset.sum_congr rfl fun d _ => by rw [hk0]
    · intro x
      dsimp only
      rw [pay105, pay37]
      exact IsR.fold _ fun j => IsR.sum _ _ fun d => by rw [hk0]; exact (hK _ d).mul (hq d x)
    · intro x; left; exact ⟨rfl, pay101 (ix2 (0 : Fin 1) x)⟩
    · intro r x
      show k0_pay102 (F := Ideal) (ix3 (0 : Fin 1) (0 : Fin 1) x) * k0_pay109 (F := Ideal) (ix2 r x) + ∑ j : Fin 512, vv W r 0 j * k0_pay110 (F := Ideal) (ix3 (0 : Fin 1) j x) = _
      simp [pay109, pay110, Full]
  have I := Inv.all q K W hq hK I0 4 le_rfl
  refine ⟨_, (I.m x).resolve_left (fun h => absurd h.1 (by decide)), fun r => ?_⟩
  unfold accSlow
  rw [pay4, ← I.acc r x]
  congr 1
  exact Finset.sum_congr rfl fun j _ => by rw [vQ_at W _ _ 31 le_rfl rfl]; rfl

theorem pay113 (a : Vec Ideal S1x1 .f32) (z z' : Fin 1) : k0_pay113 (F := Ideal) a (ix2 z z') = a (ix2 z z') := by
  pointwise [k0_pay113]

include hK in
theorem kmQ_real : ∀ n, n ≤ 32 → ∃ r : ℝ, 0 ≤ r ∧ kmQ K (k0_pay111 (F := Ideal)) n (ix2 (0 : Fin 1) (0 : Fin 1)) = r
  | 0, _ => ⟨0, le_rfl, pay111 _⟩
  | n + 1, h => by
    obtain ⟨r, hr, e⟩ := kmQ_real n (by omega)
    have hn : n < k0_t1_loop.trips := Nat.lt_of_lt_of_le h (by decide)
    obtain ⟨s, hs⟩ : IsR (Finset.univ.fold max ⊥ fun j : Fin 512 => ∑ d : Fin 128,
        kQ K (k0_off1 ⟨n, hn⟩) (off1_inb ⟨n, hn⟩) (ix3 (0 : Fin 1) j d) * kQ K (k0_off1 ⟨n, hn⟩) (off1_inb ⟨n, hn⟩) (ix3 (0 : Fin 1) j d)) := by
      refine IsR.fold _ fun j => IsR.sum _ _ fun d => ?_
      rw [kQ_at K _ _ n (by omega) (k0_off1_eq _)]
      exact (hK _ d).mul (hK _ d)
    refine ⟨max r s, le_max_of_le_left hr, ?_⟩
    rw [kmQ, dif_pos hn, pay112, e, hs]
    rcases le_total r s with h | h
    · rw [max_eq_right h, max_eq_right (EReal.coe_le_coe_iff.mpr h)]
    · rw [max_eq_left h, max_eq_left (EReal.coe_le_coe_iff.mpr h)]

include hq hK in
/-- The accumulator: the weighted sums over all keys against one real reference of the column. -/
theorem acc_value (x : Fin 2048) : ∃ b, IsR b ∧ ∀ r, accQ q K W (km K) (ix2 r x) = Full (sc q K x) (vv W r) 32 b := by
  unfold accQ
  split
  · refine ⟨_, ?_, fun r => fast_value q K W _ r x⟩
    rw [pay114]
    obtain ⟨r, hr, e⟩ := kmQ_real K hK 32 le_rfl
    have e' : km K (ix2 (0 : Fin 1) (0 : Fin 1)) = (r : EReal) := by unfold km; rw [pay113]; exact e
    choose f hf using fun d => hq d x
    have e2 : (∑ d : Fin 128, q (ix2 d x) * q (ix2 d x)) = ((∑ d : Fin 128, f d * f d : ℝ) : EReal) := by
      rw [coe_sum_real]; exact Finset.sum_congr rfl fun d _ => by rw [hf, EReal.coe_mul]
    have h0 : 0 ≤ ∑ d : Fin 128, f d * f d := Finset.sum_nonneg fun d _ => mul_self_nonneg _
    rw [e', e2, ← EReal.coe_mul, Ideal.sqrt_coe, if_neg (not_lt.mpr (mul_nonneg h0 hr))]
    exact ⟨_, rfl⟩
  · exact slow_value q K W hq hK x
end

/-- The sum over the chunks is the sum over the keys. -/
theorem Full_flat (g v : Fin 16384 → EReal) (b : EReal) : Full (fun c j => g (key c j)) (fun c j => v (key c j)) 32 b = ∑ k, v k * Ideal.exp2 (g k - b) := by
  rw [Fin.sum_univ_tiles 32 512 rfl, Full, Finset.sum_range]
  refine Finset.sum_congr rfl fun c _ => Finset.sum_congr rfl fun j _ => ?_
  have e : key c.val j = ⟨c.val * 512 + j.val, by omega⟩ := Fin.ext (by simp [key]; omega)
  rw [e]

/-- The quotient of the weighted sums is the average by the softmax of the logits, whatever the two references. -/
theorem softmax_eq {ι : Type} [Fintype ι] [Nonempty ι] (v : ι → EReal) (s l : ι → ℝ) (hsl : ∀ k, s k * Real.log 2 = l k) (b M : ℝ) :
    Ideal.div (∑ k, v k * Ideal.exp2 ((s k : EReal) - b)) (∑ k, 1 * Ideal.exp2 ((s k : EReal) - b))
      = ∑ k, v k * Ideal.div (Ideal.exp ((l k : EReal) - M)) (∑ k, Ideal.exp ((l k : EReal) - M)) := by
  have he : ∀ k, Ideal.exp2 ((s k : EReal) - b) = ((Real.exp (l k - M) * Real.exp (M - b * Real.log 2) : ℝ) : EReal) := fun k => by
    rw [← EReal.coe_sub, Ideal.exp2_coe, ← Real.exp_add]
    congr 1
    show (2 : ℝ) ^ (s k - b) = _
    rw [Real.rpow_def_of_pos (by norm_num)]
    congr 1; rw [← hsl]; ring
  have he' : ∀ k, Ideal.exp ((l k : EReal) - M) = ((Real.exp (l k - M) : ℝ) : EReal) := fun k => by
    rw [← EReal.coe_sub, Ideal.exp_coe]
  have hD' : 0 < ∑ k, Real.exp (l k - M) := Finset.sum_pos (fun k _ => Real.exp_pos _) Finset.univ_nonempty
  have hC : 0 < Real.exp (M - b * Real.log 2) := Real.exp_pos _
  have hD : 0 < (∑ k, Real.exp (l k - M)) * Real.exp (M - b * Real.log 2) := mul_pos hD' hC
  simp only [he, he', one_mul]
  rw [← coe_sum_real, ← coe_sum_real, ← Finset.sum_mul, Ideal.div_coe hD.ne', mul_comm, mul_sum_real _ _ _ (one_div_nonneg.mpr hD.le)]
  refine Finset.sum_congr rfl fun k _ => ?_
  rw [mul_left_comm, Ideal.div_coe hD'.ne', ← EReal.coe_mul, ← EReal.coe_mul]
  congr 2
  field_simp

theorem out_entry (acc : Vec Ideal S144x2048 .f32) (l : Fin 128) (u : Fin 2048) (a : Fin 144) (w : Fin 2048)
    (hl : l.val = a.val) (hu : u.val = w.val) :
    Ideal.div (View.ld acc (Rect.unit (s := S144x2048) ![0, 0] S128x2048.size inb_S144x2048_S128x2048_0_0) (ix2 l u))
      (View.ld acc (Rect.unit (s := S144x2048) ![128, 0] S1x2048.size inb_S144x2048_S1x2048_128_0) (ix2 (0 : Fin 1) u))
      = Ideal.div (acc (ix2 a w)) (acc (ix2 (128 : Fin 144) w)) := by
  refine congrArg₂ Ideal.div (congrArg acc (funext fun b => Fin.ext ?_)) (congrArg acc (funext fun b => Fin.ext ?_))
  · match b with
    | 0 => simpa [Rect.unit] using hl
    | 1 => simpa [Rect.unit] using hu
  · match b with
    | 0 => rfl
    | 1 => simpa [Rect.unit] using hu

/-- What the block written holds. -/
theorem outQ_at (acc : Vec Ideal S144x2048 .f32) (r y : Fin 512) :
    outQ (F := Ideal) acc (ix2 r y) = Ideal.div (acc (ix2 (⟨y.val % 128, by omega⟩ : Fin 144) (⟨512 * (y.val / 128) + r.val, by omega⟩ : Fin 2048)))
      (acc (ix2 (128 : Fin 144) (⟨512 * (y.val / 128) + r.val, by omega⟩ : Fin 2048))) := by
  unfold outQ
  canon_tiles x h
  all_goals idx_vars x
  · rw [pay9]; exact out_entry acc _ _ _ _ (by simp only [Fin.val_mk]; omega) (by simp only [Fin.val_mk]; omega)
  · rw [pay8]; exact out_entry acc _ _ _ _ (by simp only [Fin.val_mk]; omega) (by simp only [Fin.val_mk]; omega)
  · rw [pay7]; exact out_entry acc _ _ _ _ (by simp only [Fin.val_mk]; omega) (by simp only [Fin.val_mk]; omega)
  · rw [pay6]; exact out_entry acc _ _ _ _ (by simp only [Fin.val_mk]; omega) (by simp only [Fin.val_mk]; omega)

end Cert.KernelIdeal.Attn
end
-- ==== Proof.AttnValue.lean ====
/- The attention over the reals: what the blocked kernel leaves in its result is the softmax average written plainly. -/
module

public import proofs.«01_k».proof.Proof.AttnMath
public import proofs.«01_k».proof.Proof.AttnRun
public import proofs.«01_k».proof.Proof.Gen.ReferenceIdeal.Run
public import proofs.«01_k».proof.Proof.Gen.ReferenceIdeal.Read
public import Idealize.ShloMosaic.Lib.Pipeline.ValueKit
public import Idealize.ShloMosaic.Lib.ReduceAll
public import proofs.«01_k».proof.Proof.Gen.Pre_finite_qk

@[expose] public section
set_option maxRecDepth 16384
set_option maxHeartbeats 400000
noncomputable section

open Idealize.ShloMosaic Idealize.ShloMosaic.TcCoe Idealize.SL.Sem
open Idealize.ShloMosaic.Pipeline (Dat)

namespace Cert.KernelIdeal.Attn
open Cert.KernelIdeal Cert.KernelIdeal.Gen

variable (m : (ℓ : Loc nD τ sig) → Buf (Elt Ideal) ℓ) (c : Dev nD)

theorem idx : ∀ t : Fin cfg0.N, win0_0.index t = ![t.val / 32, t.val % 32, 0] ∧ win0_1.index t = ![16 + t.val / 32, 0, 0]
    ∧ win0_2.index t = ![t.val / 32, 0, 0, 0] ∧ win0_3.index t = ![t.val % 32, t.val / 32] :=
  (by decide +kernel : ∀ t : Fin grid0.N, _)

theorem t_lt (t : Fin cfg0.N) : t.val < 128 := t.isLt

theorem V6_q (h : Fin 16) (i : Fin 16384) (d : Fin 128) : V m c main_v6 (ix3 (⟨h.val, by omega⟩ : Fin 20) i d)
    = m ((c : Thread nD τ).loc main_arg0) (ix4 (0 : Fin 1) i h d) := by
  entry_read
  pointwise []
theorem V6_k (h : Fin 4) (i : Fin 16384) (d : Fin 128) : V m c main_v6 (ix3 (⟨16 + h.val, by omega⟩ : Fin 20) i d)
    = m ((c : Thread nD τ).loc main_arg1) (ix4 (0 : Fin 1) i h d) := by
  entry_read
  pointwise []
theorem V11_v (h : Fin 4) (n : Fin 32) (r : Fin 128) (j : Fin 512) : V m c main_v11 (ix4 h n (⟨r.val, by omega⟩ : Fin 144) j)
    = m ((c : Thread nD τ).loc main_arg2) (ix4 (0 : Fin 1) (⟨512 * n.val + j.val, by omega⟩ : Fin 16384) h r) := by
  entry_read
  pointwise []
  congr 2; exact Fin.ext (by simp only [Fin.val_mk]; omega)
theorem V11_one (h : Fin 4) (n : Fin 32) (j : Fin 512) : V m c main_v11 (ix4 h n (128 : Fin 144) j) = (1 : EReal) := by
  entry_read
  pointwise []

theorem blk_q (t : Fin cfg0.N) (h : Fin 4) (i : Fin 512) (d : Fin 128) : iblk m c 0 t (ix3 h i d)
    = V m c main_v6 (ix3 (⟨4 * (t.val / 32) + h.val, by have := t_lt t; omega⟩ : Fin 20) (⟨512 * (t.val % 32) + i.val, by omega⟩ : Fin 16384) d) := by
  blk_ext [iblk, idx t]
theorem blk_k (t : Fin cfg0.N) (i : Fin 16384) (d : Fin 128) : iblk m c 1 t (ix3 (0 : Fin 1) i d)
    = V m c main_v6 (ix3 (⟨16 + t.val / 32, by have := t_lt t; omega⟩ : Fin 20) i d) := by
  blk_ext [iblk, idx t]
theorem blk_v (t : Fin cfg0.N) (n : Fin 32) (r : Fin 144) (j : Fin 512) : iblk m c 2 t (ix4 (0 : Fin 1) n r j)
    = V m c main_v11 (ix4 (⟨t.val / 32, by have := t_lt t; omega⟩ : Fin 4) n r j) := by
  blk_ext [iblk, idx t]

section
open Cert.ReferenceIdeal.Read
variable (a0 : FVec Ideal S1x16384x16x128 .f32) (a1 a2 : FVec Ideal S1x16384x4x128 .f32)

theorem ref_logit (z : Fin 1) (h g : Fin 4) (i k : Fin 16384) : val_main_v5 (F := Ideal) a0 a1 (ix5 z h g i k)
    = Ideal.div (∑ d : Fin 128, a1 (ix4 (0 : Fin 1) k h d) * a0 (ix4 (0 : Fin 1) i (⟨4 * h.val + g.val, by omega⟩ : Fin 16) d)) (val_main_v3 (F := Ideal) ix0) := by
  pointwise [val_main_v5, val_main_v4, val_main_v2, val_main_v1, val_main_v0]
  congr 1
  refine Finset.sum_congr rfl fun d _ => ?_
  congr 3; exact Fin.ext (by simp only [Fin.val_mk]; omega)

theorem fold_real {ι : Type} (s : Finset ι) (hs : s.Nonempty) (f : ι → Elt Ideal .f32) (h : ∀ i, IsR (f i)) (b : Elt Ideal .f32) (hb : b = (⊥ : EReal)) :
    IsR (s.fold (FloatOps.maximumf (F := Ideal) (φ := .f32)) b f) := by
  subst hb
  exact IsR.fold_set s hs f h

theorem start_bot : val_main_cst_0 (F := Ideal) (Shape.Idx.first Cert.ReferenceIdeal.Gen.h_S_) = (⊥ : EReal) := by
  rw [val_main_cst_0_apply]; exact negInf

theorem drop_at (z : Fin 1) (h g : Fin 4) (i k : Fin 16384) :
    Cert.ReferenceIdeal.Gen.reducesTo_S1x4x4x16384x16384_S1x4x4x16384_d4.drop (ix5 z h g i k) = ix4 z h g i := by
  funext b
  refine Fin.ext ?_
  match b with
  | 0 => exact Cert.ReferenceIdeal.Gen.reducesTo_S1x4x4x16384x16384_S1x4x4x16384_d4.drop_apply_val_of_eq (ix5 z h g i k) 0 0
  | 1 => exact Cert.ReferenceIdeal.Gen.reducesTo_S1x4x4x16384x16384_S1x4x4x16384_d4.drop_apply_val_of_eq (ix5 z h g i k) 1 1
  | 2 => exact Cert.ReferenceIdeal.Gen.reducesTo_S1x4x4x16384x16384_S1x4x4x16384_d4.drop_apply_val_of_eq (ix5 z h g i k) 2 2
  | 3 => exact Cert.ReferenceIdeal.Gen.reducesTo_S1x4x4x16384x16384_S1x4x4x16384_d4.drop_apply_val_of_eq (ix5 z h g i k) 3 3

theorem fold_max_real (w : Cert.ReferenceIdeal.S1x4x4x16384x16384.Idx → Elt Ideal .f32) (hw : ∀ j, IsR (w j)) (z : Fin 1) (h g : Fin 4) (i : Fin 16384)
    (b : Cert.ReferenceIdeal.S_.Idx → Elt Ideal .f32) (hb : b (Shape.Idx.first Cert.ReferenceIdeal.Gen.h_S_) = (⊥ : EReal)) :
    IsR (Host.reduce (FloatOps.maximumf (F := Ideal) (φ := .f32)) w b Cert.ReferenceIdeal.Gen.reducesTo_S1x4x4x16384x16384_S1x4x4x16384_d4 Cert.ReferenceIdeal.Gen.h_S_ (ix4 z h g i)) := by
  rw [Host.reduce_eq_fold]
  exact fold_real _ ⟨ix5 z h g i (0 : Fin 16384), Finset.mem_filter.mpr ⟨Finset.mem_univ _, drop_at z h g i 0⟩⟩ w hw _ hb

theorem ref_max (z : Fin 1) (h g : Fin 4) (i : Fin 16384) (hw : ∀ j, IsR (val_main_v5 (F := Ideal) a0 a1 j)) :
    IsR (val_main_v8 (F := Ideal) a0 a1 (ix4 z h g i)) := by
  have h6 : IsR (val_main_v6 (F := Ideal) a0 a1 (ix4 z h g i)) := fold_max_real _ hw z h g i _ start_bot
  obtain ⟨r, hr⟩ := h6
  refine ⟨r, ?_⟩
  rw [val_main_v8_apply, hr, val_main_v7_apply, val_main_cst_1_apply]
  show max (Ideal.ofBits .f32 0xFF800000#32) (r : EReal) = r
  rw [negInf, max_eq_right bot_le]

theorem ref_exp (z : Fin 1) (h g : Fin 4) (i k : Fin 16384) : val_main_v12 (F := Ideal) a0 a1 (ix5 z h g i k)
    = Ideal.exp (val_main_v5 (F := Ideal) a0 a1 (ix5 z h g i k) - val_main_v8 (F := Ideal) a0 a1 (ix4 z h g i)) := by
  unfold val_main_v12 val_main_v11 val_main_v10 val_main_v9
  generalize val_main_v5 (F := Ideal) a0 a1 = w
  generalize val_main_v8 (F := Ideal) a0 a1 = u
  obtain rfl : z = 0 := Subsingleton.elim _ _
  pointwise []

theorem ref_weight (z : Fin 1) (h g : Fin 4) (i k : Fin 16384) : val_main_v16 (F := Ideal) a0 a1 (ix5 z h g i k)
    = Ideal.div (val_main_v12 (F := Ideal) a0 a1 (ix5 z h g i k)) (∑ k : Fin 16384, val_main_v12 (F := Ideal) a0 a1 (ix5 z h g i k)) := by
  unfold val_main_v16 val_main_v15 val_main_v14 val_main_v13
  generalize val_main_v12 (F := Ideal) a0 a1 = w
  obtain rfl : z = 0 := Subsingleton.elim _ _
  pointwise [val_main_cst_2]

theorem ref_at (i : Fin 16384) (y : Fin 2048) : val_main_v20 (F := Ideal) a0 a1 a2 (ix2 i y)
    = ∑ k : Fin 16384, a2 (ix4 (0 : Fin 1) k (⟨y.val / 512, by omega⟩ : Fin 4) (⟨y.val % 128, by omega⟩ : Fin 128))
        * val_main_v16 (F := Ideal) a0 a1 (ix5 (0 : Fin 1) (⟨y.val / 512, by omega⟩ : Fin 4) (⟨y.val / 128 % 4, by omega⟩ : Fin 4) i k) := by
  unfold val_main_v20 val_main_v19 val_main_v18 val_main_v17
  generalize val_main_v16 (F := Ideal) a0 a1 = w
  pointwise []

theorem word128 : Ideal.ofBits FTy.f32 0x43000000#32 = ((128 : ℝ) : EReal) := by
  norm_num [Ideal.ofBits, FTy.bits, Ideal.ieee]
  have e : 1124073472 >>> 23 % 256 = 134 := by decide
  have e' : ¬ BitVec.extractLsb' 31 1 1124073472#32 = 1#1 := by decide
  have e2 : ((1124073472 : ℤ) >>> 23 % 256 - 127 - 23) = -16 := by decide
  simp only [e, e', if_false]
  norm_num
  rw [e2, ← EReal.coe_mul]
  norm_num

theorem ref_root : val_main_v3 (F := Ideal) ix0 = ((Real.sqrt 128 : ℝ) : EReal) := by
  pointwise [val_main_v3, val_main_cst]
  rw [word128, Ideal.sqrt_coe, if_neg (by norm_num)]
end

/-- The precondition: every query and key is a real number. -/
theorem real_of_small (a : EReal) (h : FloatOps.cmpf (F := Ideal) (φ := .f32) .olt (FloatOps.hostAbsf (F := Ideal) (φ := .f32) a) (FloatOps.ofBits .f32 0x7F800000#32) = 1#1) : IsR a := by
  have e : Ideal.ofBits FTy.f32 0x7F800000#32 = (⊤ : EReal) := by norm_num [Ideal.ofBits, FTy.bits]; rfl
  have h' : BitVec.ofBool (decide (max a (-a) < Ideal.ofBits FTy.f32 0x7F800000#32)) = 1#1 := h
  rw [e] at h'
  induction a using EReal.rec with
  | bot => simp at h'
  | coe r => exact ⟨r, rfl⟩
  | top => simp at h'

theorem ld_full (Q : Vec Ideal S4x512x128 .bf16) (i) :
    View.ld Q (Rect.unit (s := S4x512x128) ![0, 0, 0] S4x512x128.size inb_S4x512x128_S4x512x128_0_0_0) i = Q i := by
  refine congrArg Q (funext fun b => Fin.ext ?_)
  match b with
  | 0 => simp [Rect.unit]
  | 1 => simp [Rect.unit]
  | 2 => simp [Rect.unit]

/-- The factor a query is multiplied by in the kernel. -/
abbrev κ : ℝ := (Real.sqrt 128)⁻¹ * (Real.log 2)⁻¹

section
variable (A : S1x16384x16x128.Idx → ℝ) (B : S1x16384x4x128.Idx → ℝ) (hA : ∀ i, m ((c : Thread nD τ).loc main_arg0) i = (A i : EReal))
  (hB : ∀ i, m ((c : Thread nD τ).loc main_arg1) i = (B i : EReal))

include hA in
theorem q_at (t : Fin cfg0.N) (d : Fin 128) (x : Fin 2048) : qQ (F := Ideal) (iblk m c 0 t) (ix2 d x)
    = ((A (ix4 (0 : Fin 1) (⟨512 * (t.val % 32) + x.val % 512, by omega⟩ : Fin 16384)
        (⟨4 * (t.val / 32) + x.val / 512, by have := t_lt t; omega⟩ : Fin 16) d) * κ : ℝ) : EReal) := by
  unfold qQ
  rw [pay108, ld_full, blk_q]
  have e := V6_q m c (⟨4 * (t.val / 32) + x.val / 512, by have := t_lt t; omega⟩ : Fin 16) (⟨512 * (t.val % 32) + x.val % 512, by omega⟩ : Fin 16384) d
  rw [hA] at e
  rw [e, ← EReal.coe_mul]

include hB in
theorem k_at (t : Fin cfg0.N) (k : Fin 16384) (d : Fin 128) : iblk m c 1 t (ix3 (0 : Fin 1) k d)
    = (B (ix4 (0 : Fin 1) k (⟨t.val / 32, by have := t_lt t; omega⟩ : Fin 4) d) : EReal) := by
  rw [blk_k, V6_k m c (⟨t.val / 32, by have := t_lt t; omega⟩ : Fin 4) k d, hB]

theorem v_at (t : Fin cfg0.N) (r : Fin 128) (n : ℕ) (j : Fin 512) : vv (iblk m c 2 t) (⟨r.val, by omega⟩ : Fin 144) n j
    = m ((c : Thread nD τ).loc main_arg2) (ix4 (0 : Fin 1) (key n j) (⟨t.val / 32, by have := t_lt t; omega⟩ : Fin 4) r) := by
  unfold vv
  rw [blk_v, V11_v]
  rfl

theorem one_at (t : Fin cfg0.N) (n : ℕ) (j : Fin 512) : vv (iblk m c 2 t) (128 : Fin 144) n j = 1 := by
  unfold vv
  rw [blk_v]; exact V11_one m c _ _ _

/-- The product of a query with a key, over the reals. -/
def dotp (h : Fin 16) (i k : Fin 16384) : ℝ :=
  ∑ d : Fin 128, B (ix4 (0 : Fin 1) k (⟨h.val / 4, by omega⟩ : Fin 4) d) * A (ix4 (0 : Fin 1) i h d)

theorem dot_coe (f g : Fin 128 → ℝ) : ∑ d : Fin 128, (f d : EReal) * (g d : EReal) = ((∑ d : Fin 128, f d * g d : ℝ) : EReal) := by
  rw [coe_sum_real]; exact Finset.sum_congr rfl fun d _ => (EReal.coe_mul _ _).symm

include hA hB in
theorem sc_at (t : Fin cfg0.N) (x : Fin 2048) (n : ℕ) (j : Fin 512) : sc (qQ (F := Ideal) (iblk m c 0 t)) (iblk m c 1 t) x n j
    = ((dotp A B (⟨4 * (t.val / 32) + x.val / 512, by have := t_lt t; omega⟩ : Fin 16)
        (⟨512 * (t.val % 32) + x.val % 512, by omega⟩ : Fin 16384) (key n j) * κ : ℝ) : EReal) := by
  unfold sc dotp
  simp only [q_at m c A hA, k_at m c B hB]
  rw [dot_coe, Finset.sum_mul]
  congr 1
  refine Finset.sum_congr rfl fun d _ => ?_
  rw [← mul_assoc]
  congr 3
  congr 1
  exact Fin.ext (by simp only [Fin.val_mk]; omega)

include hA hB in
open Cert.ReferenceIdeal.Read in
theorem logit_at (z : Fin 1) (h g : Fin 4) (i k : Fin 16384) :
    val_main_v5 (F := Ideal) (m ((c : Thread nD τ).loc main_arg0)) (m ((c : Thread nD τ).loc main_arg1)) (ix5 z h g i k)
      = ((dotp A B (⟨4 * h.val + g.val, by omega⟩ : Fin 16) i k * (1 / Real.sqrt 128) : ℝ) : EReal) := by
  rw [ref_logit, ref_root, Ideal.div_coe (by positivity)]
  simp only [hA, hB]
  rw [dot_coe, ← EReal.coe_mul]
  congr 1
  unfold dotp
  congr 1
  refine Finset.sum_congr rfl fun d _ => ?_
  congr 3
  exact Fin.ext (by simp only [Fin.val_mk]; omega)

include hA hB in
/-- One element of the block a grid point writes. -/
theorem point (t : Fin cfg0.N) (r y : Fin 512) : outB m c t (ix2 r y)
    = Cert.ReferenceIdeal.Read.val_main_v20 (F := Ideal) (m ((c : Thread nD τ).loc main_arg0)) (m ((c : Thread nD τ).loc main_arg1)) (m ((c : Thread nD τ).loc main_arg2))
        (ix2 (⟨512 * (t.val % 32) + r.val, by omega⟩ : Fin 16384) (⟨512 * (t.val / 32) + y.val, by have := t_lt t; omega⟩ : Fin 2048)) := by
  have ht := t_lt t
  set x : Fin 2048 := ⟨512 * (y.val / 128) + r.val, by omega⟩ with hx
  set i : Fin 16384 := ⟨512 * (t.val % 32) + r.val, by omega⟩ with hi
  set h : Fin 16 := ⟨4 * (t.val / 32) + y.val / 128, by omega⟩ with hh
  set g : Fin 4 := ⟨t.val / 32, by omega⟩ with hg
  have hq : ∀ d x, IsR (qQ (F := Ideal) (iblk m c 0 t) (ix2 d x)) := fun d x => ⟨_, q_at m c A hA t d x⟩
  have hK : ∀ k d, IsR (iblk m c 1 t (ix3 (0 : Fin 1) k d)) := fun k d => ⟨_, k_at m c B hB t k d⟩
  have es : sc (qQ (F := Ideal) (iblk m c 0 t)) (iblk m c 1 t) x = fun n j => ((dotp A B h i (key n j) * κ : ℝ) : EReal) := by
    funext n j
    rw [sc_at m c A B hA hB]
    have ea : (⟨4 * (t.val / 32) + x.val / 512, by omega⟩ : Fin 16) = h := Fin.ext (by simp only [hx, hh]; omega)
    have eb : (⟨512 * (t.val % 32) + x.val % 512, by omega⟩ : Fin 16384) = i := Fin.ext (by simp only [hx, hi]; omega)
    rw [ea, eb]
  have ev : vv (iblk m c 2 t) (⟨y.val % 128, by omega⟩ : Fin 144)
      = fun n j => m ((c : Thread nD τ).loc main_arg2) (ix4 (0 : Fin 1) (key n j) g (⟨y.val % 128, by omega⟩ : Fin 128)) := by
    funext n j; exact v_at m c t ⟨y.val % 128, by omega⟩ n j
  have e1 : vv (iblk m c 2 t) (128 : Fin 144) = fun n j => 1 := by
    funext n j; exact one_at m c t n j
  obtain ⟨b, ⟨b, rfl⟩, hb⟩ := acc_value (qQ (F := Ideal) (iblk m c 0 t)) (iblk m c 1 t) (iblk m c 2 t) hq hK x
  obtain ⟨M, hM⟩ := ref_max (m ((c : Thread nD τ).loc main_arg0)) (m ((c : Thread nD τ).loc main_arg1)) (0 : Fin 1) g (⟨y.val / 128, by omega⟩ : Fin 4) i
    (fun j => by idx_vars j; exact ⟨_, logit_at m c A B hA hB _ _ _ _ _⟩)
  unfold outB
  rw [outQ_at, hb, hb, es, ev, e1, Full_flat (fun k => ((dotp A B h i k * κ : ℝ) : EReal)) (fun k => m ((c : Thread nD τ).loc main_arg2) (ix4 (0 : Fin 1) k g (⟨y.val % 128, by omega⟩ : Fin 128))),
    Full_flat (fun k => ((dotp A B h i k * κ : ℝ) : EReal)) (fun _ => 1),
    softmax_eq _ (fun k => dotp A B h i k * κ) (fun k => dotp A B h i k * (1 / Real.sqrt 128)) (fun k => ?_) b M, ref_at]
  · refine Finset.sum_congr rfl fun k _ => ?_
    have el : (⟨(512 * (t.val / 32) + y.val) / 512, by omega⟩ : Fin 4) = g := Fin.ext (by simp only [hg, Fin.val_mk]; omega)
    have eg : (⟨(512 * (t.val / 32) + y.val) / 128 % 4, by omega⟩ : Fin 4) = ⟨y.val / 128, by omega⟩ := Fin.ext (by simp only [Fin.val_mk]; omega)
    have er : (⟨(512 * (t.val / 32) + y.val) % 128, by omega⟩ : Fin 128) = ⟨y.val % 128, by omega⟩ := Fin.ext (by simp only [Fin.val_mk]; omega)
    rw [show (⟨(⟨512 * (t.val / 32) + y.val, by omega⟩ : Fin 2048).val / 512, by omega⟩ : Fin 4) = g from el,
      show (⟨(⟨512 * (t.val / 32) + y.val, by omega⟩ : Fin 2048).val / 128 % 4, by omega⟩ : Fin 4) = ⟨y.val / 128, by omega⟩ from eg,
      show (⟨(⟨512 * (t.val / 32) + y.val, by omega⟩ : Fin 2048).val % 128, by omega⟩ : Fin 128) = ⟨y.val % 128, by omega⟩ from er, ref_weight]
    simp only [ref_exp, hM, logit_at m c A B hA hB]
    rfl
  · have h2 : Real.log 2 ≠ 0 := by positivity
    simp only [κ]
    field_simp
end

set_option maxHeartbeats 1600000 in
/-- The kernel's result is the reference's. -/
theorem final (A : S1x16384x16x128.Idx → ℝ) (B : S1x16384x4x128.Idx → ℝ) (hA : ∀ i, m ((c : Thread nD τ).loc main_arg0) i = (A i : EReal))
    (hB : ∀ i, m ((c : Thread nD τ).loc main_arg1) i = (B i : EReal)) : (dats m 0 c).arrAt 3 (cfgs 0).N
    = Cert.ReferenceIdeal.Read.val_main_v20 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have e : ∀ r y : Fin 512, ((win0_3.blk t).view.emb (ix2 r y)) = ix2 (⟨512 * (t.val % 32) + r.val, by omega⟩ : Fin 16384) (⟨512 * (t.val / 32) + y.val, by have := t_lt t; omega⟩ : Fin 2048) := by
    intro r y
    blk_ext [idx t]
  idx_vars y
  refine (point m c A B hA hB t _ _).trans ?_
  rw [e]

/-- What the precondition says of the arrays. -/
theorem pre_real (a0 : FVec Ideal S1x16384x16x128 .f32) (a1 a2 : FVec Ideal S1x16384x4x128 .f32)
    (h : @Cert.Pre_finite_qk.fn Cert.Pre_finite_qk.Gen.facts Ideal _ a0 a1 a2 = fun _ => 1#1) : (∀ i, IsR (a0 i)) ∧ ∀ i, IsR (a1 i) := by
  have h0 := congrFun h ix0
  have hz : ∀ x y : BitVec 1, x &&& y = 1#1 → x = 1#1 ∧ y = 1#1 := by decide
  have h1 := hz _ _ h0
  haveI : Subsingleton Cert.Pre_finite_qk.S_.Idx := ⟨fun a b => funext fun k => k.elim0⟩
  exact ⟨fun i => real_of_small _ (Host.reduce_andi_all _ _ _ _ _ h1.1 i), fun i => real_of_small _ (Host.reduce_andi_all _ _ _ _ _ h1.2 i)⟩

end Cert.KernelIdeal.Attn
end
-- ==== Proof.Down.lean ====
/- The down projection of a feed-forward part with its residual and gate: what the blocked kernel leaves is
   `x + 0.5 gate (u w)` of whole arrays. -/
module

public import proofs.«01_k».proof.Proof.Gen.KernelDownIdeal.Value
public import proofs.«01_k».proof.Proof.Gen.ReferenceDownIdeal.Read
public import proofs.«01_k».proof.Proof.Gen.ReferenceDownIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelDownIdeal.CallValue

open Cert.KernelDownIdeal Cert.KernelDownIdeal.Gen

variable (m : (ℓ : Loc nD τ sig) → Buf (Elt Ideal) ℓ)

/-- The reference's result from the arrays the program starts with. -/
abbrev REF (c : Dev nD) :=
  Cert.ReferenceDownIdeal.Read.val_main_v18 (F := Ideal) (m ((c : Thread nD τ).loc main_arg0)) (m ((c : Thread nD τ).loc main_arg1)) (m ((c : Thread nD τ).loc main_arg2)) (m ((c : Thread nD τ).loc main_arg3))

theorem idx : ∀ t : Fin cfg0.N, win0_0.index t = ![t.val / 8, 0] ∧ win0_1.index t = ![0, 0, t.val % 8]
    ∧ win0_2.index t = ![t.val / 8, t.val % 8]
    ∧ win0_3.index t = ![if t.val / 8 < 32 then 0 else if t.val / 8 < 40 then 1 else 2, 0, 64 + t.val % 8]
    ∧ win0_4.index t = ![t.val / 8, t.val % 8] :=
  (by decide +kernel : ∀ t : Fin grid0.N, _)

set_option maxHeartbeats 1600000 in
theorem point (c : Dev nD) (t : Fin cfg0.N) (y) : k0_pay1 (iblk m c 0 t) (iblk m c 1 t) (iblk m c 2 t) (iblk m c 3 t) y
    = REF m c (((cfg0.win 4).blk t).view.emb y) := by
  pointwise [k0_pay1, REF, Cert.ReferenceDownIdeal.Read.val_main_v18, Cert.ReferenceDownIdeal.Read.val_main_v17, Cert.ReferenceDownIdeal.Read.val_main_v16, Cert.ReferenceDownIdeal.Read.val_main_v15, Cert.ReferenceDownIdeal.Read.val_main_v14, Cert.ReferenceDownIdeal.Read.val_main_v13, Cert.ReferenceDownIdeal.Read.val_main_v12, Cert.ReferenceDownIdeal.Read.val_main_v11, Cert.ReferenceDownIdeal.Read.val_main_v10, Cert.ReferenceDownIdeal.Read.val_main_v9, Cert.ReferenceDownIdeal.Read.val_main_v8, Cert.ReferenceDownIdeal.Read.val_main_v7, Cert.ReferenceDownIdeal.Read.val_main_v6, Cert.ReferenceDownIdeal.Read.val_main_v5, Cert.ReferenceDownIdeal.Read.val_main_v4, Cert.ReferenceDownIdeal.Read.val_main_v3, Cert.ReferenceDownIdeal.Read.val_main_v2, Cert.ReferenceDownIdeal.Read.val_main_v1, Cert.ReferenceDownIdeal.Read.val_main_v0, Cert.ReferenceDownIdeal.Read.val_main_cst]
  blk_point [iblk, V, idx t]
  all_goals
    have he : ((((View.whole main_v0).slice ((win0 4).rect t)).emb y) 0 : ℕ) = 512 * (t.val / 8) + (y 0 : ℕ) := by
      blk_simp [idx t]
      omega
    split_ifs <;> first | rfl | omega

set_option maxHeartbeats 1600000 in
theorem final (c : Dev nD) : (dats m 0 c).arrAt 4 (cfgs 0).N = REF m c := by
  refine (dats m 0 c).arrAt_eq_of_covers 4 _ (by decide +kernel) fun t _ y => ?_
  blk_simp; rw [after0_4]; unfold out0_4; frame_out
  exact point m c t y

end Cert.KernelDownIdeal.CallValue

end
-- ==== Proof.In.lean ====
/- The input projection, stored by heads: what the blocked kernel leaves in its result is the product of whole
   matrices cut by heads from the second row block on, and the array it is given in the first. -/
module

public import proofs.«01_k».proof.Proof.Gen.KernelInIdeal.Value
public import proofs.«01_k».proof.Proof.Gen.ReferenceInIdeal.Read
public import proofs.«01_k».proof.Proof.Gen.ReferenceInIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelInIdeal.CallValue

open Cert.KernelInIdeal Cert.KernelInIdeal.Gen

variable (m : (ℓ : Loc nD τ sig) → Buf (Elt Ideal) ℓ)

/-- The reference's result from the arrays the program starts with. -/
abbrev REF (c : Dev nD) :=
  Cert.ReferenceInIdeal.Read.val_main_v7 (F := Ideal) (m ((c : Thread nD τ).loc main_arg0)) (m ((c : Thread nD τ).loc main_arg1)) (m ((c : Thread nD τ).loc main_arg2))

/-- The product cut by heads, before the first row block is put back. -/
abbrev HEADS (c : Dev nD) :=
  Cert.ReferenceInIdeal.Read.val_main_v3 (F := Ideal) (m ((c : Thread nD τ).loc main_arg0)) (m ((c : Thread nD τ).loc main_arg1))

theorem idx : ∀ t : Fin cfg0.N, win0_0.index t = ![t.val / 11 + 1, 0] ∧ win0_1.index t = ![0, t.val % 11]
    ∧ win0_2.index t = ![t.val % 11, t.val / 11 + 1, 0] :=
  (by decide +kernel : ∀ t : Fin grid0.N, _)

set_option maxHeartbeats 1600000 in
theorem final (c : Dev nD) : (dats m 0 c).arrAt 2 (cfgs 0).N
    = fun i : S88x24576x128.Idx => if 1 ≤ (i 1 : ℕ) / 1024 then HEADS m c i else V m c main_v0 i := by
  refine (dats m 0 c).arrAt_eq_of_coversWhere 2 _ (fun β => 1 ≤ β (1 : Fin _)) (by decide +kernel)
    (fun t hf y => ?_) (fun j => ?_)
  · blk_simp; rw [after0_2]; unfold outsAt0; frame_out
    canon_tiles x h
    all_goals open_payloads
    all_goals pointwise [HEADS, Cert.ReferenceInIdeal.Read.val_main_v3, Cert.ReferenceInIdeal.Read.val_main_v2,
      Cert.ReferenceInIdeal.Read.val_main_v1, Cert.ReferenceInIdeal.Read.val_main_v0]
    all_goals blk_point [iblk, V, idx t]
  · blk_simp [Pipeline.Window.cell_apply]

theorem final_ref (c : Dev nD) : (dats m 0 c).arrAt 2 (cfgs 0).N = REF m c := by
  rw [final]
  funext i
  pointwise [REF, Cert.ReferenceInIdeal.Read.val_main_v7, Cert.ReferenceInIdeal.Read.val_main_v6, Cert.ReferenceInIdeal.Read.val_main_v5, Cert.ReferenceInIdeal.Read.val_main_v4, Cert.ReferenceInIdeal.Read.val_main_c]
  have hi : (i 1 : ℕ) < 24576 := (i 1).isLt
  rw [show (1024#32 : BitVec 32) = BitVec.ofNat 32 1024 from rfl, Idealize.ShloMosaic.WordCmp.cmpi_slt_ofNat (by omega) (by omega)]
  by_cases h : (i 1 : ℕ) < 1024
  · rw [if_neg (by omega)]
    simp only [Scalar.select, h, decide_true]
    entry_read
    rfl
  · rw [if_pos (by omega)]
    simp only [Scalar.select, h, decide_false]
    rfl

end Cert.KernelInIdeal.CallValue

end
-- ==== Proof.Out.lean ====
/- The output projection of the two kinds of heads with its residual and gate: what the blocked kernel leaves is
   `x + gate ([attention, retention] w)` of whole arrays. -/
module

public import proofs.«01_k».proof.Proof.Gen.KernelOutIdeal.Value
public import proofs.«01_k».proof.Proof.Gen.ReferenceOutIdeal.Read
public import proofs.«01_k».proof.Proof.Gen.ReferenceOutIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelOutIdeal.CallValue

open Cert.KernelOutIdeal Cert.KernelOutIdeal.Gen

variable (m : (ℓ : Loc nD τ sig) → Buf (Elt Ideal) ℓ)

/-- The reference's result from the arrays the program starts with. -/
abbrev REF (c : Dev nD) :=
  Cert.ReferenceOutIdeal.Read.val_main_v17 (F := Ideal) (m ((c : Thread nD τ).loc main_arg0)) (m ((c : Thread nD τ).loc main_arg1)) (m ((c : Thread nD τ).loc main_arg2)) (m ((c : Thread nD τ).loc main_arg3)) (m ((c : Thread nD τ).loc main_arg4))

theorem idx : ∀ t : Fin cfg0.N, win0_0.index t = ![t.val / 8, 0] ∧ win0_1.index t = ![t.val / 8, 0]
    ∧ win0_2.index t = ![0, 0, t.val % 8] ∧ win0_3.index t = ![0, 1, t.val % 8]
    ∧ win0_4.index t = ![t.val / 8, t.val % 8]
    ∧ win0_5.index t = ![if t.val / 8 < 16 then 0 else if t.val / 8 < 20 then 1 else 2, 0, 40 + t.val % 8]
    ∧ win0_6.index t = ![t.val / 8, t.val % 8] :=
  (by decide +kernel : ∀ t : Fin grid0.N, _)

set_option maxHeartbeats 1600000 in
theorem point (c : Dev nD) (t : Fin cfg0.N) (y) : k0_pay1 (iblk m c 0 t) (iblk m c 2 t) (iblk m c 1 t) (iblk m c 3 t) (iblk m c 4 t) (iblk m c 5 t) y
    = REF m c (((cfg0.win 6).blk t).view.emb y) := by
  pointwise [k0_pay1, REF, Cert.ReferenceOutIdeal.Read.val_main_v17, Cert.ReferenceOutIdeal.Read.val_main_v16, Cert.ReferenceOutIdeal.Read.val_main_v15, Cert.ReferenceOutIdeal.Read.val_main_v14, Cert.ReferenceOutIdeal.Read.val_main_v13, Cert.ReferenceOutIdeal.Read.val_main_v12, Cert.ReferenceOutIdeal.Read.val_main_v11, Cert.ReferenceOutIdeal.Read.val_main_v10, Cert.ReferenceOutIdeal.Read.val_main_v9, Cert.ReferenceOutIdeal.Read.val_main_v8, Cert.ReferenceOutIdeal.Read.val_main_v7, Cert.ReferenceOutIdeal.Read.val_main_v6, Cert.ReferenceOutIdeal.Read.val_main_v5, Cert.ReferenceOutIdeal.Read.val_main_v4, Cert.ReferenceOutIdeal.Read.val_main_v3, Cert.ReferenceOutIdeal.Read.val_main_v2, Cert.ReferenceOutIdeal.Read.val_main_v1, Cert.ReferenceOutIdeal.Read.val_main_v0]
  blk_point [iblk, V, idx t]
  all_goals
    have he : ((((View.whole main_v0).slice ((win0 6).rect t)).emb y) 0 : ℕ) = 1024 * (t.val / 8) + (y 0 : ℕ) := by
      blk_simp [idx t]
      omega
    split_ifs <;> first | rfl | omega

set_option maxHeartbeats 1600000 in
theorem final (c : Dev nD) : (dats m 0 c).arrAt 6 (cfgs 0).N = REF m c := by
  refine (dats m 0 c).arrAt_eq_of_covers 6 _ (by decide +kernel) fun t _ y => ?_
  blk_simp; rw [after0_6]; unfold out0_6; frame_out
  exact point m c t y

end Cert.KernelOutIdeal.CallValue

end
-- ==== Proof.Post.lean ====
/- The last norm over the first 16384 tokens: what the blocked kernel leaves is the root mean square norm of those rows. -/
module

public import proofs.«01_k».proof.Proof.Gen.KernelPostIdeal.Value
public import proofs.«01_k».proof.Proof.Gen.ReferencePostIdeal.Read
public import proofs.«01_k».proof.Proof.Gen.ReferencePostIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelPostIdeal.CallValue

open Cert.KernelPostIdeal Cert.KernelPostIdeal.Gen

variable (m : (ℓ : Loc nD τ sig) → Buf (Elt Ideal) ℓ)

/-- The reference's result from the arrays the program starts with. -/
abbrev REF (c : Dev nD) :=
  Cert.ReferencePostIdeal.Read.val_main_v13 (F := Ideal) (m ((c : Thread nD τ).loc main_arg0)) (m ((c : Thread nD τ).loc main_arg1))

theorem idx : ∀ t : Fin cfg0.N, win0_0.index t = ![0 + t.val, 0] ∧ win0_1.index t = ![0, 0]
    ∧ win0_2.index t = ![t.val, 0] :=
  (by decide +kernel : ∀ t : Fin grid0.N, _)

set_option maxHeartbeats 1600000 in
theorem point (c : Dev nD) (t : Fin cfg0.N) (y) : k0_pay1 (iblk m c 0 t) (iblk m c 1 t) y
    = REF m c (((cfg0.win 2).blk t).view.emb y) := by
  pointwise [k0_pay1, REF, Cert.ReferencePostIdeal.Read.val_main_v13, Cert.ReferencePostIdeal.Read.val_main_v12, Cert.ReferencePostIdeal.Read.val_main_v11, Cert.ReferencePostIdeal.Read.val_main_v10, Cert.ReferencePostIdeal.Read.val_main_v9, Cert.ReferencePostIdeal.Read.val_main_v8, Cert.ReferencePostIdeal.Read.val_main_v7, Cert.ReferencePostIdeal.Read.val_main_v6, Cert.ReferencePostIdeal.Read.val_main_v5, Cert.ReferencePostIdeal.Read.val_main_v4, Cert.ReferencePostIdeal.Read.val_main_v3, Cert.ReferencePostIdeal.Read.val_main_v2, Cert.ReferencePostIdeal.Read.val_main_v1, Cert.ReferencePostIdeal.Read.val_main_v0, Cert.ReferencePostIdeal.Read.val_main_cst, Cert.ReferencePostIdeal.Read.val_main_cst_0, Cert.ReferencePostIdeal.Read.val_main_cst_1]
  blk_point [iblk, V, idx t]

set_option maxHeartbeats 1600000 in
theorem final (c : Dev nD) : (dats m 0 c).arrAt 2 (cfgs 0).N = REF m c := by
  refine (dats m 0 c).arrAt_eq_of_covers 2 _ (by decide +kernel) fun t _ y => ?_
  blk_simp; rw [after0_2]; unfold out0_2; frame_out
  exact point m c t y

end Cert.KernelPostIdeal.CallValue

end
-- ==== Proof.Prompt.lean ====
/- The last norm over the last 8192 tokens: what the blocked kernel leaves is the root mean square norm of those rows. -/
module

public import proofs.«01_k».proof.Proof.Gen.KernelPromptIdeal.Value
public import proofs.«01_k».proof.Proof.Gen.ReferencePromptIdeal.Read
public import proofs.«01_k».proof.Proof.Gen.ReferencePromptIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelPromptIdeal.CallValue

open Cert.KernelPromptIdeal Cert.KernelPromptIdeal.Gen

variable (m : (ℓ : Loc nD τ sig) → Buf (Elt Ideal) ℓ)

/-- The reference's result from the arrays the program starts with. -/
abbrev REF (c : Dev nD) :=
  Cert.ReferencePromptIdeal.Read.val_main_v13 (F := Ideal) (m ((c : Thread nD τ).loc main_arg0)) (m ((c : Thread nD τ).loc main_arg1))

theorem idx : ∀ t : Fin cfg0.N, win0_0.index t = ![32 + t.val, 0] ∧ win0_1.index t = ![0, 0]
    ∧ win0_2.index t = ![t.val, 0] :=
  (by decide +kernel : ∀ t : Fin grid0.N, _)

set_option maxHeartbeats 1600000 in
theorem point (c : Dev nD) (t : Fin cfg0.N) (y) : k0_pay1 (iblk m c 0 t) (iblk m c 1 t) y
    = REF m c (((cfg0.win 2).blk t).view.emb y) := by
  pointwise [k0_pay1, REF, Cert.ReferencePromptIdeal.Read.val_main_v13, Cert.ReferencePromptIdeal.Read.val_main_v12, Cert.ReferencePromptIdeal.Read.val_main_v11, Cert.ReferencePromptIdeal.Read.val_main_v10, Cert.ReferencePromptIdeal.Read.val_main_v9, Cert.ReferencePromptIdeal.Read.val_main_v8, Cert.ReferencePromptIdeal.Read.val_main_v7, Cert.ReferencePromptIdeal.Read.val_main_v6, Cert.ReferencePromptIdeal.Read.val_main_v5, Cert.ReferencePromptIdeal.Read.val_main_v4, Cert.ReferencePromptIdeal.Read.val_main_v3, Cert.ReferencePromptIdeal.Read.val_main_v2, Cert.ReferencePromptIdeal.Read.val_main_v1, Cert.ReferencePromptIdeal.Read.val_main_v0, Cert.ReferencePromptIdeal.Read.val_main_cst, Cert.ReferencePromptIdeal.Read.val_main_cst_0, Cert.ReferencePromptIdeal.Read.val_main_cst_1]
  blk_point [iblk, V, idx t]

set_option maxHeartbeats 1600000 in
theorem final (c : Dev nD) : (dats m 0 c).arrAt 2 (cfgs 0).N = REF m c := by
  refine (dats m 0 c).arrAt_eq_of_covers 2 _ (by decide +kernel) fun t _ y => ?_
  blk_simp; rw [after0_2]; unfold out0_2; frame_out
  exact point m c t y

end Cert.KernelPromptIdeal.CallValue

end
-- ==== Proof.UpFirst.lean ====
/- The first block of rows of the gated product, where the weights are also rounded: what the kernel leaves are the
   two rounded matrices and, in its first 1024 rows, the gated product of those rows. -/
module

public import proofs.«01_k».proof.Proof.Gen.KernelUpFirstIdeal.Frame
public import proofs.«01_k».proof.Proof.Gen.ReferenceUpFirstIdeal.Read
public import proofs.«01_k».proof.Proof.Gen.ReferenceUpFirstIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelUpFirstIdeal.CallValue

open Cert.KernelUpFirstIdeal Cert.KernelUpFirstIdeal.Gen

variable (m : (ℓ : Loc nD τ sig) → Buf (Elt Ideal) ℓ)

/-- The gated product of the first rows, -/
abbrev REF (c : Dev nD) :=
  Cert.ReferenceUpFirstIdeal.Read.val_main_v11 (F := Ideal) (m ((c : Thread nD τ).loc main_arg0)) (m ((c : Thread nD τ).loc main_arg1)) (m ((c : Thread nD τ).loc main_arg2))

theorem idx : ∀ t : Fin cfg0.N, win0_0.index t = ![0, 0] ∧ win0_1.index t = ![0, 0, t.val] ∧ win0_2.index t = ![0, 0, t.val]
    ∧ win0_3.index t = ![0, t.val] ∧ win0_4.index t = ![0, t.val] ∧ win0_5.index t = ![0, t.val] :=
  (by decide +kernel : ∀ t : Fin grid0.N, _)

/-- read at a row of the whole array. -/
abbrev ROWS (c : Dev nD) (i : S24576x11008.Idx) :=
  REF m c (ix2 ⟨(i 0 : ℕ) % 1024, Nat.mod_lt _ (by norm_num)⟩ (i 1))

/-- The rounded matrices. -/
abbrev W1 (c : Dev nD) := Cert.ReferenceUpFirstIdeal.Read.val_main_v2 (F := Ideal) (m ((c : Thread nD τ).loc main_arg1))
abbrev W3 (c : Dev nD) := Cert.ReferenceUpFirstIdeal.Read.val_main_v5 (F := Ideal) (m ((c : Thread nD τ).loc main_arg2))

set_option maxHeartbeats 1600000 in
theorem point (c : Dev nD) (t : Fin cfg0.N) (y) : k0_pay3 (iblk m c 1 t) (iblk m c 2 t) (iblk m c 0 t) y
    = ROWS m c (((cfg0.win 3).blk t).view.emb y) := by
  pointwise [k0_pay3, k0_pay1, k0_pay2, ROWS, REF, Cert.ReferenceUpFirstIdeal.Read.val_main_v11, Cert.ReferenceUpFirstIdeal.Read.val_main_v10, Cert.ReferenceUpFirstIdeal.Read.val_main_v9, Cert.ReferenceUpFirstIdeal.Read.val_main_v8, Cert.ReferenceUpFirstIdeal.Read.val_main_v7, Cert.ReferenceUpFirstIdeal.Read.val_main_v6, Cert.ReferenceUpFirstIdeal.Read.val_main_v5, Cert.ReferenceUpFirstIdeal.Read.val_main_v4, Cert.ReferenceUpFirstIdeal.Read.val_main_v3, Cert.ReferenceUpFirstIdeal.Read.val_main_v2, Cert.ReferenceUpFirstIdeal.Read.val_main_v1, Cert.ReferenceUpFirstIdeal.Read.val_main_v0, Cert.ReferenceUpFirstIdeal.Read.val_main_call0_v5, Cert.ReferenceUpFirstIdeal.Read.val_main_call0_v4, Cert.ReferenceUpFirstIdeal.Read.val_main_call0_v3, Cert.ReferenceUpFirstIdeal.Read.val_main_call0_v2, Cert.ReferenceUpFirstIdeal.Read.val_main_call0_v1, Cert.ReferenceUpFirstIdeal.Read.val_main_call0_v0, Cert.ReferenceUpFirstIdeal.Read.val_main_call0_cst, Cert.ReferenceUpFirstIdeal.Read.val_main_call0_cst_0]
  simp only [← Ideal.logistic.eq_1]
  blk_point [iblk, V, idx t]

set_option maxHeartbeats 1600000 in
theorem point1 (c : Dev nD) (t : Fin cfg0.N) (y) : k0_pay1 (iblk m c 1 t) y
    = W1 m c (((cfg0.win 4).blk t).view.emb y) := by
  pointwise [k0_pay1, W1, Cert.ReferenceUpFirstIdeal.Read.val_main_v11, Cert.ReferenceUpFirstIdeal.Read.val_main_v10, Cert.ReferenceUpFirstIdeal.Read.val_main_v9, Cert.ReferenceUpFirstIdeal.Read.val_main_v8, Cert.ReferenceUpFirstIdeal.Read.val_main_v7, Cert.ReferenceUpFirstIdeal.Read.val_main_v6, Cert.ReferenceUpFirstIdeal.Read.val_main_v5, Cert.ReferenceUpFirstIdeal.Read.val_main_v4, Cert.ReferenceUpFirstIdeal.Read.val_main_v3, Cert.ReferenceUpFirstIdeal.Read.val_main_v2, Cert.ReferenceUpFirstIdeal.Read.val_main_v1, Cert.ReferenceUpFirstIdeal.Read.val_main_v0]
  blk_point [iblk, V, idx t]

set_option maxHeartbeats 1600000 in
theorem point3 (c : Dev nD) (t : Fin cfg0.N) (y) : k0_pay2 (iblk m c 2 t) y
    = W3 m c (((cfg0.win 5).blk t).view.emb y) := by
  pointwise [k0_pay2, W3, Cert.ReferenceUpFirstIdeal.Read.val_main_v11, Cert.ReferenceUpFirstIdeal.Read.val_main_v10, Cert.ReferenceUpFirstIdeal.Read.val_main_v9, Cert.ReferenceUpFirstIdeal.Read.val_main_v8, Cert.ReferenceUpFirstIdeal.Read.val_main_v7, Cert.ReferenceUpFirstIdeal.Read.val_main_v6, Cert.ReferenceUpFirstIdeal.Read.val_main_v5, Cert.ReferenceUpFirstIdeal.Read.val_main_v4, Cert.ReferenceUpFirstIdeal.Read.val_main_v3, Cert.ReferenceUpFirstIdeal.Read.val_main_v2, Cert.ReferenceUpFirstIdeal.Read.val_main_v1, Cert.ReferenceUpFirstIdeal.Read.val_main_v0]
  blk_point [iblk, V, idx t]

set_option maxHeartbeats 1600000 in
theorem final1 (c : Dev nD) : (dats m 0 c).arrAt 4 (cfgs 0).N = W1 m c := by
  refine (dats m 0 c).arrAt_eq_of_covers 4 _ (by decide +kernel) fun t _ y => ?_
  blk_simp; rw [after0_4]; unfold out0_4; frame_out
  exact point1 m c t y

set_option maxHeartbeats 1600000 in
theorem final3 (c : Dev nD) : (dats m 0 c).arrAt 5 (cfgs 0).N = W3 m c := by
  refine (dats m 0 c).arrAt_eq_of_covers 5 _ (by decide +kernel) fun t _ y => ?_
  blk_simp; rw [after0_5]; unfold out0_5; frame_out
  exact point3 m c t y

set_option maxHeartbeats 1600000 in
theorem final (c : Dev nD) : (dats m 0 c).arrAt 3 (cfgs 0).N
    = fun i : S24576x11008.Idx => if (i 0 : ℕ) / 1024 < 1 then ROWS m c i else V m c main_v0_0 i := by
  refine (dats m 0 c).arrAt_eq_of_coversWhere 3 _ (fun β => β (0 : Fin _) < 1) (by decide +kernel)
    (fun t hf y => ?_) (fun j => ?_)
  · blk_simp; rw [after0_3]; unfold out0_3; frame_out
    exact point m c t y
  · blk_simp [Pipeline.Window.cell_apply]

/-- The first rows of an array. -/
theorem rows_apply (x : FVec Ideal S24576x11008 .bf16) (i : S1024x11008.Idx) :
    extractStridedSlice S1024x11008 ![0, 0] x slices_S24576x11008_S1024x11008_0_0 i
      = x (ix2 ⟨(i 0 : ℕ), lt_of_lt_of_le (i 0).isLt (by decide)⟩ (i 1)) := by
  pointwise []

theorem final_rows (c : Dev nD) :
    extractStridedSlice S1024x11008 ![0, 0] ((dats m 0 c).arrAt 3 (cfgs 0).N) slices_S24576x11008_S1024x11008_0_0 = REF m c := by
  funext i
  have hi : (i 0 : ℕ) < 1024 := (i 0).isLt
  refine (rows_apply _ i).trans ((congrFun (final m c) _).trans ((if_pos (Nat.div_lt_of_lt_mul (by simpa using hi))).trans ?_))
  refine congrArg (REF m c) (funext fun a => ?_)
  fin_cases a
  · exact Fin.ext (Nat.mod_eq_of_lt hi)
  · rfl

/-- What the host's last line leaves: the first rows of the kernel's result. -/
theorem tail (c : Dev nD) : Pipeline.afterTail₀ cfgs (dats m) 0 (V0 m) [hostOps1] c main_v1 = REF m c := by
  rw [← final_rows m c]
  rw [← Pipeline.withArrays_arr (cfgs 0).spec (by decide +kernel) c (V0 m c) (fun w => (dats m 0 c).arrAt w (cfgs 0).N) 3]
  unfold Pipeline.afterTail₀
  generalize Pipeline.withArrays (cfgs 0).spec c (V0 m c) (fun w => (dats m 0 c).arrAt w (cfgs 0).N) = X
  show StableHlo.after hostOps1 X _ = _
  unfold hostOps1
  after_results

end Cert.KernelUpFirstIdeal.CallValue

end
-- ==== Proof.InFirst.lean ====
/- The first block of rows of the input projection, where the weights are also rounded: what the kernel leaves are
   the rounded matrix and, in the first 1024 rows of every head, the product of those rows. -/
module

public import proofs.«01_k».proof.Proof.Gen.KernelInFirstIdeal.Frame
public import proofs.«01_k».proof.Proof.Gen.ReferenceInFirstIdeal.Read
public import proofs.«01_k».proof.Proof.Gen.ReferenceInFirstIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelInFirstIdeal.CallValue

open Cert.KernelInFirstIdeal Cert.KernelInFirstIdeal.Gen

variable (m : (ℓ : Loc nD τ sig) → Buf (Elt Ideal) ℓ)

/-- The product of the first rows cut by heads, -/
abbrev REF (c : Dev nD) :=
  Cert.ReferenceInFirstIdeal.Read.val_main_v7 (F := Ideal) (m ((c : Thread nD τ).loc main_arg0)) (m ((c : Thread nD τ).loc main_arg1))

theorem idx : ∀ t : Fin cfg0.N, win0_0.index t = ![0, 0] ∧ win0_1.index t = ![0, 0, t.val]
    ∧ win0_2.index t = ![t.val, 0, 0] ∧ win0_3.index t = ![0, t.val] :=
  (by decide +kernel : ∀ t : Fin grid0.N, _)

/-- read at a row of the whole array. -/
abbrev ROWS (c : Dev nD) (i : S88x24576x128.Idx) :=
  REF m c (ix3 (i 0) ⟨(i 1 : ℕ) % 1024, Nat.mod_lt _ (by norm_num)⟩ (i 2))

/-- The rounded matrix. -/
abbrev W (c : Dev nD) := Cert.ReferenceInFirstIdeal.Read.val_main_v2 (F := Ideal) (m ((c : Thread nD τ).loc main_arg1))

set_option maxHeartbeats 1600000 in
theorem pointW (c : Dev nD) (t : Fin cfg0.N) (y) : k0_pay1 (iblk m c 1 t) y
    = W m c (((cfg0.win 3).blk t).view.emb y) := by
  pointwise [k0_pay1, W, Cert.ReferenceInFirstIdeal.Read.val_main_v7, Cert.ReferenceInFirstIdeal.Read.val_main_v6, Cert.ReferenceInFirstIdeal.Read.val_main_v5, Cert.ReferenceInFirstIdeal.Read.val_main_v4, Cert.ReferenceInFirstIdeal.Read.val_main_v3, Cert.ReferenceInFirstIdeal.Read.val_main_v2, Cert.ReferenceInFirstIdeal.Read.val_main_v1, Cert.ReferenceInFirstIdeal.Read.val_main_v0]
  blk_point [iblk, V, idx t]

set_option maxHeartbeats 1600000 in
theorem finalW (c : Dev nD) : (dats m 0 c).arrAt 3 (cfgs 0).N = W m c := by
  refine (dats m 0 c).arrAt_eq_of_covers 3 _ (by decide +kernel) fun t _ y => ?_
  blk_simp; rw [after0_3]; unfold out0_3; frame_out
  exact pointW m c t y

set_option maxHeartbeats 1600000 in
theorem final (c : Dev nD) : (dats m 0 c).arrAt 2 (cfgs 0).N
    = fun i : S88x24576x128.Idx => if (i 1 : ℕ) / 1024 < 1 then ROWS m c i else V m c main_v0_0 i := by
  refine (dats m 0 c).arrAt_eq_of_coversWhere 2 _ (fun β => β (1 : Fin _) < 1) (by decide +kernel)
    (fun t hf y => ?_) (fun j => ?_)
  · blk_simp; rw [after0_2]; unfold out0_2; frame_out
    canon_tiles x h
    all_goals open_payloads
    all_goals pointwise [ROWS, REF, Cert.ReferenceInFirstIdeal.Read.val_main_v7, Cert.ReferenceInFirstIdeal.Read.val_main_v6, Cert.ReferenceInFirstIdeal.Read.val_main_v5, Cert.ReferenceInFirstIdeal.Read.val_main_v4, Cert.ReferenceInFirstIdeal.Read.val_main_v3, Cert.ReferenceInFirstIdeal.Read.val_main_v2, Cert.ReferenceInFirstIdeal.Read.val_main_v1, Cert.ReferenceInFirstIdeal.Read.val_main_v0]
    all_goals blk_point [iblk, V, idx t]
  · blk_simp [Pipeline.Window.cell_apply]

/-- The first rows of every head of an array. -/
theorem rows_apply (x : FVec Ideal S88x24576x128 .bf16) (i : S88x1024x128.Idx) :
    extractStridedSlice S88x1024x128 ![0, 0, 0] x slices_S88x24576x128_S88x1024x128_0_0_0 i
      = x (ix3 (i 0) ⟨(i 1 : ℕ), lt_of_lt_of_le (i 1).isLt (by decide)⟩ (i 2)) := by
  pointwise []

theorem final_rows (c : Dev nD) :
    extractStridedSlice S88x1024x128 ![0, 0, 0] ((dats m 0 c).arrAt 2 (cfgs 0).N) slices_S88x24576x128_S88x1024x128_0_0_0 = REF m c := by
  funext i
  have hi : (i 1 : ℕ) < 1024 := (i 1).isLt
  refine (rows_apply _ i).trans ((congrFun (final m c) _).trans ((if_pos (Nat.div_lt_of_lt_mul (by simpa using hi))).trans ?_))
  refine congrArg (REF m c) (funext fun a => ?_)
  fin_cases a
  · rfl
  · exact Fin.ext (Nat.mod_eq_of_lt hi)
  · rfl

/-- What the host's last line leaves: the first rows of the kernel's result. -/
theorem tail (c : Dev nD) : Pipeline.afterTail₀ cfgs (dats m) 0 (V0 m) [hostOps1] c main_v1 = REF m c := by
  rw [← final_rows m c]
  rw [← Pipeline.withArrays_arr (cfgs 0).spec (by decide +kernel) c (V0 m c) (fun w => (dats m 0 c).arrAt w (cfgs 0).N) 2]
  unfold Pipeline.afterTail₀
  generalize Pipeline.withArrays (cfgs 0).spec c (V0 m c) (fun w => (dats m 0 c).arrAt w (cfgs 0).N) = X
  show StableHlo.after hostOps1 X _ = _
  unfold hostOps1
  after_results

end Cert.KernelInFirstIdeal.CallValue

end
-- ==== Proof.Norm.lean ====
/- The norm before a part of a layer with its shift and scale: what the blocked kernel leaves is
   `norm(x) g (1 + scale) + shift`, every token with its sequence's shift and scale. -/
module

public import proofs.«01_k».proof.Proof.Gen.KernelNormIdeal.Value
public import proofs.«01_k».proof.Proof.Gen.ReferenceNormIdeal.Read
public import proofs.«01_k».proof.Proof.Gen.ReferenceNormIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelNormIdeal.CallValue

open Cert.KernelNormIdeal Cert.KernelNormIdeal.Gen

variable (m : (ℓ : Loc nD τ sig) → Buf (Elt Ideal) ℓ)

/-- The reference's result from the arrays the program starts with. -/
abbrev REF (c : Dev nD) :=
  Cert.ReferenceNormIdeal.Read.val_main_v41 (F := Ideal) (m ((c : Thread nD τ).loc main_arg0)) (m ((c : Thread nD τ).loc main_arg1)) (m ((c : Thread nD τ).loc main_arg2))

theorem idx : ∀ t : Fin cfg0.N, win0_0.index t = ![t.val, 0] ∧ win0_1.index t = ![0, 0]
    ∧ win0_2.index t = ![if t.val < 32 then 0 else if t.val < 40 then 1 else 2, 0, 4] ∧ win0_3.index t = ![if t.val < 32 then 0 else if t.val < 40 then 1 else 2, 0, 3] ∧ win0_4.index t = ![t.val, 0] :=
  (by decide +kernel : ∀ t : Fin grid0.N, _)

set_option maxHeartbeats 1600000 in
theorem point (c : Dev nD) (t : Fin cfg0.N) (y) : k0_pay1 (iblk m c 0 t) (iblk m c 1 t) (iblk m c 2 t) (iblk m c 3 t) y
    = REF m c (((cfg0.win 4).blk t).view.emb y) := by
  pointwise [k0_pay1, REF, Cert.ReferenceNormIdeal.Read.val_main_v41, Cert.ReferenceNormIdeal.Read.val_main_v40, Cert.ReferenceNormIdeal.Read.val_main_v39, Cert.ReferenceNormIdeal.Read.val_main_v38, Cert.ReferenceNormIdeal.Read.val_main_v37, Cert.ReferenceNormIdeal.Read.val_main_v36, Cert.ReferenceNormIdeal.Read.val_main_v35, Cert.ReferenceNormIdeal.Read.val_main_v34, Cert.ReferenceNormIdeal.Read.val_main_v33, Cert.ReferenceNormIdeal.Read.val_main_v32, Cert.ReferenceNormIdeal.Read.val_main_v31, Cert.ReferenceNormIdeal.Read.val_main_v30, Cert.ReferenceNormIdeal.Read.val_main_v29, Cert.ReferenceNormIdeal.Read.val_main_v28, Cert.ReferenceNormIdeal.Read.val_main_v27, Cert.ReferenceNormIdeal.Read.val_main_v26, Cert.ReferenceNormIdeal.Read.val_main_v25, Cert.ReferenceNormIdeal.Read.val_main_v24, Cert.ReferenceNormIdeal.Read.val_main_v23, Cert.ReferenceNormIdeal.Read.val_main_v22, Cert.ReferenceNormIdeal.Read.val_main_v21, Cert.ReferenceNormIdeal.Read.val_main_v20, Cert.ReferenceNormIdeal.Read.val_main_v19, Cert.ReferenceNormIdeal.Read.val_main_v18, Cert.ReferenceNormIdeal.Read.val_main_v17, Cert.ReferenceNormIdeal.Read.val_main_v16, Cert.ReferenceNormIdeal.Read.val_main_v15, Cert.ReferenceNormIdeal.Read.val_main_v14, Cert.ReferenceNormIdeal.Read.val_main_v13, Cert.ReferenceNormIdeal.Read.val_main_v12, Cert.ReferenceNormIdeal.Read.val_main_v11, Cert.ReferenceNormIdeal.Read.val_main_v10, Cert.ReferenceNormIdeal.Read.val_main_v9, Cert.ReferenceNormIdeal.Read.val_main_v8, Cert.ReferenceNormIdeal.Read.val_main_v7, Cert.ReferenceNormIdeal.Read.val_main_v6, Cert.ReferenceNormIdeal.Read.val_main_v5, Cert.ReferenceNormIdeal.Read.val_main_v4, Cert.ReferenceNormIdeal.Read.val_main_v3, Cert.ReferenceNormIdeal.Read.val_main_v2, Cert.ReferenceNormIdeal.Read.val_main_v1, Cert.ReferenceNormIdeal.Read.val_main_v0, Cert.ReferenceNormIdeal.Read.val_main_cst, Cert.ReferenceNormIdeal.Read.val_main_cst_0, Cert.ReferenceNormIdeal.Read.val_main_cst_1, Cert.ReferenceNormIdeal.Read.val_main_cst_2]
  blk_point [iblk, V, idx t]
  all_goals
    have he : ((((View.whole main_v1).slice ((win0 4).rect t)).emb y) 0 : ℕ) = 512 * t.val + (y 0 : ℕ) := by
      blk_simp [idx t]
      omega
    split_ifs <;> first | rfl | omega

set_option maxHeartbeats 1600000 in
theorem final (c : Dev nD) : (dats m 0 c).arrAt 4 (cfgs 0).N = REF m c := by
  refine (dats m 0 c).arrAt_eq_of_covers 4 _ (by decide +kernel) fun t _ y => ?_
  blk_simp; rw [after0_4]; unfold out0_4; frame_out
  exact point m c t y

end Cert.KernelNormIdeal.CallValue

end
-- ==== Proof.Next.lean ====
/- The last norm of a layer and the first modulated norm of the next one: what the blocked kernel leaves in its
   two results is the normed rows and `norm(x) g (1 + scale) + shift` of them. -/
module

public import proofs.«01_k».proof.Proof.Gen.KernelNextIdeal.Value
public import proofs.«01_k».proof.Proof.Gen.ReferenceNextIdeal.Read
public import proofs.«01_k».proof.Proof.Gen.ReferenceNextIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelNextIdeal.CallValue

open Cert.KernelNextIdeal Cert.KernelNextIdeal.Gen

variable (m : (ℓ : Loc nD τ sig) → Buf (Elt Ideal) ℓ)

/-- The reference's results from the arrays the program starts with: the normed rows, -/
abbrev REFX (c : Dev nD) :=
  Cert.ReferenceNextIdeal.Read.val_main_v12 (F := Ideal) (m ((c : Thread nD τ).loc main_arg0)) (m ((c : Thread nD τ).loc main_arg1))

/-- and what the next layer starts from. -/
abbrev REFH (c : Dev nD) :=
  Cert.ReferenceNextIdeal.Read.val_main_v54 (F := Ideal) (m ((c : Thread nD τ).loc main_arg0)) (m ((c : Thread nD τ).loc main_arg1)) (m ((c : Thread nD τ).loc main_arg2)) (m ((c : Thread nD τ).loc main_arg3))

theorem idx : ∀ t : Fin cfg0.N, win0_0.index t = ![t.val, 0] ∧ win0_1.index t = ![0, 0] ∧ win0_2.index t = ![0, 0]
    ∧ win0_3.index t = ![if t.val < 32 then 0 else if t.val < 40 then 1 else 2, 0, 1] ∧ win0_4.index t = ![if t.val < 32 then 0 else if t.val < 40 then 1 else 2, 0, 0] ∧ win0_5.index t = ![t.val, 0] ∧ win0_6.index t = ![t.val, 0] :=
  (by decide +kernel : ∀ t : Fin grid0.N, _)

set_option maxHeartbeats 1600000 in
theorem pointX (c : Dev nD) (t : Fin cfg0.N) (y) : k0_pay2 (iblk m c 0 t) (iblk m c 1 t) y
    = REFX m c (((cfg0.win 5).blk t).view.emb y) := by
  pointwise [k0_pay2, REFX, Cert.ReferenceNextIdeal.Read.val_main_v12, Cert.ReferenceNextIdeal.Read.val_main_v11, Cert.ReferenceNextIdeal.Read.val_main_v10, Cert.ReferenceNextIdeal.Read.val_main_v9, Cert.ReferenceNextIdeal.Read.val_main_v8, Cert.ReferenceNextIdeal.Read.val_main_v7, Cert.ReferenceNextIdeal.Read.val_main_v6, Cert.ReferenceNextIdeal.Read.val_main_v5, Cert.ReferenceNextIdeal.Read.val_main_v4, Cert.ReferenceNextIdeal.Read.val_main_v3, Cert.ReferenceNextIdeal.Read.val_main_v2, Cert.ReferenceNextIdeal.Read.val_main_v1, Cert.ReferenceNextIdeal.Read.val_main_v0, Cert.ReferenceNextIdeal.Read.val_main_cst, Cert.ReferenceNextIdeal.Read.val_main_cst_0, Cert.ReferenceNextIdeal.Read.val_main_cst_1]
  blk_point [iblk, V, idx t]

set_option maxHeartbeats 1600000 in
theorem pointH (c : Dev nD) (t : Fin cfg0.N) (y) : k0_pay1 (k0_pay3 (iblk m c 0 t) (iblk m c 1 t) (iblk m c 2 t) (iblk m c 3 t)) (iblk m c 4 t) y
    = REFH m c (((cfg0.win 6).blk t).view.emb y) := by
  pointwise [k0_pay1, k0_pay3, k0_pay2, REFH, Cert.ReferenceNextIdeal.Read.val_main_v54, Cert.ReferenceNextIdeal.Read.val_main_v53, Cert.ReferenceNextIdeal.Read.val_main_v52, Cert.ReferenceNextIdeal.Read.val_main_v51, Cert.ReferenceNextIdeal.Read.val_main_v50, Cert.ReferenceNextIdeal.Read.val_main_v49, Cert.ReferenceNextIdeal.Read.val_main_v48, Cert.ReferenceNextIdeal.Read.val_main_v47, Cert.ReferenceNextIdeal.Read.val_main_v46, Cert.ReferenceNextIdeal.Read.val_main_v45, Cert.ReferenceNextIdeal.Read.val_main_v44, Cert.ReferenceNextIdeal.Read.val_main_v43, Cert.ReferenceNextIdeal.Read.val_main_v42, Cert.ReferenceNextIdeal.Read.val_main_v41, Cert.ReferenceNextIdeal.Read.val_main_v40, Cert.ReferenceNextIdeal.Read.val_main_v39, Cert.ReferenceNextIdeal.Read.val_main_v38, Cert.ReferenceNextIdeal.Read.val_main_v37, Cert.ReferenceNextIdeal.Read.val_main_v36, Cert.ReferenceNextIdeal.Read.val_main_v35, Cert.ReferenceNextIdeal.Read.val_main_v34, Cert.ReferenceNextIdeal.Read.val_main_v33, Cert.ReferenceNextIdeal.Read.val_main_v32, Cert.ReferenceNextIdeal.Read.val_main_v31, Cert.ReferenceNextIdeal.Read.val_main_v30, Cert.ReferenceNextIdeal.Read.val_main_v29, Cert.ReferenceNextIdeal.Read.val_main_v28, Cert.ReferenceNextIdeal.Read.val_main_v27, Cert.ReferenceNextIdeal.Read.val_main_v26, Cert.ReferenceNextIdeal.Read.val_main_v25, Cert.ReferenceNextIdeal.Read.val_main_v24, Cert.ReferenceNextIdeal.Read.val_main_v23, Cert.ReferenceNextIdeal.Read.val_main_v22, Cert.ReferenceNextIdeal.Read.val_main_v21, Cert.ReferenceNextIdeal.Read.val_main_v20, Cert.ReferenceNextIdeal.Read.val_main_v19, Cert.ReferenceNextIdeal.Read.val_main_v18, Cert.ReferenceNextIdeal.Read.val_main_v17, Cert.ReferenceNextIdeal.Read.val_main_v16, Cert.ReferenceNextIdeal.Read.val_main_v15, Cert.ReferenceNextIdeal.Read.val_main_v14, Cert.ReferenceNextIdeal.Read.val_main_v13, Cert.ReferenceNextIdeal.Read.val_main_v12, Cert.ReferenceNextIdeal.Read.val_main_v11, Cert.ReferenceNextIdeal.Read.val_main_v10, Cert.ReferenceNextIdeal.Read.val_main_v9, Cert.ReferenceNextIdeal.Read.val_main_v8, Cert.ReferenceNextIdeal.Read.val_main_v7, Cert.ReferenceNextIdeal.Read.val_main_v6, Cert.ReferenceNextIdeal.Read.val_main_v5, Cert.ReferenceNextIdeal.Read.val_main_v4, Cert.ReferenceNextIdeal.Read.val_main_v3, Cert.ReferenceNextIdeal.Read.val_main_v2, Cert.ReferenceNextIdeal.Read.val_main_v1, Cert.ReferenceNextIdeal.Read.val_main_v0, Cert.ReferenceNextIdeal.Read.val_main_cst, Cert.ReferenceNextIdeal.Read.val_main_cst_0, Cert.ReferenceNextIdeal.Read.val_main_cst_1, Cert.ReferenceNextIdeal.Read.val_main_cst_2, Cert.ReferenceNextIdeal.Read.val_main_cst_3, Cert.ReferenceNextIdeal.Read.val_main_cst_4, Cert.ReferenceNextIdeal.Read.val_main_cst_5]
  blk_point [iblk, V, idx t]
  all_goals
    have he : ((((View.whole main_v2_1).slice ((win0 6).rect t)).emb y) 0 : ℕ) = 512 * t.val + (y 0 : ℕ) := by
      blk_simp [idx t]
      omega
    split_ifs <;> first | rfl | omega

set_option maxHeartbeats 1600000 in
theorem finalX (c : Dev nD) : (dats m 0 c).arrAt 5 (cfgs 0).N = REFX m c := by
  refine (dats m 0 c).arrAt_eq_of_covers 5 _ (by decide +kernel) fun t _ y => ?_
  blk_simp; rw [after0_5]; unfold out0_5; frame_out
  exact pointX m c t y

set_option maxHeartbeats 1600000 in
theorem finalH (c : Dev nD) : (dats m 0 c).arrAt 6 (cfgs 0).N = REFH m c := by
  refine (dats m 0 c).arrAt_eq_of_covers 6 _ (by decide +kernel) fun t _ y => ?_
  blk_simp; rw [after0_6]; unfold out0_6; frame_out
  exact pointH m c t y

end Cert.KernelNextIdeal.CallValue

end
-- ==== Proof.Mod.lean ====
/- The modulations of every layer from the conditioning vectors: what the blocked kernel leaves is
   `silu(c) w + b` of whole matrices, for the eight rows it is given. -/
module

public import proofs.«01_k».proof.Proof.Gen.KernelModIdeal.Value
public import proofs.«01_k».proof.Proof.Gen.ReferenceModIdeal.Read
public import proofs.«01_k».proof.Proof.Gen.ReferenceModIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelModIdeal.CallValue

open Cert.KernelModIdeal Cert.KernelModIdeal.Gen

variable (m : (ℓ : Loc nD τ sig) → Buf (Elt Ideal) ℓ)

/-- The reference's result from the arrays the program starts with. -/
abbrev REF (c : Dev nD) :=
  Cert.ReferenceModIdeal.Read.val_main_v7 (F := Ideal) (m ((c : Thread nD τ).loc main_arg0)) (m ((c : Thread nD τ).loc main_arg1)) (m ((c : Thread nD τ).loc main_arg2)) (m ((c : Thread nD τ).loc main_arg3))

theorem idx : ∀ t : Fin cfg0.N, win0_0.index t = ![0, 0] ∧ win0_1.index t = ![t.val / 72, 0, t.val % 72]
    ∧ win0_2.index t = ![t.val / 72, 0, t.val % 72] ∧ win0_3.index t = ![t.val / 72, 0, t.val % 72] :=
  (by decide +kernel : ∀ t : Fin grid0.N, _)

/-- The rows of the conditioning vectors, padded with zeros. -/
theorem rows (c : Dev nD) : V m c main_v1
    = Cert.ReferenceModIdeal.Read.val_main_v1 (F := Ideal) (m ((c : Thread nD τ).loc main_arg0)) (m ((c : Thread nD τ).loc main_arg1)) := by
  unfold V
  after_results
  rfl

set_option maxHeartbeats 1600000 in
theorem point (c : Dev nD) (t : Fin cfg0.N) (y) : k0_pay1 (iblk m c 0 t) (iblk m c 1 t) (iblk m c 2 t) y
    = REF m c (((cfg0.win 3).blk t).view.emb y) := by
  have hr := rows m c
  generalize hC : Cert.ReferenceModIdeal.Read.val_main_v1 (F := Ideal) (m ((c : Thread nD τ).loc main_arg0)) (m ((c : Thread nD τ).loc main_arg1)) = C at hr
  pointwise [k0_pay1, REF, Cert.ReferenceModIdeal.Read.val_main_v7, Cert.ReferenceModIdeal.Read.val_main_v6, Cert.ReferenceModIdeal.Read.val_main_v5, Cert.ReferenceModIdeal.Read.val_main_v4, Cert.ReferenceModIdeal.Read.val_main_v3, Cert.ReferenceModIdeal.Read.val_main_v2, Cert.ReferenceModIdeal.Read.val_main_call0_v5, Cert.ReferenceModIdeal.Read.val_main_call0_v4, Cert.ReferenceModIdeal.Read.val_main_call0_v3, Cert.ReferenceModIdeal.Read.val_main_call0_v2, Cert.ReferenceModIdeal.Read.val_main_call0_v1, Cert.ReferenceModIdeal.Read.val_main_call0_v0, Cert.ReferenceModIdeal.Read.val_main_call0_cst, Cert.ReferenceModIdeal.Read.val_main_call0_cst_0, hC]
  simp only [← Ideal.logistic.eq_1]
  blk_point [iblk, idx t, hr]

set_option maxHeartbeats 1600000 in
theorem final (c : Dev nD) : (dats m 0 c).arrAt 3 (cfgs 0).N = REF m c := by
  refine (dats m 0 c).arrAt_eq_of_covers 3 _ (by decide +kernel) fun t _ y => ?_
  blk_simp; rw [after0_3]; unfold out0_3; frame_out
  exact point m c t y

end Cert.KernelModIdeal.CallValue

end
-- ==== Proof.lean ====
/- The claims of this directory, put together from the runs of the programs and the values their results hold. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelUp
public import proofs.«01_k».proof.Proof.Gen.KernelUp.Skeleton
public import proofs.«01_k».proof.Proof.Gen.KernelUp.Launch
public import proofs.«01_k».proof.Proof.Gen.KernelUp.Points
public import proofs.«01_k».proof.Proof.Gen.KernelUp.Frame
public import proofs.«01_k».proof.Proof.Gen.KernelUpIdeal
public import proofs.«01_k».proof.Proof.Gen.KernelUpIdeal.Skeleton
public import proofs.«01_k».proof.Proof.Gen.KernelUpIdeal.Launch
public import proofs.«01_k».proof.Proof.Gen.KernelUpIdeal.Points
public import proofs.«01_k».proof.Proof.Gen.KernelUpIdeal.Frame
public import proofs.«01_k».proof.Proof.Gen.ReferenceUpIdeal
public import proofs.«01_k».proof.Proof.Gen.Pre_finite_qk
public import proofs.«01_k».proof.Proof.Gen.ReferenceIdeal.Run
public import proofs.«01_k».proof.Proof.Gen.ReferenceIdeal.Read
public import proofs.«01_k».proof.Proof.Gen.KernelUpIdeal.Value
public import proofs.«01_k».proof.Proof.Gen.ReferenceUpIdeal.Run
public import proofs.«01_k».proof.Proof.Gen.ReferenceUpIdeal.Read
public import proofs.«01_k».proof.Proof.Up
public import proofs.«01_k».proof.Proof.AttnRun
public import proofs.«01_k».proof.Proof.AttnValue
public import proofs.«01_k».proof.Proof.Gen.KernelDown.Frame
public import proofs.«01_k».proof.Proof.Down
public import proofs.«01_k».proof.Proof.Gen.KernelIn.Frame
public import proofs.«01_k».proof.Proof.In
public import proofs.«01_k».proof.Proof.Gen.KernelOut.Frame
public import proofs.«01_k».proof.Proof.Out
public import proofs.«01_k».proof.Proof.Gen.KernelPost.Frame
public import proofs.«01_k».proof.Proof.Post
public import proofs.«01_k».proof.Proof.Gen.KernelPrompt.Frame
public import proofs.«01_k».proof.Proof.Prompt
public import proofs.«01_k».proof.Proof.Gen.KernelUpFirst.Frame
public import proofs.«01_k».proof.Proof.UpFirst
public import proofs.«01_k».proof.Proof.Gen.KernelInFirst.Frame
public import proofs.«01_k».proof.Proof.InFirst
public import proofs.«01_k».proof.Proof.Gen.KernelNorm.Frame
public import proofs.«01_k».proof.Proof.Norm
public import proofs.«01_k».proof.Proof.Gen.KernelNext.Frame
public import proofs.«01_k».proof.Proof.Next
public import proofs.«01_k».proof.Proof.Gen.KernelMod
public import proofs.«01_k».proof.Proof.Gen.KernelModIdeal
public import proofs.«01_k».proof.Proof.Gen.KernelMod.Frame
public import proofs.«01_k».proof.Proof.Gen.KernelModIdeal.Frame
public import proofs.«01_k».proof.Proof.Gen.KernelModIdeal.Value
public import proofs.«01_k».proof.Proof.Gen.ReferenceModIdeal
public import proofs.«01_k».proof.Proof.Gen.ReferenceModIdeal.Run
public import proofs.«01_k».proof.Proof.Gen.ReferenceModIdeal.Read
public import proofs.«01_k».proof.Proof.Mod
public import Idealize.ShloMosaic.Lib.Claim
public import Idealize.ShloMosaic.Adequacy
public import Idealize.ShloMosaic.Init

@[expose] public section

noncomputable section

namespace Cert.Proof

open Idealize.ShloMosaic Idealize.SL.Sem

/-- The gated product: the blocked kernel and the product of whole matrices leave the same array. -/
theorem up_algebraic : Cert.algebraic_KernelUpIdeal_ReferenceUpIdeal (hKernelUpIdeal := Cert.KernelUpIdeal.Gen.facts)
    (hReferenceUpIdeal := Cert.ReferenceUpIdeal.Gen.facts) := by
  pair_intro
  · run_from Cert.KernelUpIdeal.Gen.run_main m g
  · run_from Cert.ReferenceUpIdeal.Value.run m' g'
    rw [Cert.ReferenceUpIdeal.Read.val_main_v14_eq]
    exact (Cert.KernelUpIdeal.UpValue.final_ref m c).symm

/-- The reference of the gated product runs and keeps its arguments. -/
theorem up_reference : Cert.quiescent_ReferenceUpIdeal (hReferenceUpIdeal := Cert.ReferenceUpIdeal.Gen.facts) := by
  intro m g _
  exact (θ_run Cert.ReferenceUpIdeal.defs _ _).mono (fun r h => ⟨fun c => (h c).2, sem_eq_zero_of_no_sems (by decide) r.2⟩)
    (Cert.ReferenceUpIdeal.Value.run (F := Ideal) m g)

/-- A named constant read on the machine is the word it was printed as. -/
@[reducible] instance namedBits : Named Bits := ⟨fun _ _ {φ} bits => Scalar.ofBits φ bits⟩

/-- The two texts of the attention call the same bodies, -/
theorem bodies_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl
  | ⟨_ + 1, h⟩, _ => exact absurd h (Nat.not_lt.2 (Nat.le_add_left _ _))

/-- in the same pipeline. -/
theorem defs_eq : Cert.Kernel.defs (F := Bits) = Cert.KernelIdeal.defs (F := Bits) := by
  unfold Cert.Kernel.defs Cert.KernelIdeal.defs
  exact congrArg (fun d => Pipeline.defs (Cert.KernelIdeal.pcfgs (F := Bits)) d) bodies_eq

/-- The attention runs on the machine, keeps its arguments and leaves every counter at zero. -/
theorem attn_kernel : Cert.quiescent_Kernel (hKernel := Cert.Kernel.Gen.facts) := fun m g _ => by
  have h := Cert.KernelIdeal.Attn.frame (F := Bits) m g
  rw [← defs_eq] at h
  exact h

/-- The reference of the attention runs and keeps its arguments. -/
theorem attn_reference : Cert.quiescent_ReferenceIdeal (hReferenceIdeal := Cert.ReferenceIdeal.Gen.facts) := by
  intro m g _
  exact (θ_run Cert.ReferenceIdeal.defs _ _).mono (fun r h => ⟨fun c => (h c).2, sem_eq_zero_of_no_sems (by decide) r.2⟩)
    (Cert.ReferenceIdeal.Value.run (F := Ideal) m g)

/-- The constant the program rounds is the one it is read as. -/
theorem attn_preserves : Cert.preserves_Kernel_KernelIdeal :=
  IdealRules.named_const.statement Cert.KernelIdeal.κ "qk_scale" .f32 0x3E0293EE#32 _ rfl

set_option maxRecDepth 16384 in
/-- The attention: chunk by chunk with a running normaliser, and as one softmax, leave the same array. -/
theorem attn_algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := by
  pair_intro
  · run_from Cert.KernelIdeal.Attn.run_main m g
  · refine (θ_run Cert.ReferenceIdeal.defs _ _).mono (fun r hr c => ?_) (Cert.ReferenceIdeal.Value.run (F := Ideal) m' g')
    obtain ⟨h0, h1, h2, h3⟩ := hr c
    refine ⟨(h0.trans (Cert.ReferenceIdeal.Read.val_main_v20_eq _ _ _)).trans ?_, h1, h2, h3⟩
    obtain ⟨hA, hB⟩ := Cert.KernelIdeal.Attn.pre_real _ _ _ (hpre c)
    choose A hA using hA
    choose B hB using hB
    rw [(hagree c).1, (hagree c).2.1, (hagree c).2.2]
    exact (Cert.KernelIdeal.Attn.final m c A B hA hB).symm

/-- The down projection: by blocks and of whole arrays the same array. -/
theorem down_algebraic : Cert.algebraic_KernelDownIdeal_ReferenceDownIdeal (hKernelDownIdeal := Cert.KernelDownIdeal.Gen.facts)
    (hReferenceDownIdeal := Cert.ReferenceDownIdeal.Gen.facts) := by
  pair_intro
  · run_from Cert.KernelDownIdeal.Gen.run_main m g
  · run_from Cert.ReferenceDownIdeal.Value.run m' g'
    rw [Cert.ReferenceDownIdeal.Read.val_main_v18_eq]
    rw [(hagree c).2.2.2]
    exact (Cert.KernelDownIdeal.CallValue.final m c).symm

/-- Its reference runs and keeps its arguments. -/
theorem down_reference : Cert.quiescent_ReferenceDownIdeal (hReferenceDownIdeal := Cert.ReferenceDownIdeal.Gen.facts) := by
  intro m g _
  exact (θ_run Cert.ReferenceDownIdeal.defs _ _).mono (fun r h => ⟨fun c => (h c).2, sem_eq_zero_of_no_sems (by decide) r.2⟩)
    (Cert.ReferenceDownIdeal.Value.run (F := Ideal) m g)

/-- The input projection: by blocks of heads and of whole matrices the same array. -/
theorem in_algebraic : Cert.algebraic_KernelInIdeal_ReferenceInIdeal (hKernelInIdeal := Cert.KernelInIdeal.Gen.facts)
    (hReferenceInIdeal := Cert.ReferenceInIdeal.Gen.facts) := by
  pair_intro
  · run_from Cert.KernelInIdeal.Gen.run_main m g
  · run_from Cert.ReferenceInIdeal.Value.run m' g'
    rw [Cert.ReferenceInIdeal.Read.val_main_v7_eq]
    exact (Cert.KernelInIdeal.CallValue.final_ref m c).symm

/-- Its reference runs and keeps its arguments. -/
theorem in_reference : Cert.quiescent_ReferenceInIdeal (hReferenceInIdeal := Cert.ReferenceInIdeal.Gen.facts) := by
  intro m g _
  exact (θ_run Cert.ReferenceInIdeal.defs _ _).mono (fun r h => ⟨fun c => (h c).2, sem_eq_zero_of_no_sems (by decide) r.2⟩)
    (Cert.ReferenceInIdeal.Value.run (F := Ideal) m g)

/-- The output projection: by blocks and of whole arrays the same array. -/
theorem out_algebraic : Cert.algebraic_KernelOutIdeal_ReferenceOutIdeal (hKernelOutIdeal := Cert.KernelOutIdeal.Gen.facts)
    (hReferenceOutIdeal := Cert.ReferenceOutIdeal.Gen.facts) := by
  pair_intro
  · run_from Cert.KernelOutIdeal.Gen.run_main m g
  · run_from Cert.ReferenceOutIdeal.Value.run m' g'
    rw [Cert.ReferenceOutIdeal.Read.val_main_v17_eq]
    rw [(hagree c).2.2.2.2]
    exact (Cert.KernelOutIdeal.CallValue.final m c).symm

/-- Its reference runs and keeps its arguments. -/
theorem out_reference : Cert.quiescent_ReferenceOutIdeal (hReferenceOutIdeal := Cert.ReferenceOutIdeal.Gen.facts) := by
  intro m g _
  exact (θ_run Cert.ReferenceOutIdeal.defs _ _).mono (fun r h => ⟨fun c => (h c).2, sem_eq_zero_of_no_sems (by decide) r.2⟩)
    (Cert.ReferenceOutIdeal.Value.run (F := Ideal) m g)

/-- The last norm over the first batch: by blocks and at once the same array. -/
theorem post_algebraic : Cert.algebraic_KernelPostIdeal_ReferencePostIdeal (hKernelPostIdeal := Cert.KernelPostIdeal.Gen.facts)
    (hReferencePostIdeal := Cert.ReferencePostIdeal.Gen.facts) := by
  pair_intro
  · run_from Cert.KernelPostIdeal.Gen.run_main m g
  · run_from Cert.ReferencePostIdeal.Value.run m' g'
    rw [Cert.ReferencePostIdeal.Read.val_main_v13_eq]
    exact (Cert.KernelPostIdeal.CallValue.final m c).symm

/-- Its reference runs and keeps its arguments. -/
theorem post_reference : Cert.quiescent_ReferencePostIdeal (hReferencePostIdeal := Cert.ReferencePostIdeal.Gen.facts) := by
  intro m g _
  exact (θ_run Cert.ReferencePostIdeal.defs _ _).mono (fun r h => ⟨fun c => (h c).2, sem_eq_zero_of_no_sems (by decide) r.2⟩)
    (Cert.ReferencePostIdeal.Value.run (F := Ideal) m g)

/-- The last norm over the second batch: by blocks and at once the same array. -/
theorem prompt_algebraic : Cert.algebraic_KernelPromptIdeal_ReferencePromptIdeal (hKernelPromptIdeal := Cert.KernelPromptIdeal.Gen.facts)
    (hReferencePromptIdeal := Cert.ReferencePromptIdeal.Gen.facts) := by
  pair_intro
  · run_from Cert.KernelPromptIdeal.Gen.run_main m g
  · run_from Cert.ReferencePromptIdeal.Value.run m' g'
    rw [Cert.ReferencePromptIdeal.Read.val_main_v13_eq]
    exact (Cert.KernelPromptIdeal.CallValue.final m c).symm

/-- Its reference runs and keeps its arguments. -/
theorem prompt_reference : Cert.quiescent_ReferencePromptIdeal (hReferencePromptIdeal := Cert.ReferencePromptIdeal.Gen.facts) := by
  intro m g _
  exact (θ_run Cert.ReferencePromptIdeal.defs _ _).mono (fun r h => ⟨fun c => (h c).2, sem_eq_zero_of_no_sems (by decide) r.2⟩)
    (Cert.ReferencePromptIdeal.Value.run (F := Ideal) m g)

/-- The first rows of the gated product and the rounded weights: by blocks and of whole arrays the same. -/
theorem up_first_algebraic : Cert.algebraic_KernelUpFirstIdeal_ReferenceUpFirstIdeal (hKernelUpFirstIdeal := Cert.KernelUpFirstIdeal.Gen.facts)
    (hReferenceUpFirstIdeal := Cert.ReferenceUpFirstIdeal.Gen.facts) := by
  pair_intro
  · run_from Cert.KernelUpFirstIdeal.Gen.run_main m g
  · refine (θ_run Cert.ReferenceUpFirstIdeal.defs _ _).mono (fun r hr c => ?_) (Cert.ReferenceUpFirstIdeal.Value.run (F := Ideal) m' g')
    obtain ⟨h0, h1, h3, hargs⟩ := hr c
    refine ⟨(h0.trans (Cert.ReferenceUpFirstIdeal.Read.val_main_v11_eq _ _ _)).trans ?_, (h1.trans (Cert.ReferenceUpFirstIdeal.Read.val_main_v2_eq _)).trans ?_,
      (h3.trans (Cert.ReferenceUpFirstIdeal.Read.val_main_v5_eq _)).trans ?_, hargs⟩
    · rw [(hagree c).1, (hagree c).2.1, (hagree c).2.2]
      exact (Cert.KernelUpFirstIdeal.CallValue.tail m c).symm
    · rw [(hagree c).2.1]
      exact (Cert.KernelUpFirstIdeal.CallValue.final1 m c).symm
    · rw [(hagree c).2.2]
      exact (Cert.KernelUpFirstIdeal.CallValue.final3 m c).symm

/-- Its reference runs and keeps its arguments. -/
theorem up_first_reference : Cert.quiescent_ReferenceUpFirstIdeal (hReferenceUpFirstIdeal := Cert.ReferenceUpFirstIdeal.Gen.facts) := by
  intro m g _
  exact (θ_run Cert.ReferenceUpFirstIdeal.defs _ _).mono (fun r h => ⟨fun c => (h c).2.2.2, sem_eq_zero_of_no_sems (by decide) r.2⟩)
    (Cert.ReferenceUpFirstIdeal.Value.run (F := Ideal) m g)

/-- The first rows of the input projection and the rounded weights: by blocks and of whole arrays the same. -/
theorem in_first_algebraic : Cert.algebraic_KernelInFirstIdeal_ReferenceInFirstIdeal (hKernelInFirstIdeal := Cert.KernelInFirstIdeal.Gen.facts)
    (hReferenceInFirstIdeal := Cert.ReferenceInFirstIdeal.Gen.facts) := by
  pair_intro
  · run_from Cert.KernelInFirstIdeal.Gen.run_main m g
  · refine (θ_run Cert.ReferenceInFirstIdeal.defs _ _).mono (fun r hr c => ?_) (Cert.ReferenceInFirstIdeal.Value.run (F := Ideal) m' g')
    obtain ⟨h0, h1, hargs⟩ := hr c
    refine ⟨(h0.trans (Cert.ReferenceInFirstIdeal.Read.val_main_v7_eq _ _)).trans ?_, (h1.trans (Cert.ReferenceInFirstIdeal.Read.val_main_v2_eq _)).trans ?_, hargs⟩
    · rw [(hagree c).1, (hagree c).2]
      exact (Cert.KernelInFirstIdeal.CallValue.tail m c).symm
    · rw [(hagree c).2]
      exact (Cert.KernelInFirstIdeal.CallValue.finalW m c).symm

/-- Its reference runs and keeps its arguments. -/
theorem in_first_reference : Cert.quiescent_ReferenceInFirstIdeal (hReferenceInFirstIdeal := Cert.ReferenceInFirstIdeal.Gen.facts) := by
  intro m g _
  exact (θ_run Cert.ReferenceInFirstIdeal.defs _ _).mono (fun r h => ⟨fun c => (h c).2.2, sem_eq_zero_of_no_sems (by decide) r.2⟩)
    (Cert.ReferenceInFirstIdeal.Value.run (F := Ideal) m g)

/-- The norm with shift and scale: by blocks and at once the same array. -/
theorem norm_algebraic : Cert.algebraic_KernelNormIdeal_ReferenceNormIdeal (hKernelNormIdeal := Cert.KernelNormIdeal.Gen.facts)
    (hReferenceNormIdeal := Cert.ReferenceNormIdeal.Gen.facts) := by
  pair_intro
  · run_from Cert.KernelNormIdeal.Gen.run_main m g
  · run_from Cert.ReferenceNormIdeal.Value.run m' g'
    rw [Cert.ReferenceNormIdeal.Read.val_main_v41_eq]
    rw [(hagree c).2.2]
    exact (Cert.KernelNormIdeal.CallValue.final m c).symm

/-- Its reference runs and keeps its arguments. -/
theorem norm_reference : Cert.quiescent_ReferenceNormIdeal (hReferenceNormIdeal := Cert.ReferenceNormIdeal.Gen.facts) := by
  intro m g _
  exact (θ_run Cert.ReferenceNormIdeal.defs _ _).mono (fun r h => ⟨fun c => (h c).2, sem_eq_zero_of_no_sems (by decide) r.2⟩)
    (Cert.ReferenceNormIdeal.Value.run (F := Ideal) m g)

/-- The last norm of a layer and the first of the next: by blocks and at once the same arrays. -/
theorem next_algebraic : Cert.algebraic_KernelNextIdeal_ReferenceNextIdeal (hKernelNextIdeal := Cert.KernelNextIdeal.Gen.facts)
    (hReferenceNextIdeal := Cert.ReferenceNextIdeal.Gen.facts) := by
  pair_intro
  · run_from Cert.KernelNextIdeal.Gen.run_main m g
  · refine (θ_run Cert.ReferenceNextIdeal.defs _ _).mono (fun r hr c => ?_) (Cert.ReferenceNextIdeal.Value.run (F := Ideal) m' g')
    obtain ⟨hx, hh, hargs⟩ := hr c
    refine ⟨(hx.trans (Cert.ReferenceNextIdeal.Read.val_main_v12_eq _ _)).trans ?_,
      (hh.trans (Cert.ReferenceNextIdeal.Read.val_main_v54_eq m' c)).trans ?_, hargs⟩
    · rw [(hagree c).1, (hagree c).2.1]
      exact (Cert.KernelNextIdeal.CallValue.finalX m c).symm
    · rw [(hagree c).1, (hagree c).2.1, (hagree c).2.2.1, (hagree c).2.2.2]
      exact (Cert.KernelNextIdeal.CallValue.finalH m c).symm

/-- Its reference runs and keeps its arguments. -/
theorem next_reference : Cert.quiescent_ReferenceNextIdeal (hReferenceNextIdeal := Cert.ReferenceNextIdeal.Gen.facts) := by
  intro m g _
  exact (θ_run Cert.ReferenceNextIdeal.defs _ _).mono (fun r h => ⟨fun c => (h c).2.2, sem_eq_zero_of_no_sems (by decide) r.2⟩)
    (Cert.ReferenceNextIdeal.Value.run (F := Ideal) m g)

/-- The modulation's two results agree. -/
theorem mod_algebraic : Cert.algebraic_KernelModIdeal_ReferenceModIdeal (hKernelModIdeal := Cert.KernelModIdeal.Gen.facts)
    (hReferenceModIdeal := Cert.ReferenceModIdeal.Gen.facts) := by
  pair_intro
  · run_from Cert.KernelModIdeal.Gen.run_main m g
  · run_from Cert.ReferenceModIdeal.Value.run m' g'
    rw [Cert.ReferenceModIdeal.Read.val_main_v7_eq]
    exact (Cert.KernelModIdeal.CallValue.final m c).symm

/-- The modulation's reference runs to its end. -/
theorem mod_reference : Cert.quiescent_ReferenceModIdeal (hReferenceModIdeal := Cert.ReferenceModIdeal.Gen.facts) := by
  intro m g _
  exact (θ_run Cert.ReferenceModIdeal.defs _ _).mono (fun r h => ⟨fun c => (h c).2, sem_eq_zero_of_no_sems (by decide) r.2⟩)
    (Cert.ReferenceModIdeal.Value.run (F := Ideal) m g)

theorem claim : Cert.Claim :=
  ⟨Cert.Kernel.Gen.facts, Cert.KernelIdeal.Gen.facts, Cert.ReferenceIdeal.Gen.facts, Cert.KernelUp.Gen.facts, Cert.KernelUpIdeal.Gen.facts,
    Cert.ReferenceUpIdeal.Gen.facts, Cert.KernelDown.Gen.facts, Cert.KernelDownIdeal.Gen.facts, Cert.ReferenceDownIdeal.Gen.facts,
    Cert.KernelIn.Gen.facts, Cert.KernelInIdeal.Gen.facts, Cert.ReferenceInIdeal.Gen.facts,
    Cert.KernelOut.Gen.facts, Cert.KernelOutIdeal.Gen.facts, Cert.ReferenceOutIdeal.Gen.facts,
    Cert.KernelPost.Gen.facts, Cert.KernelPostIdeal.Gen.facts, Cert.ReferencePostIdeal.Gen.facts,
    Cert.KernelPrompt.Gen.facts, Cert.KernelPromptIdeal.Gen.facts, Cert.ReferencePromptIdeal.Gen.facts,
    Cert.KernelUpFirst.Gen.facts, Cert.KernelUpFirstIdeal.Gen.facts, Cert.ReferenceUpFirstIdeal.Gen.facts,
    Cert.KernelInFirst.Gen.facts, Cert.KernelInFirstIdeal.Gen.facts, Cert.ReferenceInFirstIdeal.Gen.facts,
    Cert.KernelNorm.Gen.facts, Cert.KernelNormIdeal.Gen.facts, Cert.ReferenceNormIdeal.Gen.facts,
    Cert.KernelNext.Gen.facts, Cert.KernelNextIdeal.Gen.facts, Cert.ReferenceNextIdeal.Gen.facts,
    Cert.KernelMod.Gen.facts, Cert.KernelModIdeal.Gen.facts, Cert.ReferenceModIdeal.Gen.facts,
    Cert.Pre_finite_qk.Gen.facts,
    attn_kernel, fun m g _ => Cert.KernelIdeal.Attn.frame m g, fun m g _ => Cert.KernelIdeal.Attn.frame m g,
    attn_reference, fun m g _ => attn_reference m g trivial,
    fun m g _ => Cert.KernelUp.Gen.frame m g, fun m g _ => Cert.KernelUpIdeal.Gen.frame m g, up_reference,
    fun m g _ => Cert.KernelDown.Gen.frame m g, fun m g _ => Cert.KernelDownIdeal.Gen.frame m g, down_reference,
    fun m g _ => Cert.KernelIn.Gen.frame m g, fun m g _ => Cert.KernelInIdeal.Gen.frame m g, in_reference,
    fun m g _ => Cert.KernelOut.Gen.frame m g, fun m g _ => Cert.KernelOutIdeal.Gen.frame m g, out_reference,
    fun m g _ => Cert.KernelPost.Gen.frame m g, fun m g _ => Cert.KernelPostIdeal.Gen.frame m g, post_reference,
    fun m g _ => Cert.KernelPrompt.Gen.frame m g, fun m g _ => Cert.KernelPromptIdeal.Gen.frame m g, prompt_reference,
    fun m g _ => Cert.KernelUpFirst.Gen.frame m g, fun m g _ => Cert.KernelUpFirstIdeal.Gen.frame m g, up_first_reference,
    fun m g _ => Cert.KernelInFirst.Gen.frame m g, fun m g _ => Cert.KernelInFirstIdeal.Gen.frame m g, in_first_reference,
    fun m g _ => Cert.KernelNorm.Gen.frame m g, fun m g _ => Cert.KernelNormIdeal.Gen.frame m g, norm_reference,
    fun m g _ => Cert.KernelNext.Gen.frame m g, fun m g _ => Cert.KernelNextIdeal.Gen.frame m g, next_reference,
    fun m g _ => Cert.KernelMod.Gen.frame m g, fun m g _ => Cert.KernelModIdeal.Gen.frame m g, mod_reference,
    attn_preserves, attn_algebraic, trivial, up_algebraic, trivial, down_algebraic, trivial, in_algebraic, trivial, out_algebraic, trivial, post_algebraic, trivial, prompt_algebraic,
    trivial, up_first_algebraic, trivial, in_first_algebraic, trivial, norm_algebraic, trivial, next_algebraic, trivial, mod_algebraic⟩

end Cert.Proof

end
